-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 [hPre_planned : Cert.Pre_planned.Facts] (m : (ℓ : Loc Cert.Kernel2.nD Cert.Kernel2.τ Cert.Kernel2.sig) → Buf (Elt Bits) ℓ) : Prop :=
  ∀ c : Dev Cert.Kernel2.nD,
    (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).1 = (fun _ => 1#1)
    ∧ (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.1 = (fun _ => 1#1)
    ∧ (Cert.Pre_planned.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))).2.2 = (fun _ => 1#1)

def Pre_Kernel2Ideal [hPre_planned : Cert.Pre_planned.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_planned.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_planned [hPre_planned : Cert.Pre_planned.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_planned.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_planned : Cert.Pre_planned.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_planned [hReference2Ideal : Cert.Reference2Ideal.Facts] [hPre_planned : Cert.Pre_planned.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_planned m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_planned : Cert.Pre_planned.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v20_1)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v20_1) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v87) = v1 c
          ∧ r.2.mem ((c.tc : Thread Cert.Reference3Ideal.nD Cert.Reference3Ideal.τ).loc Cert.Reference3Ideal.main_v88) = v2 c
          ∧ r.2.mem ((c.tc : Thread Cert.Reference3Ideal.nD Cert.Reference3Ideal.τ).loc Cert.Reference3Ideal.main_v89) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_planned : Cert.Pre_planned.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_planned := hPre_planned)
    ∧ quiescent_Kernel2Ideal (hKernel2Ideal := hKernel2Ideal) (hPre_planned := hPre_planned)
    ∧ quiescent_Reference2Ideal (hReference2Ideal := hReference2Ideal)
    ∧ quiescent_Reference2Ideal_pre_planned (hReference2Ideal := hReference2Ideal) (hPre_planned := hPre_planned)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_planned := hPre_planned)
    ∧ preserves_Kernel3_Kernel3Ideal
    ∧ algebraic_Kernel3Ideal_Reference3Ideal (hKernel3Ideal := hKernel3Ideal) (hReference3Ideal := hReference3Ideal)
-- ==== Pre_finite.lean ====
abbrev S16x2048x512 : Shape := ⟨3, ![16, 2048, 512]⟩
abbrev S8x513 : Shape := ⟨2, ![8, 513]⟩
abbrev S512 : Shape := ⟨1, ![512]⟩
abbrev S_ : Shape := ⟨0, ![]⟩

class Facts : Prop where
  bcast_S_S16x2048x512 : S_.BroadcastsInDim S16x2048x512 (![] : Fin 0 → Fin S16x2048x512.rank)
  bcast_S_S8x513 : S_.BroadcastsInDim S8x513 (![] : Fin 0 → Fin S8x513.rank)

variable [Facts]

def fn {F : FTy → Type} [FloatOps F] (main_arg0 : FVec F S16x2048x512 .f32) (main_arg1 : FVec F S16x2048x512 .f32) (main_arg2 : FVec F S16x2048x512 .f32) (main_arg3 : FVec F S8x513 .f32) (main_arg4 : FVec F S512 .f32) : IVec S16x2048x512 1 × IVec S16x2048x512 1 × IVec S8x513 1 :=
  let main_v0 : FVec F S16x2048x512 .f32 := Host.absf main_arg0
  let main_cst : FVec F S_ .f32 := constant S_ .f32 0x7F800000#32
  let main_v1 : FVec F S16x2048x512 .f32 := broadcastInDim S16x2048x512 ![] bcast_S_S16x2048x512 main_cst
  let main_v2 : IVec S16x2048x512 1 := cmpf .olt main_v0 main_v1
  let main_v3 : FVec F S16x2048x512 .f32 := Host.absf main_arg1
  let main_cst_0 : FVec F S_ .f32 := constant S_ .f32 0x7F800000#32
  let main_v4 : FVec F S16x2048x512 .f32 := broadcastInDim S16x2048x512 ![] bcast_S_S16x2048x512 main_cst_0
  let main_v5 : IVec S16x2048x512 1 := cmpf .olt main_v3 main_v4
  let main_v6 : FVec F S8x513 .f32 := Host.absf main_arg3
  let main_cst_1 : FVec F S_ .f32 := constant S_ .f32 0x7F800000#32
  let main_v7 : FVec F S8x513 .f32 := broadcastInDim S8x513 ![] bcast_S_S8x513 main_cst_1
  let main_v8 : IVec S8x513 1 := cmpf .olt main_v6 main_v7
  (main_v2, main_v5, main_v8)
-- ==== Pre_planned.lean ====
abbrev S655 : Shape := ⟨1, ![655]⟩
abbrev S1 : Shape := ⟨1, ![1]⟩
abbrev S167680x1024 : Shape := ⟨2, ![167680, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S655 : S_.BroadcastsInDim S655 (![] : Fin 0 → Fin S655.rank)
  bcast_S_S1 : S_.BroadcastsInDim S1 (![] : Fin 0 → Fin S1.rank)

variable [Facts]

def fn {F : FTy → Type} [FloatOps F] (main_arg0 : IVec S655 32) (main_arg1 : IVec S1 32) (main_arg2 : FVec F S167680x1024 .f32) (main_arg3 : FVec F S32x1024x2048 .f32) (main_arg4 : FVec F S32x1x2048 .f32) (main_arg5 : FVec F S32x1024x1024 .f32) (main_arg6 : FVec F S32x1x1024 .f32) : IVec S655 1 × IVec S655 1 × IVec S1 1 :=
  let main_c : IVec S_ 32 := constantI S_ 32 0#32
  let main_v0 : IVec S655 32 := broadcastInDim S655 ![] bcast_S_S655 main_c
  let main_v1 : IVec S655 1 := cmpi .sge main_arg0 main_v0
  let main_c_0 : IVec S_ 32 := constantI S_ 32 32#32
  let main_v2 : IVec S655 32 := broadcastInDim S655 ![] bcast_S_S655 main_c_0
  let main_v3 : IVec S655 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  (main_v1, main_v3, main_v5)
-- ==== Kernel.lean ====
abbrev S16x2048x512 : Shape := ⟨3, ![16, 2048, 512]⟩
abbrev S8x513 : Shape := ⟨2, ![8, 513]⟩
abbrev S512 : Shape := ⟨1, ![512]⟩
abbrev S_ : Shape := ⟨0, ![]⟩
abbrev S8x1 : Shape := ⟨2, ![8, 1]⟩
abbrev S8x512 : Shape := ⟨2, ![8, 512]⟩
abbrev S8x511 : Shape := ⟨2, ![8, 511]⟩
abbrev S8x1024 : Shape := ⟨2, ![8, 1024]⟩
abbrev S8x1x1024 : Shape := ⟨3, ![8, 1, 1024]⟩
abbrev S3x8x256x768 : Shape := ⟨4, ![3, 8, 256, 768]⟩
abbrev S1x8x256x768 : Shape := ⟨4, ![1, 8, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x1x256x768 : Shape := ⟨4, ![1, 1, 256, 768]⟩
abbrev S1x512 : Shape := ⟨2, ![1, 512]⟩
abbrev S1x256x512 : Shape := ⟨3, ![1, 256, 512]⟩
abbrev S1x2048x512 : Shape := ⟨3, ![1, 2048, 512]⟩
abbrev S768x512 : Shape := ⟨2, ![768, 512]⟩
abbrev S1x64x512 : Shape := ⟨3, ![1, 64, 512]⟩
abbrev S64x512 : Shape := ⟨2, ![64, 512]⟩
abbrev S1x128 : Shape := ⟨2, ![1, 128]⟩
abbrev S1x256x128 : Shape := ⟨3, ![1, 256, 128]⟩
abbrev S256x128 : Shape := ⟨2, ![256, 128]⟩
abbrev S768x128 : Shape := ⟨2, ![768, 128]⟩
abbrev S256 : Shape := ⟨1, ![256]⟩
abbrev S256x1 : Shape := ⟨2, ![256, 1]⟩
abbrev S256x512 : Shape := ⟨2, ![256, 512]⟩

abbrev nBuf : Space → Nat
  | .hbm => 25
  | .vmem => 16
  | .smem => 0
  | _ => 0

abbrev bufTy : (tb : Table) → Fin (tcTables nBuf tb) → BufTy
  | .hbm, ⟨0, _⟩ => ⟨S16x2048x512, .f32⟩
  | .hbm, ⟨1, _⟩ => ⟨S16x2048x512, .f32⟩
  | .hbm, ⟨2, _⟩ => ⟨S16x2048x512, .f32⟩
  | .hbm, ⟨3, _⟩ => ⟨S8x513, .f32⟩
  | .hbm, ⟨4, _⟩ => ⟨S512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16x2048x512, .f32⟩
  | .hbm, ⟨10, _⟩ => ⟨S16x2048x512, .f32⟩
  | .hbm, ⟨11, _⟩ => ⟨S16x2048x512, .bf16⟩
  | .hbm, ⟨12, _⟩ => ⟨S16x2048x512, .bf16⟩
  | .hbm, ⟨13, _⟩ => ⟨S16x2048x512, .bf16⟩
  | .hbm, ⟨14, _⟩ => ⟨S8x1, .f32⟩
  | .hbm, ⟨15, _⟩ => ⟨S8x512, .f32⟩
  | .hbm, ⟨16, _⟩ => ⟨S8x511, .f32⟩
  | .hbm, ⟨17, _⟩ => ⟨S8x511, .f32⟩
  | .hbm, ⟨18, _⟩ => ⟨S_, .f32⟩
  | .hbm, ⟨19, _⟩ => ⟨S8x1, .f32⟩
  | .hbm, ⟨20, _⟩ => ⟨S8x1024, .f32⟩
  | .hbm, ⟨21, _⟩ => ⟨S8x1x1024, .f32⟩
  | .hbm, ⟨22, _⟩ => ⟨S3x8x256x768, .f32⟩
  | .hbm, ⟨23, _⟩ => ⟨S1x512, .f32⟩
  | .hbm, ⟨24, _⟩ => ⟨S16x2048x512, .bf16⟩
  | .local _ .vmem, ⟨0, _⟩ => ⟨S8x1x1024, .f32⟩
  | .local _ .vmem, ⟨1, _⟩ => ⟨S1x8x256x768, .f32⟩
  | .local _ .vmem, ⟨2, _⟩ => ⟨S1x8x256x768, .f32⟩
  | .local _ .vmem, ⟨3, _⟩ => ⟨S1x256x512, .bf16⟩
  | .local _ .vmem, ⟨4, _⟩ => ⟨S1x256x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x8x256x768, .f32⟩
  | .local _ .vmem, ⟨10, _⟩ => ⟨S1x8x256x768, .f32⟩
  | .local _ .vmem, ⟨11, _⟩ => ⟨S1x512, .f32⟩
  | .local _ .vmem, ⟨12, _⟩ => ⟨S1x256x512, .bf16⟩
  | .local _ .vmem, ⟨13, _⟩ => ⟨S1x256x512, .bf16⟩
  | .local _ .vmem, ⟨14, _⟩ => ⟨S768x512, .bf16⟩
  | .local _ .vmem, ⟨15, _⟩ => ⟨S768x512, .bf16⟩
  | _, _ => ⟨S16x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c4_i32 : BitVec 32 := 4#32
  let v0 : BitVec 32 := Scalar.muli arg1 c4_i32
  let c8_i32 : BitVec 32 := 8#32
  let v1 : BitVec 32 := Scalar.subi v0 c8_i32
  let c0_i32 : BitVec 32 := 0#32
  let v2 : BitVec 32 := Scalar.addi v1 c0_i32
  let c0_i32_0 : BitVec 32 := 0#32
  let v3 : BitVec 32 := Scalar.maxsi v2 c0_i32_0
  let c64_i32 : BitVec 32 := 64#32
  let v4 : BitVec 32 := Scalar.muli v3 c64_i32
  v4
def k1_off1 (i : grid1.Coords) (c0_i32 : BitVec 32) : Fin 3 → Nat :=
  let c0 : Index := 0#32
  let arg1 : BitVec 32 := BitVec.ofNat 32 (i 1).val
  let c4_i32 : BitVec 32 := 4#32
  let v0 : BitVec 32 := Scalar.muli arg1 c4_i32
  let c8_i32 : BitVec 32 := 8#32
  let v1 : BitVec 32 := Scalar.subi v0 c8_i32
  let v2 : BitVec 32 := Scalar.addi v1 c0_i32
  let c0_i32_0 : BitVec 32 := 0#32
  let v3 : BitVec 32 := Scalar.maxsi v2 c0_i32_0
  let c64_i32 : BitVec 32 := 64#32
  let v4 : BitVec 32 := Scalar.muli v3 c64_i32
  let v5 : BitVec 32 := v4
  let v6 : Index := Scalar.indexCast v5
  let c0_1 : Index := 0#32
  ![0, v6.toNat, 0]
def k1_mult2 (i : grid1.Coords) : BitVec 32 :=
  let arg1 : BitVec 32 := BitVec.ofNat 32 (i 1).val
  let c4_i32 : BitVec 32 := 4#32
  let v0 : BitVec 32 := Scalar.muli arg1 c4_i32
  let c8_i32_8 : BitVec 32 := 8#32
  let v18 : BitVec 32 := Scalar.subi v0 c8_i32_8
  let c1_i32 : BitVec 32 := 1#32
  let v19 : BitVec 32 := Scalar.addi v18 c1_i32
  let c0_i32_9 : BitVec 32 := 0#32
  let v20 : BitVec 32 := Scalar.maxsi v19 c0_i32_9
  let c64_i32_10 : BitVec 32 := 64#32
  let v21 : BitVec 32 := Scalar.muli v20 c64_i32_10
  v21
def k1_mult3 (i : grid1.Coords) : BitVec 32 :=
  let arg1 : BitVec 32 := BitVec.ofNat 32 (i 1).val
  let c4_i32 : BitVec 32 := 4#32
  let v0 : BitVec 32 := Scalar.muli arg1 c4_i32
  let c8_i32_18 : BitVec 32 := 8#32
  let v35 : BitVec 32 := Scalar.subi v0 c8_i32_18
  let c2_i32 : BitVec 32 := 2#32
  let v36 : BitVec 32 := Scalar.addi v35 c2_i32
  let c0_i32_19 : BitVec 32 := 0#32
  let v37 : BitVec 32 := Scalar.maxsi v36 c0_i32_19
  let c64_i32_20 : BitVec 32 := 64#32
  let v38 : BitVec 32 := Scalar.muli v37 c64_i32_20
  v38
def k1_mult4 (i : grid1.Coords) : BitVec 32 :=
  let arg1 : BitVec 32 := BitVec.ofNat 32 (i 1).val
  let c4_i32 : BitVec 32 := 4#32
  let v0 : BitVec 32 := Scalar.muli arg1 c4_i32
  let c8_i32_28 : BitVec 32 := 8#32
  let v52 : BitVec 32 := Scalar.subi v0 c8_i32_28
  let c3_i32 : BitVec 32 := 3#32
  let v53 : BitVec 32 := Scalar.addi v52 c3_i32
  let c0_i32_29 : BitVec 32 := 0#32
  let v54 : BitVec 32 := Scalar.maxsi v53 c0_i32_29
  let c64_i32_30 : BitVec 32 := 64#32
  let v55 : BitVec 32 := Scalar.muli v54 c64_i32_30
  v55
def k1_mult5 (i : grid1.Coords) : BitVec 32 :=
  let arg1 : BitVec 32 := BitVec.ofNat 32 (i 1).val
  let c4_i32 : BitVec 32 := 4#32
  let v0 : BitVec 32 := Scalar.muli arg1 c4_i32
  let c8_i32_38 : BitVec 32 := 8#32
  let v69 : BitVec 32 := Scalar.subi v0 c8_i32_38
  let c4_i32_39 : BitVec 32 := 4#32
  let v70 : BitVec 32 := Scalar.addi v69 c4_i32_39
  let c0_i32_40 : BitVec 32 := 0#32
  let v71 : BitVec 32 := Scalar.maxsi v70 c0_i32_40
  let c64_i32_41 : BitVec 32 := 64#32
  let v72 : BitVec 32 := Scalar.muli v71 c64_i32_41
  v72
def k1_mult6 (i : grid1.Coords) : BitVec 32 :=
  let arg1 : BitVec 32 := BitVec.ofNat 32 (i 1).val
  let c4_i32 : BitVec 32 := 4#32
  let v0 : BitVec 32 := Scalar.muli arg1 c4_i32
  let c8_i32_49 : BitVec 32 := 8#32
  let v86 : BitVec 32 := Scalar.subi v0 c8_i32_49
  let c5_i32 : BitVec 32 := 5#32
  let v87 : BitVec 32 := Scalar.addi v86 c5_i32
  let c0_i32_50 : BitVec 32 := 0#32
  let v88 : BitVec 32 := Scalar.maxsi v87 c0_i32_50
  let c64_i32_51 : BitVec 32 := 64#32
  let v89 : BitVec 32 := Scalar.muli v88 c64_i32_51
  v89
def k1_mult7 (i : grid1.Coords) : BitVec 32 :=
  let arg1 : BitVec 32 := BitVec.ofNat 32 (i 1).val
  let c4_i32 : BitVec 32 := 4#32
  let v0 : BitVec 32 := Scalar.muli arg1 c4_i32
  let c8_i32_59 : BitVec 32 := 8#32
  let v103 : BitVec 32 := Scalar.subi v0 c8_i32_59
  let c6_i32 : BitVec 32 := 6#32
  let v104 : BitVec 32 := Scalar.addi v103 c6_i32
  let c0_i32_60 : BitVec 32 := 0#32
  let v105 : BitVec 32 := Scalar.maxsi v104 c0_i32_60
  let c64_i32_61 : BitVec 32 := 64#32
  let v106 : BitVec 32 := Scalar.muli v105 c64_i32_61
  v106
def k1_mult8 (i : grid1.Coords) : BitVec 32 :=
  let arg1 : BitVec 32 := BitVec.ofNat 32 (i 1).val
  let c4_i32 : BitVec 32 := 4#32
  let v0 : BitVec 32 := Scalar.muli arg1 c4_i32
  let c8_i32_69 : BitVec 32 := 8#32
  let v120 : BitVec 32 := Scalar.subi v0 c8_i32_69
  let c7_i32 : BitVec 32 := 7#32
  let v121 : BitVec 32 := Scalar.addi v120 c7_i32
  let c0_i32_70 : BitVec 32 := 0#32
  let v122 : BitVec 32 := Scalar.maxsi v121 c0_i32_70
  let c64_i32_71 : BitVec 32 := 64#32
  let v123 : BitVec 32 := Scalar.muli v122 c64_i32_71
  v123
def k1_mult9 (i : grid1.Coords) : BitVec 32 :=
  let arg1 : BitVec 32 := BitVec.ofNat 32 (i 1).val
  let c4_i32 : BitVec 32 := 4#32
  let v0 : BitVec 32 := Scalar.muli arg1 c4_i32
  let c8_i32_79 : BitVec 32 := 8#32
  let v137 : BitVec 32 := Scalar.subi v0 c8_i32_79
  let c8_i32_80 : BitVec 32 := 8#32
  let v138 : BitVec 32 := Scalar.addi v137 c8_i32_80
  let c0_i32_81 : BitVec 32 := 0#32
  let v139 : BitVec 32 := Scalar.maxsi v138 c0_i32_81
  let c64_i32_82 : BitVec 32 := 64#32
  let v140 : BitVec 32 := Scalar.muli v139 c64_i32_82
  v140
def k1_mult10 (i : grid1.Coords) : BitVec 32 :=
  let arg1 : BitVec 32 := BitVec.ofNat 32 (i 1).val
  let c4_i32 : BitVec 32 := 4#32
  let v0 : BitVec 32 := Scalar.muli arg1 c4_i32
  let c8_i32_90 : BitVec 32 := 8#32
  let v154 : BitVec 32 := Scalar.subi v0 c8_i32_90
  let c9_i32 : BitVec 32 := 9#32
  let v155 : BitVec 32 := Scalar.addi v154 c9_i32
  let c0_i32_91 : BitVec 32 := 0#32
  let v156 : BitVec 32 := Scalar.maxsi v155 c0_i32_91
  let c64_i32_92 : BitVec 32 := 64#32
  let v157 : BitVec 32 := Scalar.muli v156 c64_i32_92
  v157
def k1_mult11 (i : grid1.Coords) : BitVec 32 :=
  let arg1 : BitVec 32 := BitVec.ofNat 32 (i 1).val
  let c4_i32 : BitVec 32 := 4#32
  let v0 : BitVec 32 := Scalar.muli arg1 c4_i32
  let c8_i32_100 : BitVec 32 := 8#32
  let v171 : BitVec 32 := Scalar.subi v0 c8_i32_100
  let c10_i32 : BitVec 32 := 10#32
  let v172 : BitVec 32 := Scalar.addi v171 c10_i32
  let c0_i32_101 : BitVec 32 := 0#32
  let v173 : BitVec 32 := Scalar.maxsi v172 c0_i32_101
  let c64_i32_102 : BitVec 32 := 64#32
  let v174 : BitVec 32 := Scalar.muli v173 c64_i32_102
  v174
def k1_mult12 (i : grid1.Coords) : BitVec 32 :=
  let arg1 : BitVec 32 := BitVec.ofNat 32 (i 1).val
  let c4_i32 : BitVec 32 := 4#32
  let v0 : BitVec 32 := Scalar.muli arg1 c4_i32
  let c8_i32_110 : BitVec 32 := 8#32
  let v188 : BitVec 32 := Scalar.subi v0 c8_i32_110
  let c11_i32 : BitVec 32 := 11#32
  let v189 : BitVec 32 := Scalar.addi v188 c11_i32
  let c0_i32_111 : BitVec 32 := 0#32
  let v190 : BitVec 32 := Scalar.maxsi v189 c0_i32_111
  let c64_i32_112 : BitVec 32 := 64#32
  let v191 : BitVec 32 := Scalar.muli v190 c64_i32_112
  v191
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | _ => none
-- ==== ReferenceIdeal.lean ====
abbrev S16x2048x512 : Shape := ⟨3, ![16, 2048, 512]⟩
abbrev S8x513 : Shape := ⟨2, ![8, 513]⟩
abbrev S512 : Shape := ⟨1, ![512]⟩
abbrev S16x32x64x8x64 : Shape := ⟨5, ![16, 32, 64, 8, 64]⟩
abbrev S_ : Shape := ⟨0, ![]⟩
abbrev S16x40x64x8x64 : Shape := ⟨5, ![16, 40, 64, 8, 64]⟩
abbrev S16x32x576x8x64 : Shape := ⟨5, ![16, 32, 576, 8, 64]⟩
abbrev S16x8x32x64x576 : Shape := ⟨5, ![16, 8, 32, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S1x8x1x64x576 : Shape := ⟨5, ![1, 8, 1, 64, 576]⟩
abbrev S32 : Shape := ⟨1, ![32]⟩
abbrev S32x1 : Shape := ⟨2, ![32, 1]⟩
abbrev S32x576 : Shape := ⟨2, ![32, 576]⟩
abbrev S1x1x32x1x576 : Shape := ⟨5, ![1, 1, 32, 1, 576]⟩
abbrev S16x8x32x64 : Shape := ⟨4, ![16, 8, 32, 64]⟩
abbrev S16x8x32x64x1 : Shape := ⟨5, ![16, 8, 32, 64, 1]⟩
abbrev S16x32x8x64x64 : Shape := ⟨5, ![16, 32, 8, 64, 64]⟩
abbrev S16x2048 : Shape := ⟨2, ![16, 2048]⟩
abbrev S16x2048x1 : Shape := ⟨3, ![16, 2048, 1]⟩
abbrev S1x1x512 : Shape := ⟨3, ![1, 1, 512]⟩

abbrev nBuf : Space → Nat
  | .hbm => 142
  | .vmem => 0
  | .smem => 0
  | _ => 0

abbrev hbmTy0_0 (i : Nat) : BufTy := match i % 128 with
  | 0 => ⟨S16x2048x512, .f32⟩
  | 1 => ⟨S16x2048x512, .f32⟩
  | 2 => ⟨S16x2048x512, .f32⟩
  | 3 => ⟨S8x513, .f32⟩
  | 4 => ⟨S512, .f32⟩
  | 5 => ⟨S16x32x64x8x64, .f32⟩
  | 6 => ⟨S16x32x64x8x64, .f32⟩
  | 7 => ⟨S16x32x64x8x64, .f32⟩
  | 8 => ⟨S_, .i32⟩
  | 9 => ⟨S_, .f32⟩
  | 10 => ⟨S16x40x64x8x64, .f32⟩
  | 11 => ⟨S_, .i32⟩
  | 12 => ⟨S_, .f32⟩
  | 13 => ⟨S16x40x64x8x64, .f32⟩
  | 14 => ⟨S16x32x64x8x64, .f32⟩
  | 15 => ⟨S16x32x64x8x64, .f32⟩
  | 16 => ⟨S16x32x64x8x64, .f32⟩
  | 17 => ⟨S16x32x64x8x64, .f32⟩
  | 18 => ⟨S16x32x64x8x64, .f32⟩
  | 19 => ⟨S16x32x64x8x64, .f32⟩
  | 20 => ⟨S16x32x64x8x64, .f32⟩
  | 21 => ⟨S16x32x64x8x64, .f32⟩
  | 22 => ⟨S16x32x64x8x64, .f32⟩
  | 23 => ⟨S16x32x576x8x64, .f32⟩
  | 24 => ⟨S16x32x64x8x64, .f32⟩
  | 25 => ⟨S16x32x64x8x64, .f32⟩
  | 26 => ⟨S16x32x64x8x64, .f32⟩
  | 27 => ⟨S16x32x64x8x64, .f32⟩
  | 28 => ⟨S16x32x64x8x64, .f32⟩
  | 29 => ⟨S16x32x64x8x64, .f32⟩
  | 30 => ⟨S16x32x64x8x64, .f32⟩
  | 31 => ⟨S16x32x64x8x64, .f32⟩
  | 32 => ⟨S16x32x64x8x64, .f32⟩
  | 33 => ⟨S16x32x576x8x64, .f32⟩
  | 34 => ⟨S16x8x32x64x576, .f32⟩
  | 35 => ⟨S_, .f32⟩
  | 36 => ⟨S16x8x32x64x576, .f32⟩
  | 37 => ⟨S16x8x32x64x576, .f32⟩
  | 38 => ⟨S64, .i32⟩
  | 39 => ⟨S64x1, .i32⟩
  | 40 => ⟨S_, .i32⟩
  | 41 => ⟨S64x1, .i32⟩
  | 42 => ⟨S64x1, .i32⟩
  | 43 => ⟨S576, .i32⟩
  | 44 => ⟨S1x576, .i32⟩
  | 45 => ⟨S64x576, .i32⟩
  | 46 => ⟨S64x576, .i32⟩
  | 47 => ⟨S64x576, .i32⟩
  | 48 => ⟨S_, .i32⟩
  | 49 => ⟨S_, .i32⟩
  | 50 => ⟨S_, .i32⟩
  | 51 => ⟨S64x576, .i32⟩
  | 52 => ⟨S64x576, .i32⟩
  | 53 => ⟨S_, .i32⟩
  | 54 => ⟨S64x576, .i32⟩
  | 55 => ⟨S64x576, .i32⟩
  | 56 => ⟨S_, .i32⟩
  | 57 => ⟨S64x576, .i32⟩
  | 58 => ⟨S64x576, .i32⟩
  | 59 => ⟨S_, .i32⟩
  | 60 => ⟨S64x576, .i32⟩
  | 61 => ⟨S64x576, .i1⟩
  | 62 => ⟨S_, .i32⟩
  | 63 => ⟨S64x576, .i32⟩
  | 64 => ⟨S64x576, .i32⟩
  | 65 => ⟨S64x576, .i32⟩
  | 66 => ⟨S64x576x1, .i32⟩
  | 67 => ⟨S8x64x576, .f32⟩
  | 68 => ⟨S1x8x1x64x576, .f32⟩
  | 69 => ⟨S16x8x32x64x576, .f32⟩
  | 70 => ⟨S16x8x32x64x576, .f32⟩
  | 71 => ⟨S32, .i32⟩
  | 72 => ⟨S32x1, .i32⟩
  | 73 => ⟨S_, .i32⟩
  | 74 => ⟨S32x1, .i32⟩
  | 75 => ⟨S32x1, .i32⟩
  | 76 => ⟨S576, .i32⟩
  | 77 => ⟨S1x576, .i32⟩
  | 78 => ⟨S_, .i32⟩
  | 79 => ⟨S_, .i32⟩
  | 80 => ⟨S1x576, .i32⟩
  | 81 => ⟨S1x576, .i32⟩
  | 82 => ⟨S1x576, .i32⟩
  | 83 => ⟨S_, .i32⟩
  | 84 => ⟨S1x576, .i32⟩
  | 85 => ⟨S1x576, .i1⟩
  | 86 => ⟨S1x576, .i32⟩
  | 87 => ⟨S1x576, .i32⟩
  | 88 => ⟨S_, .i32⟩
  | 89 => ⟨S1x576, .i32⟩
  | 90 => ⟨S1x576, .i1⟩
  | 91 => ⟨S1x576, .i1⟩
  | 92 => ⟨S_, .i32⟩
  | 93 => ⟨S1x576, .i32⟩
  | 94 => ⟨S1x576, .i32⟩
  | 95 => ⟨S1x576, .i32⟩
  | 96 => ⟨S32x576, .i32⟩
  | 97 => ⟨S32x576, .i32⟩
  | 98 => ⟨S32x576, .i32⟩
  | 99 => ⟨S_, .i32⟩
  | 100 => ⟨S32x576, .i32⟩
  | 101 => ⟨S32x576, .i1⟩
  | 102 => ⟨S1x1x32x1x576, .i1⟩
  | 103 => ⟨S_, .f32⟩
  | 104 => ⟨S_, .f32⟩
  | 105 => ⟨S16x8x32x64x576, .i1⟩
  | 106 => ⟨S16x8x32x64x576, .f32⟩
  | 107 => ⟨S16x8x32x64x576, .f32⟩
  | 108 => ⟨S_, .f32⟩
  | 109 => ⟨S16x8x32x64, .f32⟩
  | 110 => ⟨S_, .f32⟩
  | 111 => ⟨S16x8x32x64, .f32⟩
  | 112 => ⟨S16x8x32x64, .f32⟩
  | 113 => ⟨S16x8x32x64x1, .f32⟩
  | 114 => ⟨S16x8x32x64x576, .f32⟩
  | 115 => ⟨S16x8x32x64x576, .f32⟩
  | 116 => ⟨S16x8x32x64x576, .f32⟩
  | 117 => ⟨S_, .f32⟩
  | 118 => ⟨S16x8x32x64, .f32⟩
  | 119 => ⟨S16x8x32x64x1, .f32⟩
  | 120 => ⟨S16x8x32x64x576, .f32⟩
  | 121 => ⟨S16x8x32x64x576, .f32⟩
  | 122 => ⟨S16x32x8x64x64, .f32⟩
  | 123 => ⟨S16x32x64x8x64, .f32⟩
  | 124 => ⟨S16x2048x512, .f32⟩
  | 125 => ⟨S16x2048x512, .f32⟩
  | 126 => ⟨S_, .f32⟩
  | 127 => ⟨S16x2048, .f32⟩
  | _ => ⟨S16x2048x512, .f32⟩

abbrev hbmTy0_1 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S_, .f32⟩
  | 5 => ⟨S16x2048x1, .f32⟩
  | 6 => ⟨S16x2048x1, .f32⟩
  | 7 => ⟨S16x2048x1, .f32⟩
  | 8 => ⟨S16x2048x512, .f32⟩
  | 9 => ⟨S16x2048x512, .f32⟩
  | 10 => ⟨S1x1x512, .f32⟩
  | 11 => ⟨S16x2048x512, .f32⟩
  | 12 => ⟨S16x2048x512, .f32⟩
  | 13 => ⟨S16x2048x512, .bf16⟩
  | _ => ⟨S16x2048x512, .f32⟩

abbrev hbmTy (i : Nat) : BufTy := match i / 128 with
  | 0 => hbmTy0_0 i
  | 1 => hbmTy0_1 i
  | _ => ⟨S16x2048x512, .f32⟩

abbrev bufTy : (tb : Table) → Fin (tcTables nBuf tb) → BufTy
  | .hbm, ⟨i, _⟩ => hbmTy i
  | _, _ => ⟨S16x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_2 : Ref sig .tc := ⟨.hbm, 48, rfl⟩
abbrev main_c_3 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v37 : Ref sig .tc := ⟨.hbm, 55, rfl⟩
abbrev main_c_4 : Ref sig .tc := ⟨.hbm, 56, rfl⟩
abbrev main_v38 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_c_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_8 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_c : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_c_0 : Ref sig .tc := ⟨.hbm, 92, rfl⟩
abbrev main_call3_v12 : Ref sig .tc := ⟨.hbm, 93, rfl⟩
abbrev main_call3_v13 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_c_9 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_10 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v63 : Ref sig .tc := ⟨.hbm, 107, rfl⟩
abbrev main_cst_11 : Ref sig .tc := ⟨.hbm, 108, rfl⟩
abbrev main_v64 : Ref sig .tc := ⟨.hbm, 109, rfl⟩
abbrev main_cst_12 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_13 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_cst_14 : Ref sig .tc := ⟨.hbm, 126, rfl⟩
abbrev main_v79 : Ref sig .tc := ⟨.hbm, 127, rfl⟩
abbrev main_v80 : Ref sig .tc := ⟨.hbm, 128, rfl⟩
abbrev main_cst_15 : Ref sig .tc := ⟨.hbm, 129, rfl⟩
abbrev main_v81 : Ref sig .tc := ⟨.hbm, 130, rfl⟩
abbrev main_v82 : Ref sig .tc := ⟨.hbm, 131, rfl⟩
abbrev main_cst_16 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩

abbrev nD : Nat := 1
abbrev τ : Topo := Topo.v7x

variable {F : FTy → Type} [FloatOps F]
-- ==== Kernel2.lean ====
abbrev S655 : Shape := ⟨1, ![655]⟩
abbrev S1 : Shape := ⟨1, ![1]⟩
abbrev S167680x1024 : Shape := ⟨2, ![167680, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S1x128x2048 : Shape := ⟨3, ![1, 128, 2048]⟩
abbrev S128x2048 : Shape := ⟨2, ![128, 2048]⟩
abbrev S128x128 : Shape := ⟨2, ![128, 128]⟩
abbrev S1x128x1024 : Shape := ⟨3, ![1, 128, 1024]⟩
abbrev S128x1024 : Shape := ⟨2, ![128, 1024]⟩
abbrev S256x2048 : Shape := ⟨2, ![256, 2048]⟩
abbrev S1x2048 : Shape := ⟨2, ![1, 2048]⟩
abbrev S1x128 : Shape := ⟨2, ![1, 128]⟩
abbrev S256x128 : Shape := ⟨2, ![256, 128]⟩
abbrev S1x1024 : Shape := ⟨2, ![1, 1024]⟩

abbrev nBuf : Space → Nat
  | .hbm => 6
  | .vmem => 14
  | .smem => 2
  | _ => 0

abbrev bufTy : (tb : Table) → Fin (tcTables nBuf tb) → BufTy
  | .hbm, ⟨0, _⟩ => ⟨S167680x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S167680x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .vmem, ⟨12, _⟩ => ⟨S1024x2048, .bf16⟩
  | .local _ .vmem, ⟨13, _⟩ => ⟨S1024x1024, .bf16⟩
  | .local _ .smem, ⟨0, _⟩ => ⟨S655, .i32⟩
  | .local _ .smem, ⟨1, _⟩ => ⟨S1, .i32⟩
  | _, _ => ⟨S167680x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![655], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S655.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S655) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S655.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S655) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S655.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S655) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S655.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S655) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S655 : Shape := ⟨1, ![655]⟩
abbrev S1 : Shape := ⟨1, ![1]⟩
abbrev S167680x1024 : Shape := ⟨2, ![167680, 1024]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S655x256x1024 : Shape := ⟨3, ![655, 256, 1024]⟩
abbrev S655x1 : Shape := ⟨2, ![655, 1]⟩
abbrev S655x1024x2048 : Shape := ⟨3, ![655, 1024, 2048]⟩
abbrev S655x256x2048 : Shape := ⟨3, ![655, 256, 2048]⟩
abbrev S655x1x2048 : Shape := ⟨3, ![655, 1, 2048]⟩
abbrev S_ : Shape := ⟨0, ![]⟩
abbrev S655x1024x1024 : Shape := ⟨3, ![655, 1024, 1024]⟩
abbrev S655x1x1024 : Shape := ⟨3, ![655, 1, 1024]⟩
abbrev S655x1x1 : Shape := ⟨3, ![655, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S655, .i32⟩
  | .hbm, ⟨1, _⟩ => ⟨S1, .i32⟩
  | .hbm, ⟨2, _⟩ => ⟨S167680x1024, .f32⟩
  | .hbm, ⟨3, _⟩ => ⟨S32x1024x2048, .f32⟩
  | .hbm, ⟨4, _⟩ => ⟨S32x1x2048, .f32⟩
  | .hbm, ⟨5, _⟩ => ⟨S32x1024x1024, .f32⟩
  | .hbm, ⟨6, _⟩ => ⟨S32x1x1024, .f32⟩
  | .hbm, ⟨7, _⟩ => ⟨S655x256x1024, .f32⟩
  | .hbm, ⟨8, _⟩ => ⟨S655x1, .i32⟩
  | .hbm, ⟨9, _⟩ => ⟨S655x1024x2048, .f32⟩
  | .hbm, ⟨10, _⟩ => ⟨S655x256x2048, .f32⟩
  | .hbm, ⟨11, _⟩ => ⟨S655x1, .i32⟩
  | .hbm, ⟨12, _⟩ => ⟨S655x1x2048, .f32⟩
  | .hbm, ⟨13, _⟩ => ⟨S655x256x2048, .f32⟩
  | .hbm, ⟨14, _⟩ => ⟨S655x256x2048, .f32⟩
  | .hbm, ⟨15, _⟩ => ⟨S655x256x1024, .f32⟩
  | .hbm, ⟨16, _⟩ => ⟨S_, .f32⟩
  | .hbm, ⟨17, _⟩ => ⟨S655x256x1024, .f32⟩
  | .hbm, ⟨18, _⟩ => ⟨S655x256x1024, .f32⟩
  | .hbm, ⟨19, _⟩ => ⟨S655x256x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S655x256x1024, .f32⟩
  | .hbm, ⟨24, _⟩ => ⟨S655x256x1024, .f32⟩
  | .hbm, ⟨25, _⟩ => ⟨S_, .f32⟩
  | .hbm, ⟨26, _⟩ => ⟨S655x256x1024, .f32⟩
  | .hbm, ⟨27, _⟩ => ⟨S655x256x1024, .f32⟩
  | .hbm, ⟨28, _⟩ => ⟨S_, .f32⟩
  | .hbm, ⟨29, _⟩ => ⟨S655x256x1024, .f32⟩
  | .hbm, ⟨30, _⟩ => ⟨S655x256x1024, .f32⟩
  | .hbm, ⟨31, _⟩ => ⟨S655x256x1024, .f32⟩
  | .hbm, ⟨32, _⟩ => ⟨S655x256x1024, .f32⟩
  | .hbm, ⟨33, _⟩ => ⟨S_, .f32⟩
  | .hbm, ⟨34, _⟩ => ⟨S655x256x1024, .f32⟩
  | .hbm, ⟨35, _⟩ => ⟨S655x256x1024, .f32⟩
  | .hbm, ⟨36, _⟩ => ⟨S_, .f32⟩
  | .hbm, ⟨37, _⟩ => ⟨S655x256x1024, .f32⟩
  | .hbm, ⟨38, _⟩ => ⟨S655x256x1024, .f32⟩
  | .hbm, ⟨39, _⟩ => ⟨S655x256x1024, .f32⟩
  | .hbm, ⟨40, _⟩ => ⟨S_, .f32⟩
  | .hbm, ⟨41, _⟩ => ⟨S655x256x1024, .f32⟩
  | .hbm, ⟨42, _⟩ => ⟨S655x256x1024, .f32⟩
  | .hbm, ⟨43, _⟩ => ⟨S655x256x1024, .f32⟩
  | .hbm, ⟨44, _⟩ => ⟨S655x1, .i32⟩
  | .hbm, ⟨45, _⟩ => ⟨S655x1024x1024, .f32⟩
  | .hbm, ⟨46, _⟩ => ⟨S655x256x1024, .f32⟩
  | .hbm, ⟨47, _⟩ => ⟨S655x1, .i32⟩
  | .hbm, ⟨48, _⟩ => ⟨S655x1x1024, .f32⟩
  | .hbm, ⟨49, _⟩ => ⟨S655x256x1024, .f32⟩
  | .hbm, ⟨50, _⟩ => ⟨S655x256x1024, .f32⟩
  | .hbm, ⟨51, _⟩ => ⟨S655, .i32⟩
  | .hbm, ⟨52, _⟩ => ⟨S_, .i32⟩
  | .hbm, ⟨53, _⟩ => ⟨S655, .i32⟩
  | .hbm, ⟨54, _⟩ => ⟨S655, .i1⟩
  | .hbm, ⟨55, _⟩ => ⟨S655x1x1, .i1⟩
  | .hbm, ⟨56, _⟩ => ⟨S_, .f32⟩
  | .hbm, ⟨57, _⟩ => ⟨S_, .f32⟩
  | .hbm, ⟨58, _⟩ => ⟨S655x256x1024, .i1⟩
  | .hbm, ⟨59, _⟩ => ⟨S655x256x1024, .f32⟩
  | .hbm, ⟨60, _⟩ => ⟨S655x256x1024, .f32⟩
  | .hbm, ⟨61, _⟩ => ⟨S167680x1024, .f32⟩
  | _, _ => ⟨S655, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_cst_1 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_v0 : Ref sig .tc := ⟨.hbm, 44, rfl⟩
abbrev main_v23 : Ref sig .tc := ⟨.hbm, 45, rfl⟩
abbrev main_v24 : Ref sig .tc := ⟨.hbm, 46, rfl⟩
abbrev main_call4_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_6 : Ref sig .tc := ⟨.hbm, 56, rfl⟩
abbrev main_call5_v0 : Ref sig .tc := ⟨.hbm, 57, rfl⟩
abbrev main_call5_v1 : Ref sig .tc := ⟨.hbm, 58, rfl⟩
abbrev main_call5_v2 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S3x512 : Shape := ⟨2, ![3, 512]⟩
abbrev S512 : Shape := ⟨1, ![512]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S1x512 : Shape := ⟨2, ![1, 512]⟩
abbrev S16x2048x512 : Shape := ⟨3, ![16, 2048, 512]⟩
abbrev S1x1024x1024 : Shape := ⟨3, ![1, 1024, 1024]⟩
abbrev S1x1024x512 : Shape := ⟨3, ![1, 1024, 512]⟩
abbrev S1032x512 : Shape := ⟨2, ![1032, 512]⟩
abbrev S8x512 : Shape := ⟨2, ![8, 512]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 38
  | .vmem => 18
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S512, .f32⟩
  | .hbm, ⟨7, _⟩ => ⟨S8x8, .i32⟩
  | .hbm, ⟨8, _⟩ => ⟨S8x8, .i32⟩
  | .hbm, ⟨9, _⟩ => ⟨S_, .i32⟩
  | .hbm, ⟨10, _⟩ => ⟨S8x8, .i32⟩
  | .hbm, ⟨11, _⟩ => ⟨S8x8, .i32⟩
  | .hbm, ⟨12, _⟩ => ⟨S8x8, .i1⟩
  | .hbm, ⟨13, _⟩ => ⟨S8x8, .f32⟩
  | .hbm, ⟨14, _⟩ => ⟨S_, .f32⟩
  | .hbm, ⟨15, _⟩ => ⟨S64x64, .f32⟩
  | .hbm, ⟨16, _⟩ => ⟨S8x1x8x1, .f32⟩
  | .hbm, ⟨17, _⟩ => ⟨S1x64x1x64, .f32⟩
  | .hbm, ⟨18, _⟩ => ⟨S8x64x8x64, .f32⟩
  | .hbm, ⟨19, _⟩ => ⟨S8x64x8x64, .f32⟩
  | .hbm, ⟨20, _⟩ => ⟨S8x64x8x64, .f32⟩
  | .hbm, ⟨21, _⟩ => ⟨S512x512, .f32⟩
  | .hbm, ⟨22, _⟩ => ⟨S512x512, .bf16⟩
  | .hbm, ⟨23, _⟩ => ⟨S1x1024, .f32⟩
  | .hbm, ⟨24, _⟩ => ⟨S1024x3072, .bf16⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x64, .f32⟩
  | .hbm, ⟨30, _⟩ => ⟨S8x64, .f32⟩
  | .hbm, ⟨31, _⟩ => ⟨S512, .f32⟩
  | .hbm, ⟨32, _⟩ => ⟨S1x512, .f32⟩
  | .hbm, ⟨33, _⟩ => ⟨S1x512, .f32⟩
  | .hbm, ⟨34, _⟩ => ⟨S16x2048x512, .bf16⟩
  | .hbm, ⟨35, _⟩ => ⟨S16x2048x512, .bf16⟩
  | .hbm, ⟨36, _⟩ => ⟨S16x2048x512, .bf16⟩
  | .hbm, ⟨37, _⟩ => ⟨S16x2048x512, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S3x512, .f32⟩
  | .local _ .vmem, ⟨8, _⟩ => ⟨S1x512, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1032x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev main_v20_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference3Ideal.lean ====
abbrev S16x2048x1024 : Shape := ⟨3, ![16, 2048, 1024]⟩
abbrev S1024 : Shape := ⟨1, ![1024]⟩
abbrev S1024x3072 : Shape := ⟨2, ![1024, 3072]⟩
abbrev S64 : Shape := ⟨1, ![64]⟩
abbrev S3x512 : Shape := ⟨2, ![3, 512]⟩
abbrev S512 : Shape := ⟨1, ![512]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x512 : Shape := ⟨3, ![16, 2048, 512]⟩
abbrev S16x2048x8x64 : Shape := ⟨4, ![16, 2048, 8, 64]⟩
abbrev S16x2048x8 : Shape := ⟨3, ![16, 2048, 8]⟩
abbrev S16x2048x8x1 : Shape := ⟨4, ![16, 2048, 8, 1]⟩
abbrev S1x1x1x64 : Shape := ⟨4, ![1, 1, 1, 64]⟩
abbrev S16x2050x512 : Shape := ⟨3, ![16, 2050, 512]⟩
abbrev S1x512 : Shape := ⟨2, ![1, 512]⟩
abbrev S1x1x512 : Shape := ⟨3, ![1, 1, 512]⟩

abbrev nBuf : Space → Nat
  | .hbm => 111
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S64, .f32⟩
  | .hbm, ⟨4, _⟩ => ⟨S64, .f32⟩
  | .hbm, ⟨5, _⟩ => ⟨S3x512, .f32⟩
  | .hbm, ⟨6, _⟩ => ⟨S512, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x3072, .f32⟩
  | .hbm, ⟨24, _⟩ => ⟨S16x2048x512, .f32⟩
  | .hbm, ⟨25, _⟩ => ⟨S16x2048x512, .f32⟩
  | .hbm, ⟨26, _⟩ => ⟨S16x2048x512, .f32⟩
  | .hbm, ⟨27, _⟩ => ⟨S16x2048x512, .f32⟩
  | .hbm, ⟨28, _⟩ => ⟨S16x2048x512, .f32⟩
  | .hbm, ⟨29, _⟩ => ⟨S16x2048x512, .f32⟩
  | .hbm, ⟨30, _⟩ => ⟨S16x2048x8x64, .f32⟩
  | .hbm, ⟨31, _⟩ => ⟨S16x2048x8x64, .f32⟩
  | .hbm, ⟨32, _⟩ => ⟨S_, .f32⟩
  | .hbm, ⟨33, _⟩ => ⟨S16x2048x8, .f32⟩
  | .hbm, ⟨34, _⟩ => ⟨S16x2048x8x1, .f32⟩
  | .hbm, ⟨35, _⟩ => ⟨S_, .f32⟩
  | .hbm, ⟨36, _⟩ => ⟨S16x2048x8x1, .f32⟩
  | .hbm, ⟨37, _⟩ => ⟨S16x2048x8x1, .f32⟩
  | .hbm, ⟨38, _⟩ => ⟨S_, .f32⟩
  | .hbm, ⟨39, _⟩ => ⟨S16x2048x8x1, .f32⟩
  | .hbm, ⟨40, _⟩ => ⟨S16x2048x8x1, .f32⟩
  | .hbm, ⟨41, _⟩ => ⟨S16x2048x8x1, .f32⟩
  | .hbm, ⟨42, _⟩ => ⟨S16x2048x8x64, .f32⟩
  | .hbm, ⟨43, _⟩ => ⟨S16x2048x8x64, .f32⟩
  | .hbm, ⟨44, _⟩ => ⟨S1x1x1x64, .f32⟩
  | .hbm, ⟨45, _⟩ => ⟨S16x2048x8x64, .f32⟩
  | .hbm, ⟨46, _⟩ => ⟨S16x2048x8x64, .f32⟩
  | .hbm, ⟨47, _⟩ => ⟨S16x2048x8x64, .f32⟩
  | .hbm, ⟨48, _⟩ => ⟨S16x2048x8x64, .f32⟩
  | .hbm, ⟨49, _⟩ => ⟨S_, .f32⟩
  | .hbm, ⟨50, _⟩ => ⟨S16x2048x8, .f32⟩
  | .hbm, ⟨51, _⟩ => ⟨S16x2048x8x1, .f32⟩
  | .hbm, ⟨52, _⟩ => ⟨S_, .f32⟩
  | .hbm, ⟨53, _⟩ => ⟨S16x2048x8x1, .f32⟩
  | .hbm, ⟨54, _⟩ => ⟨S16x2048x8x1, .f32⟩
  | .hbm, ⟨55, _⟩ => ⟨S_, .f32⟩
  | .hbm, ⟨56, _⟩ => ⟨S16x2048x8x1, .f32⟩
  | .hbm, ⟨57, _⟩ => ⟨S16x2048x8x1, .f32⟩
  | .hbm, ⟨58, _⟩ => ⟨S16x2048x8x1, .f32⟩
  | .hbm, ⟨59, _⟩ => ⟨S16x2048x8x64, .f32⟩
  | .hbm, ⟨60, _⟩ => ⟨S16x2048x8x64, .f32⟩
  | .hbm, ⟨61, _⟩ => ⟨S1x1x1x64, .f32⟩
  | .hbm, ⟨62, _⟩ => ⟨S16x2048x8x64, .f32⟩
  | .hbm, ⟨63, _⟩ => ⟨S16x2048x8x64, .f32⟩
  | .hbm, ⟨64, _⟩ => ⟨S16x2048x512, .f32⟩
  | .hbm, ⟨65, _⟩ => ⟨S_, .i32⟩
  | .hbm, ⟨66, _⟩ => ⟨S_, .f32⟩
  | .hbm, ⟨67, _⟩ => ⟨S16x2050x512, .f32⟩
  | .hbm, ⟨68, _⟩ => ⟨S1x512, .f32⟩
  | .hbm, ⟨69, _⟩ => ⟨S512, .f32⟩
  | .hbm, ⟨70, _⟩ => ⟨S16x2048x512, .f32⟩
  | .hbm, ⟨71, _⟩ => ⟨S1x1x512, .f32⟩
  | .hbm, ⟨72, _⟩ => ⟨S16x2048x512, .f32⟩
  | .hbm, ⟨73, _⟩ => ⟨S16x2048x512, .f32⟩
  | .hbm, ⟨74, _⟩ => ⟨S1x512, .f32⟩
  | .hbm, ⟨75, _⟩ => ⟨S512, .f32⟩
  | .hbm, ⟨76, _⟩ => ⟨S16x2048x512, .f32⟩
  | .hbm, ⟨77, _⟩ => ⟨S1x1x512, .f32⟩
  | .hbm, ⟨78, _⟩ => ⟨S16x2048x512, .f32⟩
  | .hbm, ⟨79, _⟩ => ⟨S16x2048x512, .f32⟩
  | .hbm, ⟨80, _⟩ => ⟨S16x2048x512, .f32⟩
  | .hbm, ⟨81, _⟩ => ⟨S1x512, .f32⟩
  | .hbm, ⟨82, _⟩ => ⟨S512, .f32⟩
  | .hbm, ⟨83, _⟩ => ⟨S16x2048x512, .f32⟩
  | .hbm, ⟨84, _⟩ => ⟨S1x1x512, .f32⟩
  | .hbm, ⟨85, _⟩ => ⟨S16x2048x512, .f32⟩
  | .hbm, ⟨86, _⟩ => ⟨S16x2048x512, .f32⟩
  | .hbm, ⟨87, _⟩ => ⟨S16x2048x512, .f32⟩
  | .hbm, ⟨88, _⟩ => ⟨S16x2048x512, .f32⟩
  | .hbm, ⟨89, _⟩ => ⟨S16x2048x512, .f32⟩
  | .hbm, ⟨90, _⟩ => ⟨S_, .f32⟩
  | .hbm, ⟨91, _⟩ => ⟨S16x2048, .f32⟩
  | .hbm, ⟨92, _⟩ => ⟨S16x2048x1, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S_, .f32⟩
  | .hbm, ⟨97, _⟩ => ⟨S16x2048x1, .f32⟩
  | .hbm, ⟨98, _⟩ => ⟨S16x2048x1, .f32⟩
  | .hbm, ⟨99, _⟩ => ⟨S16x2048x1, .f32⟩
  | .hbm, ⟨100, _⟩ => ⟨S16x2048x512, .f32⟩
  | .hbm, ⟨101, _⟩ => ⟨S16x2048x512, .f32⟩
  | .hbm, ⟨102, _⟩ => ⟨S1x1x512, .f32⟩
  | .hbm, ⟨103, _⟩ => ⟨S16x2048x512, .f32⟩
  | .hbm, ⟨104, _⟩ => ⟨S16x2048x512, .f32⟩
  | .hbm, ⟨105, _⟩ => ⟨S16x2048x512, .f32⟩
  | .hbm, ⟨106, _⟩ => ⟨S16x2048x512, .bf16⟩
  | .hbm, ⟨107, _⟩ => ⟨S16x2048x512, .f32⟩
  | .hbm, ⟨108, _⟩ => ⟨S16x2048x512, .bf16⟩
  | .hbm, ⟨109, _⟩ => ⟨S16x2048x512, .bf16⟩
  | .hbm, ⟨110, _⟩ => ⟨S16x2048x512, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c : Ref sig .tc := ⟨.hbm, 65, rfl⟩
abbrev main_call0_v0 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_8 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_cst_10 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩

abbrev nD : Nat := 1
abbrev τ : Topo := Topo.v7x

variable {F : FTy → Type} [FloatOps F]
-- ==== Proof.KernelRun.lean ====
/- The run of the idealized attention program with its result array named: the two regions' segments that the frame is
   built of, read at the result as well as at the arguments. -/
module

public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer that is not scoped ends at what the last segment leaves in it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- Every device's result array ends at what the attention region's write-backs leave, and the arguments end unchanged. -/
theorem run_main : θ_run defs (onTc (τ := τ) (main (F := F))) ⟨m, fun _ => 0, ρ⟩ (fun r => ∀ c : Dev nD,
      r.2.mem ((c.tc : Thread nD τ).loc main_v16) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v16 (by decide))).trans (W4_arr m ρ c 5),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run_all m ρ)

end Cert.KernelIdeal.Attn
-- ==== Proof.ExpertBody.lean ====
/- The expert kernel's body, run once per control path, on any tables and any float values. -/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The two tables the kernel is handed, and its two scratch arrays, whole. -/
abbrev tbM0_0 : Memref sig .tc .smem S655 .i32 := Memref.whole main_arg0
abbrev tbM0_1 : Memref sig .tc .smem S1 .i32 := Memref.whole main_arg1
abbrev scM0_0 : Memref sig .tc .vmem S1024x2048 .bf16 := Memref.whole cc0_scratch0
abbrev scM0_1 : Memref sig .tc .vmem S1024x1024 .bf16 := Memref.whole cc0_scratch1

/-! ## The body on each of its three paths -/

/-- A buffer of the output's window, through which its contents are stated. -/
abbrev VO0_5 : View sig .tc .vmem S256x1024 .f32 := (Memref.whole cc0_stg5_0 : Memref sig .tc .vmem S256x1024 .f32).view

set_option backward.proofsInPublic true in
set_option maxHeartbeats 8000000 in
/-- A block in use whose expert is not the one before's: the weights are copied into the scratches. What the body leaves (the pieces written
    to the output's buffer, the scratches' contents) together with the proof that, from buffers holding the blocks, from the
    tables and the scratches (0: written whole, 1: written whole), and under the branches' conditions, the body runs to the end and leaves that. -/
noncomputable def kernelRun0_A (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    Σ' (out0 : List (View.Piece (Elt F) S256x1024 .f32)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_expert_mlp i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_expert_mlp_eq_skeleton]; unfold cc0_expert_mlp_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = Scalar.cmpi = _; exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The pieces written there cover the output's block. -/
theorem cover0_A_5 (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1) (k0_h3 : ¬(k0_cond3 i (View.readAt (Elt F) (tbM0_1).view (Rect.unit (s := S1) ![0] S1.size inb_S1_S1_0).toLoadRect T1 (Shape.Idx.first (numel1_S1.symm ▸ Nat.one_pos))) = 1#1)) (y : S256x1024.Idx) :
    ∃ pc ∈ (kernelRun0_A c i arg3 harg3 arg4 harg4 arg5 harg5 arg6 harg6 arg7 harg7 arg8 harg8 T0 T1 x0 x1 x2 x3 x4 k0_h1 hc1 k0_h3).1, y ∈ pc.1.set :=
  View.cover_of_tiledL (kernelRun0_A c i arg3 harg3 arg4 harg4 arg5 harg5 arg6 harg6 arg7 harg7 arg8 harg8 T0 T1 x0 x1 x2 x3 x4 k0_h1 hc1 k0_h3).1 S256x1024.size (by sl_kernel_rfl) y

/-- What the output's buffer then holds. -/
def out0_A_5 (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1) (k0_h3 : ¬(k0_cond3 i (View.readAt (Elt F) (tbM0_1).view (Rect.unit (s := S1) ![0] S1.size inb_S1_S1_0).toLoadRect T1 (Shape.Idx.first (numel1_S1.symm ▸ Nat.one_pos))) = 1#1)) : (S256x1024.Idx → Elt F .f32) :=
  VO0_5.read (Elt F) (VO0_5.writes (Elt F) VO0_5.junk (kernelRun0_A c i arg3 harg3 arg4 harg4 arg5 harg5 arg6 harg6 arg7 harg7 arg8 harg8 T0 T1 x0 x1 x2 x3 x4 k0_h1 hc1 k0_h3).1)

set_option backward.proofsInPublic true in
set_option maxHeartbeats 8000000 in
/-- A block in use whose expert is the one before's: the scratches are kept. What the body leaves (the pieces written
    to the output's buffer, the scratches' contents) together with the proof that, from buffers holding the blocks, from the
    tables and the scratches (0: kept, 1: kept), and under the branches' conditions, the body runs to the end and leaves that. -/
noncomputable def kernelRun0_B (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1)) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    Σ' (out0 : List (View.Piece (Elt F) S256x1024 .f32)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_expert_mlp i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun K => by
    unfold owns
    rw [cc0_expert_mlp_eq_skeleton]; unfold cc0_expert_mlp_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = k0_cond1 _ _ = _; exact k0_h1) | (guard_target = ¬(Scalar.cmpi = _); exact hc1) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The pieces written there cover the output's block. -/
theorem cover0_B_5 (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1)) (k0_h3 : ¬(k0_cond3 i (View.readAt (Elt F) (tbM0_1).view (Rect.unit (s := S1) ![0] S1.size inb_S1_S1_0).toLoadRect T1 (Shape.Idx.first (numel1_S1.symm ▸ Nat.one_pos))) = 1#1)) (y : S256x1024.Idx) :
    ∃ pc ∈ (kernelRun0_B c i arg3 harg3 arg4 harg4 arg5 harg5 arg6 harg6 arg7 harg7 arg8 harg8 T0 T1 x0 x1 x2 x3 x4 xa0 xa1 k0_h1 hc1 k0_h3).1, y ∈ pc.1.set :=
  View.cover_of_tiledL (kernelRun0_B c i arg3 harg3 arg4 harg4 arg5 harg5 arg6 harg6 arg7 harg7 arg8 harg8 T0 T1 x0 x1 x2 x3 x4 xa0 xa1 k0_h1 hc1 k0_h3).1 S256x1024.size (by sl_kernel_rfl) y

/-- What the output's buffer then holds. -/
def out0_B_5 (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1)) (k0_h3 : ¬(k0_cond3 i (View.readAt (Elt F) (tbM0_1).view (Rect.unit (s := S1) ![0] S1.size inb_S1_S1_0).toLoadRect T1 (Shape.Idx.first (numel1_S1.symm ▸ Nat.one_pos))) = 1#1)) : (S256x1024.Idx → Elt F .f32) :=
  VO0_5.read (Elt F) (VO0_5.writes (Elt F) VO0_5.junk (kernelRun0_B c i arg3 harg3 arg4 harg4 arg5 harg5 arg6 harg6 arg7 harg7 arg8 harg8 T0 T1 x0 x1 x2 x3 x4 xa0 xa1 k0_h1 hc1 k0_h3).1)

set_option backward.proofsInPublic true in
set_option maxHeartbeats 8000000 in
/-- A block that is not in use: zeros are written. What the body leaves (the pieces written
    to the output's buffer, the scratches' contents) together with the proof that, from buffers holding the blocks, from the
    tables and the scratches (0: any, 1: any), and under the branches' conditions, the body runs to the end and leaves that. -/
noncomputable def kernelRun0_C (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h3 : k0_cond3 i (View.readAt (Elt F) (tbM0_1).view (Rect.unit (s := S1) ![0] S1.size inb_S1_S1_0).toLoadRect T1 (Shape.Idx.first (numel1_S1.symm ▸ Nat.one_pos))) = 1#1) :
    Σ' (out0 : List (View.Piece (Elt F) S256x1024 .f32)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (scM0_0.view.loc (c : Thread nD τ) ↦{fullShare} xa0)
          ∗ (scM0_1.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tbM0_0.view.loc (c : Thread nD τ) ↦{fullShare.right} T0)
              ∗ (tbM0_1.view.loc (c : Thread nD τ) ↦{fullShare.right} T1)
              ∗ (∃ f, arg8.view.loc (c : Thread nD τ) ↦[arg8.view.set]{fullShare} arg8.view.writes (Elt F) f out0)
              ∗ (scM0_0.view.loc (c : Thread nD τ) ↦{fullShare} out1)
              ∗ (scM0_1.view.loc (c : Thread nD τ) ↦{fullShare} out2)) -∗ K ⟨⟩))
          ⊢ wp frame (wpE (defs₀ (F := F)) Variants.none c none) Set.univ (cc0_expert_mlp i tbM0_0 (Memref.isWhole_whole _) tbM0_1 (Memref.isWhole_whole _) arg3 harg3 arg4 harg4 arg5 harg5 arg6 harg6 arg7 harg7 arg8 harg8 scM0_0 (Memref.isWhole_whole _) scM0_1 (Memref.isWhole_whole _)) K } :=
  ⟨_, _, _, fun K => by
    unfold owns
    rw [cc0_expert_mlp_eq_skeleton]; unfold cc0_expert_mlp_skel
    iintro ⟨H0, H1, H2, H3, H4, HT0, HT1, ⟨%d5, %f5, -, HO5⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(k0_cond1 _ _ = _); exact k0_h1) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The pieces written there cover the output's block. -/
theorem cover0_C_5 (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h3 : k0_cond3 i (View.readAt (Elt F) (tbM0_1).view (Rect.unit (s := S1) ![0] S1.size inb_S1_S1_0).toLoadRect T1 (Shape.Idx.first (numel1_S1.symm ▸ Nat.one_pos))) = 1#1) (y : S256x1024.Idx) :
    ∃ pc ∈ (kernelRun0_C c i arg3 harg3 arg4 harg4 arg5 harg5 arg6 harg6 arg7 harg7 arg8 harg8 T0 T1 x0 x1 x2 x3 x4 xa0 xa1 k0_h1 k0_h3).1, y ∈ pc.1.set :=
  View.cover_of_tiledL (kernelRun0_C c i arg3 harg3 arg4 harg4 arg5 harg5 arg6 harg6 arg7 harg7 arg8 harg8 T0 T1 x0 x1 x2 x3 x4 xa0 xa1 k0_h1 k0_h3).1 S256x1024.size (by sl_kernel_rfl) y

/-- What the output's buffer then holds. -/
def out0_C_5 (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h3 : k0_cond3 i (View.readAt (Elt F) (tbM0_1).view (Rect.unit (s := S1) ![0] S1.size inb_S1_S1_0).toLoadRect T1 (Shape.Idx.first (numel1_S1.symm ▸ Nat.one_pos))) = 1#1) : (S256x1024.Idx → Elt F .f32) :=
  VO0_5.read (Elt F) (VO0_5.writes (Elt F) VO0_5.junk (kernelRun0_C c i arg3 harg3 arg4 harg4 arg5 harg5 arg6 harg6 arg7 harg7 arg8 harg8 T0 T1 x0 x1 x2 x3 x4 xa0 xa1 k0_h1 k0_h3).1)

end Cert.Expert

end
-- ==== Proof.ExpertTables.lean ====
/- The expert kernel's tables: each block's expert and the number of blocks in use, and what they decide at a grid point. -/
module

public import proofs.«01_k».proof.Proof.ExpertBody
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The contents of the two tables: each block's expert, below 32, and the number of blocks in use, at least one. -/
structure Tables (F : FTy → Type) where
  be : S655.Idx → Elt F .i32
  nu : S1.Idx → Elt F .i32
  be_lt : ∀ x, BitVec.toNat (be x) < 32
  nu_pos : ∀ x, 1 ≤ BitVec.toNat (nu x)
  nu_lt : ∀ x, BitVec.toNat (nu x) < 2 ^ 31

/-- The tables as the launch hands them to the kernel. -/
def pfN (T : Tables F) : pre0.Contents (Elt F) := fun | ⟨0, _⟩ => T.be | ⟨1, _⟩ => T.nu | ⟨_ + 2, h⟩ => absurd h (by simp)

/-- The launch memory holds the tables. -/
def Pinned (T : Tables F) (m : (ℓ : Loc nD τ sig) → Buf (Elt F) ℓ) : Prop :=
  (∀ c : Dev nD, m ((c : Thread nD τ).loc main_arg0) = T.be)
  ∧ (∀ c : Dev nD, m ((c : Thread nD τ).loc main_arg1) = T.nu)

theorem toInt_small (v : BitVec 32) (h : v.toNat < 2 ^ 31) : v.toInt = v.toNat := by
  rw [BitVec.toInt_eq_toNat_cond, if_pos (by omega)]

theorem toNat_point (b : ℕ) (hb : b < 655) : (BitVec.ofNat 32 b).toNat = b := by
  rw [BitVec.toNat_ofNat]; exact Nat.mod_eq_of_lt (by omega)

theorem slt_point (b : ℕ) (hb : b < 655) (v : BitVec 32) (hv : v.toNat < 2 ^ 31) :
    (BitVec.ofNat 32 b).slt v = decide (b < v.toNat) := by
  have hn := toNat_point b hb
  rw [BitVec.slt, toInt_small v hv, toInt_small _ (by rw [hn]; omega), hn]
  simp

theorem sub_one (v : BitVec 32) (h1 : 1 ≤ v.toNat) : (v - 1#32).toNat = v.toNat - 1 := by
  bv_omega

/-- The row block read at point `b`: its own while blocks are in use, the last one in use afterwards. -/
theorem row_block (b : ℕ) (hb : b < 655) (v : BitVec 32) (h1 : 1 ≤ v.toNat) (hv : v.toNat < 2 ^ 31) :
    (Scalar.minsi (BitVec.ofNat 32 b) (Scalar.subi v 1#32)).toNat = min b (v.toNat - 1) := by
  have hs : (Scalar.subi v 1#32).toNat = v.toNat - 1 := sub_one v h1
  show (if (BitVec.ofNat 32 b).slt (Scalar.subi v 1#32) then _ else _ : BitVec 32).toNat = _
  rw [slt_point b hb _ (by omega), hs]
  by_cases h : b < v.toNat - 1
  · rw [decide_eq_true h, if_pos rfl, toNat_point b hb]; omega
  · rw [decide_eq_false h, if_neg (by decide), hs]; omega

/-- The kernel's first branch is taken exactly below the number of blocks in use, -/
theorem cond1_iff (i : grid0.Coords) (v : BitVec 32) (hv : v.toNat < 2 ^ 31) : k0_cond1 i v = 1#1 ↔ (i 0).val < v.toNat := by
  have hi : (i 0).val < 655 := (i 0).isLt
  unfold k0_cond1
  by_cases h : (i 0).val < v.toNat <;>
    simp [Scalar.cmpi, IntOp.cmpi, Scalar.extui, slt_point _ hi v hv, h]

/-- and its last branch exactly from there on. -/
theorem cond3_iff (i : grid0.Coords) (v : BitVec 32) (hv : v.toNat < 2 ^ 31) : k0_cond3 i v = 1#1 ↔ ¬ (i 0).val < v.toNat := by
  have hi : (i 0).val < 655 := (i 0).isLt
  have hs : v.sle (BitVec.ofNat 32 (i 0).val) = !(BitVec.ofNat 32 (i 0).val).slt v := by
    rw [BitVec.sle, BitVec.slt, ← decide_not]; simp
  unfold k0_cond3
  by_cases h : (i 0).val < v.toNat <;>
    simp [Scalar.cmpi, IntOp.cmpi, Scalar.extui, hs, slt_point _ hi v hv, h]

/-- A block of whole matrices lies inside its array when its leading index does. -/
theorem block3 (e n s1 s2 : ℕ) (he : e < n) : ∀ a : Fin 3, (![e, 0, 0] a + 1) * ![1, s1, s2] a ≤ ![n, s1, s2] a := by
  intro a
  fin_cases a <;> simp
  omega

/-- A block of 256 rows lies inside its array when its rows do. -/
theorem block2 (b n r s : ℕ) (hb : b < n) : ∀ a : Fin 2, (![b, 0] a + 1) * ![r, s] a ≤ ![n * r, s] a := by
  intro a
  fin_cases a
  · exact Nat.mul_le_mul_right r hb
  · simp

variable (T : Tables F)

/-- The table of the blocks in use has one entry. -/
theorem nu_eq (x y : S1.Idx) : T.nu x = T.nu y := by
  have e : x = y := funext fun a => by
    fin_cases a
    exact Fin.ext (by
      have hx : (x 0).val < 1 := (x 0).isLt
      have hy : (y 0).val < 1 := (y 0).isLt
      show (x 0).val = (y 0).val
      omega)
  rw [e]

/-- The number of blocks in use. -/
def Tables.n : ℕ := BitVec.toNat (T.nu (Shape.Idx.first (numel1_S1.symm ▸ Nat.one_pos)))

/-- The output's block is stored at every point. -/
theorem idle_pfN (i : grid0.Coords) : idle0 (F := F) (pfN T) 5 i = false := by
  obtain ⟨w, hw, hb⟩ : ∃ w : BitVec 32, (pfN T).atD 1 ![0] = w ∧ w.toNat < 2 ^ 31 := ⟨_, rfl, by
    unfold Pipeline.Prefetch.Contents.atD
    split
    · exact T.nu_lt _
    · show BitVec.toNat (0#32) < _
      decide⟩
  show (!(k0_cond1 i ((pfN T).atD 1 ![0]) == 1#1) && !(k0_cond3 i ((pfN T).atD 1 ![0]) == 1#1)) = false
  rw [hw]
  have h1 := cond1_iff i w hb
  have h3 := cond3_iff i w hb
  by_cases h : (i 0).val < w.toNat
  · rw [h1.2 h]; rfl
  · rw [h3.2 h, Bool.and_comm]; rfl

/-- Every block read lies inside its array. -/
theorem ok_pfN : ok0 (F := F) (pfN T) :=
  ⟨fun i => ⟨block2 _ 655 256 1024 (by
      have hi : (i 0).val < 655 := (i 0).isLt
      exact Nat.lt_of_le_of_lt (Nat.le_of_eq (row_block (i 0).val hi _ (T.nu_pos _) (T.nu_lt _))) (by omega)), .inl rfl⟩,
    fun i => ⟨block3 _ 32 1024 2048 (T.be_lt _), .inl rfl⟩, fun i => ⟨block3 _ 32 1 2048 (T.be_lt _), .inl rfl⟩,
    fun i => ⟨block3 _ 32 1024 1024 (T.be_lt _), .inl rfl⟩, fun i => ⟨block3 _ 32 1 1024 (T.be_lt _), .inl rfl⟩⟩

end Cert.Expert

end
-- ==== Proof.ExpertFrame.lean ====
/- The expert kernel's launch at any tables: what its buffers hold point by point, that it runs to the end, and what its arrays hold then. -/
module

public import proofs.«01_k».proof.Proof.ExpertTables
public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Expert

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) 𝕄 := emb₁

variable (T : Tables F)

/-- The tables' contents as the pipeline takes them, and the pipeline at them. -/
def adm : (pcfg0 (F := F)).Adm := ⟨pfN T, ok_pfN T⟩
abbrev cfgA : Pipeline.Cfg sig Λ₀ := cfg0 (F := F) (adm T)
abbrev pcs : Fin 1 → Pipeline.Cfg sig Λ₀ := Pipeline.pin (pcfgs (F := F)) fun _ => adm T

variable (m : (ℓ : Loc nD τ sig) → Buf (Elt F) ℓ) (ρ : Dev nD → PrngReg)

/-! ## A point's coordinates, words and staging memrefs -/

/-- Point `t`'s coordinates. -/
abbrev crd (t : Fin (cfgA T).N) : (cfgA T).grid.Coords := (cfgA T).grid.coords t

/-- Each window's current staging memref at point `t`, spelled as the pipeline passes it, and its wholeness. -/
abbrev ms0_0 (t : Fin (cfgA T).N) : Memref sig .tc .vmem S256x1024 .f32 := spec0_0.stage ((cfgA T).slots t (0 : Fin 6))
abbrev hs0_0 (t : Fin (cfgA T).N) : (ms0_0 T t).IsWhole := hstage0_0 (((cfgA T).slots t (0 : Fin 6)).cast nbuf0_0)
abbrev ms0_1 (t : Fin (cfgA T).N) : Memref sig .tc .vmem S1x1024x2048 .f32 := spec0_1.stage ((cfgA T).slots t (1 : Fin 6))
abbrev hs0_1 (t : Fin (cfgA T).N) : (ms0_1 T t).IsWhole := hstage0_1 (((cfgA T).slots t (1 : Fin 6)).cast nbuf0_1)
abbrev ms0_2 (t : Fin (cfgA T).N) : Memref sig .tc .vmem S1x1x2048 .f32 := spec0_2.stage ((cfgA T).slots t (2 : Fin 6))
abbrev hs0_2 (t : Fin (cfgA T).N) : (ms0_2 T t).IsWhole := hstage0_2 (((cfgA T).slots t (2 : Fin 6)).cast nbuf0_2)
abbrev ms0_3 (t : Fin (cfgA T).N) : Memref sig .tc .vmem S1x1024x1024 .f32 := spec0_3.stage ((cfgA T).slots t (3 : Fin 6))
abbrev hs0_3 (t : Fin (cfgA T).N) : (ms0_3 T t).IsWhole := hstage0_3 (((cfgA T).slots t (3 : Fin 6)).cast nbuf0_3)
abbrev ms0_4 (t : Fin (cfgA T).N) : Memref sig .tc .vmem S1x1x1024 .f32 := spec0_4.stage ((cfgA T).slots t (4 : Fin 6))
abbrev hs0_4 (t : Fin (cfgA T).N) : (ms0_4 T t).IsWhole := hstage0_4 (((cfgA T).slots t (4 : Fin 6)).cast nbuf0_4)
abbrev ms0_5 (t : Fin (cfgA T).N) : Memref sig .tc .vmem S256x1024 .f32 := spec0_5.stage ((cfgA T).slots t (5 : Fin 6))
abbrev hs0_5 (t : Fin (cfgA T).N) : (ms0_5 T t).IsWhole := hstage0_5 (((cfgA T).slots t (5 : Fin 6)).cast nbuf0_5)

/-! ## The windows' blocks -/

/-- Window `w`'s block at point `t`, read off its array at launch. -/
def iblk (c : Dev nD) (w : Fin (cfgA T).W) (t : Fin (cfgA T).N) : (((cfgA T).win w).xblock (crd T t)).Idx → Elt F ((cfgA T).win w).elt :=
  (((cfgA T).win w).blk t).view.read (Elt F) ((s₀ m ρ).mem (((cfgA T).win w).arr.view.loc (c : Thread nD τ)))

/-! ## Which path a point takes -/

abbrev P0_0 (t : Fin (cfgA T).N) : Prop := k0_cond1 (crd T t) (View.readAt (Elt F) (tbM0_1).view (Rect.unit (s := S1) ![0] S1.size inb_S1_S1_0).toLoadRect (T.nu) (Shape.Idx.first (numel1_S1.symm ▸ Nat.one_pos))) = 1#1
abbrev P0_1 (t : Fin (cfgA T).N) : Prop := (Scalar.cmpi .ne (Scalar.extui (Scalar.ori (Scalar.cmpi .eq (BitVec.ofNat 32 ((crd T t) 0).val) 0#32) (Scalar.cmpi .ne (View.readAt (Elt F) (tbM0_0).view (Rect.unit (s := S655) (k0_off2 (crd T t)) S1.size (k0_off2_inb (crd T t))).toLoadRect (T.be) (Shape.Idx.first (numel1_S1.symm ▸ Nat.one_pos))) (View.readAt (Elt F) (tbM0_0).view (Rect.unit (s := S655) (k0_off3 (crd T t)) S1.size (k0_off3_inb (crd T t))).toLoadRect (T.be) (Shape.Idx.first (numel1_S1.symm ▸ Nat.one_pos)))))) 0#32) = 1#1

/-- Whether the scratches hold nothing yet before point `n`: only before the first. -/
def sfresh (n : ℕ) : Bool := decide (n = 0)

/-- A point's coordinate is its number. -/
theorem crd_val (t : Fin (cfgA T).N) : ((crd T t) 0).val = t.val :=
  (Pipeline.Grid.coords_val (G := grid0) t 0 (S := 1) (B := 655) (by decide) rfl).trans
    (by have h : t.val < 655 := t.isLt; rw [Nat.div_one, Nat.mod_eq_of_lt h])

/-- The first branch is taken at the blocks in use, -/
theorem P0_0_iff (t : Fin (cfgA T).N) : Iff (P0_0 T t) (t.val < T.n) := by
  have h := cond1_iff (crd T t) (T.nu (Shape.Idx.first (numel1_S1.symm ▸ Nat.one_pos))) (T.nu_lt _)
  rw [crd_val] at h
  refine Iff.trans ?_ h
  show Iff (k0_cond1 _ (T.nu _) = 1#1) _
  rw [nu_eq]

theorem cond3_at (t : Fin (cfgA T).N) : Iff (k0_cond3 (crd T t) (View.readAt (Elt F) (tbM0_1).view (Rect.unit (s := S1) ![0] S1.size inb_S1_S1_0).toLoadRect (T.nu) (Shape.Idx.first (numel1_S1.symm ▸ Nat.one_pos))) = 1#1) (¬ P0_0 T t) :=
  (cond3_iff _ _ (T.nu_lt _)).trans (not_congr (cond1_iff _ _ (T.nu_lt _)).symm)

theorem P0_0_zero (t : Fin (cfgA T).N) (h : t.val = 0) : P0_0 T t := by
  rw [P0_0_iff, h]; exact T.nu_pos _

theorem first_one : ∀ x : BitVec 1, (Scalar.cmpi .ne (Scalar.extui (Scalar.ori (Scalar.cmpi .eq (BitVec.ofNat 32 0) 0#32) x)) 0#32 : BitVec 1) = 1#1 := by decide

/-- and the inner one at the first point, whatever the tables hold. -/
theorem P0_1_zero (t : Fin (cfgA T).N) (h : t.val = 0) : P0_1 T t := by
  unfold P0_1
  rw [crd_val, h]
  exact first_one _

theorem flush_all : ∀ t : Fin grid0.N, Window.flushOf grid0 true cc0_transform_5 t = true := by decide +kernel
theorem flush5 (t : Fin (cfgA T).N) : ((cfgA T).win (5 : Fin 6)).flush t = true := flush_all t
theorem idle5 (t : Fin (cfgA T).N) : (cfgA T).idle (5 : Fin 6) ((cfgA T).grid.coords t) = false := idle_pfN T _
theorem fresh5 (t : Fin (cfgA T).N) : (cfgA T).fresh (5 : Fin 6) t.val = true :=
  Pipeline.Cfg.fresh_tab (cfgA T) (5 : Fin 6) (fun _ => true) rfl (fun t => by rw [flush5]; rfl) t.val (Nat.le_of_lt t.isLt)

theorem sfresh_succ (t : Fin (cfgA T).N) : sfresh (t.val + 1) = false := by simp [sfresh]
theorem sfresh_pos (t : Fin (cfgA T).N) (h : t.val ≠ 0) : sfresh t.val = false := by simp [sfresh, h]

/-- At a point of path A, the branches' conditions hold of the words read there. -/
theorem hypsR0_A : ∀ (T : Tables F) (t : Fin (cfgA T).N), P0_0 T t → P0_1 T t →
    (k0_cond1 (crd T t) (View.readAt (Elt F) (tbM0_1).view (Rect.unit (s := S1) ![0] S1.size inb_S1_S1_0).toLoadRect (T.nu) (Shape.Idx.first (numel1_S1.symm ▸ Nat.one_pos))) = 1#1) ∧ (((Scalar.cmpi .ne (Scalar.extui (Scalar.ori (Scalar.cmpi .eq (BitVec.ofNat 32 ((crd T t) 0).val) 0#32) (Scalar.cmpi .ne (View.readAt (Elt F) (tbM0_0).view (Rect.unit (s := S655) (k0_off2 (crd T t)) S1.size (k0_off2_inb (crd T t))).toLoadRect (T.be) (Shape.Idx.first (numel1_S1.symm ▸ Nat.one_pos))) (View.readAt (Elt F) (tbM0_0).view (Rect.unit (s := S655) (k0_off3 (crd T t)) S1.size (k0_off3_inb (crd T t))).toLoadRect (T.be) (Shape.Idx.first (numel1_S1.symm ▸ Nat.one_pos)))))) 0#32) = 1#1) ∧ ((¬(k0_cond3 (crd T t) (View.readAt (Elt F) (tbM0_1).view (Rect.unit (s := S1) ![0] S1.size inb_S1_S1_0).toLoadRect (T.nu) (Shape.Idx.first (numel1_S1.symm ▸ Nat.one_pos))) = 1#1)) ∧ (True))) :=
  fun T t q0 q1 => ⟨q0, q1, fun h => (cond3_at T t).1 h q0, trivial⟩

/-- At a point of path A the output is written and written back. -/
theorem sched0_A : ∀ (T : Tables F) (t : Fin (cfgA T).N), P0_0 T t → P0_1 T t →
    (cfgA T).idle (5 : Fin 6) ((cfgA T).grid.coords t) = false ∧ ((cfgA T).win (5 : Fin 6)).flush t = true ∧ (cfgA T).fresh (5 : Fin 6) t.val = true ∧ sfresh (t.val + 1) = false ∧ sfresh (t.val + 1) = false :=
  fun T t q0 q1 => ⟨idle5 T t, flush5 T t, fresh5 T t, sfresh_succ T t, sfresh_succ T t⟩

/-- At a point of path B, the branches' conditions hold of the words read there. -/
theorem hypsR0_B : ∀ (T : Tables F) (t : Fin (cfgA T).N), P0_0 T t → ¬P0_1 T t →
    (k0_cond1 (crd T t) (View.readAt (Elt F) (tbM0_1).view (Rect.unit (s := S1) ![0] S1.size inb_S1_S1_0).toLoadRect (T.nu) (Shape.Idx.first (numel1_S1.symm ▸ Nat.one_pos))) = 1#1) ∧ ((¬((Scalar.cmpi .ne (Scalar.extui (Scalar.ori (Scalar.cmpi .eq (BitVec.ofNat 32 ((crd T t) 0).val) 0#32) (Scalar.cmpi .ne (View.readAt (Elt F) (tbM0_0).view (Rect.unit (s := S655) (k0_off2 (crd T t)) S1.size (k0_off2_inb (crd T t))).toLoadRect (T.be) (Shape.Idx.first (numel1_S1.symm ▸ Nat.one_pos))) (View.readAt (Elt F) (tbM0_0).view (Rect.unit (s := S655) (k0_off3 (crd T t)) S1.size (k0_off3_inb (crd T t))).toLoadRect (T.be) (Shape.Idx.first (numel1_S1.symm ▸ Nat.one_pos)))))) 0#32) = 1#1)) ∧ ((¬(k0_cond3 (crd T t) (View.readAt (Elt F) (tbM0_1).view (Rect.unit (s := S1) ![0] S1.size inb_S1_S1_0).toLoadRect (T.nu) (Shape.Idx.first (numel1_S1.symm ▸ Nat.one_pos))) = 1#1)) ∧ (True))) :=
  fun T t q0 q1 => ⟨q0, q1, fun h => (cond3_at T t).1 h q0, trivial⟩

/-- At a point of path B the output is written and written back. -/
theorem sched0_B : ∀ (T : Tables F) (t : Fin (cfgA T).N), P0_0 T t → ¬P0_1 T t →
    (cfgA T).idle (5 : Fin 6) ((cfgA T).grid.coords t) = false ∧ ((cfgA T).win (5 : Fin 6)).flush t = true ∧ (cfgA T).fresh (5 : Fin 6) t.val = true ∧ sfresh t.val = false ∧ sfresh (t.val + 1) = false ∧ sfresh t.val = false ∧ sfresh (t.val + 1) = false :=
  fun T t q0 q1 => have h : t.val ≠ 0 := fun h => q1 (P0_1_zero T t h)
  ⟨idle5 T t, flush5 T t, fresh5 T t, sfresh_pos T t h, sfresh_succ T t, sfresh_pos T t h, sfresh_succ T t⟩

/-- At a point of path C, the branches' conditions hold of the words read there. -/
theorem hypsR0_C : ∀ (T : Tables F) (t : Fin (cfgA T).N), ¬P0_0 T t →
    (¬(k0_cond1 (crd T t) (View.readAt (Elt F) (tbM0_1).view (Rect.unit (s := S1) ![0] S1.size inb_S1_S1_0).toLoadRect (T.nu) (Shape.Idx.first (numel1_S1.symm ▸ Nat.one_pos))) = 1#1)) ∧ ((k0_cond3 (crd T t) (View.readAt (Elt F) (tbM0_1).view (Rect.unit (s := S1) ![0] S1.size inb_S1_S1_0).toLoadRect (T.nu) (Shape.Idx.first (numel1_S1.symm ▸ Nat.one_pos))) = 1#1) ∧ (True)) :=
  fun T t q0 => ⟨q0, (cond3_at T t).2 q0, trivial⟩

/-- At a point of path C the output is written and written back. -/
theorem sched0_C : ∀ (T : Tables F) (t : Fin (cfgA T).N), ¬P0_0 T t →
    (cfgA T).idle (5 : Fin 6) ((cfgA T).grid.coords t) = false ∧ ((cfgA T).win (5 : Fin 6)).flush t = true ∧ (cfgA T).fresh (5 : Fin 6) t.val = true ∧ sfresh t.val = false ∧ sfresh (t.val + 1) = false ∧ sfresh t.val = false ∧ sfresh (t.val + 1) = false :=
  fun T t q0 => have h : t.val ≠ 0 := fun h => q0 (P0_0_zero T t h)
  ⟨idle5 T t, flush5 T t, fresh5 T t, sfresh_pos T t h, sfresh_succ T t, sfresh_pos T t h, sfresh_succ T t⟩

/-! ## What the outputs and scratches hold after each point -/

/-- One step: what the output's buffer and the two scratches hold after point `t`, from what they held before (`prev`):
    what the path that the branches take there leaves. -/
def step0 (c : Dev nD) (t : Fin (cfgA T).N) (prev : (S256x1024.Idx → Elt F .f32) × Buf (Elt F) ((c : Thread nD τ).loc cc0_scratch0) × Buf (Elt F) ((c : Thread nD τ).loc cc0_scratch1)) : (S256x1024.Idx → Elt F .f32) × Buf (Elt F) ((c : Thread nD τ).loc cc0_scratch0) × Buf (Elt F) ((c : Thread nD τ).loc cc0_scratch1) :=
  if q0 : P0_0 T t then
    if q1 : P0_1 T t then
      (out0_A_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) (hypsR0_A T t q0 q1).1 (hypsR0_A T t q0 q1).2.1 (hypsR0_A T t q0 q1).2.2.1, (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) (hypsR0_A T t q0 q1).1 (hypsR0_A T t q0 q1).2.1 (hypsR0_A T t q0 q1).2.2.1).2.1, (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) (hypsR0_A T t q0 q1).1 (hypsR0_A T t q0 q1).2.1 (hypsR0_A T t q0 q1).2.2.1).2.2.1)
    else
      (out0_B_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_B T t q0 q1).1 (hypsR0_B T t q0 q1).2.1 (hypsR0_B T t q0 q1).2.2.1, (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_B T t q0 q1).1 (hypsR0_B T t q0 q1).2.1 (hypsR0_B T t q0 q1).2.2.1).2.1, (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_B T t q0 q1).1 (hypsR0_B T t q0 q1).2.1 (hypsR0_B T t q0 q1).2.2.1).2.2.1)
  else
    (out0_C_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_C T t q0).1 (hypsR0_C T t q0).2.1, (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_C T t q0).1 (hypsR0_C T t q0).2.1).2.1, (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_C T t q0).1 (hypsR0_C T t q0).2.1).2.2.1)

local instance : Inhabited (S256x1024.Idx → Elt F .f32) := ⟨fun _ => (Elt.inhabited F _).default⟩

/-- What they hold after point `n`. -/
def traj0 (c : Dev nD) : (n : ℕ) → n < (cfgA T).N → (S256x1024.Idx → Elt F .f32) × Buf (Elt F) ((c : Thread nD τ).loc cc0_scratch0) × Buf (Elt F) ((c : Thread nD τ).loc cc0_scratch1)
  | 0, h => step0 T m ρ c ⟨0, h⟩ (default, default, default)
  | n + 1, h => step0 T m ρ c ⟨n + 1, h⟩ (traj0 c n (Nat.lt_of_succ_lt h))

/-- What they hold before point `t` (anything before the first). -/
def prev0 (c : Dev nD) (t : Fin (cfgA T).N) : (S256x1024.Idx → Elt F .f32) × Buf (Elt F) ((c : Thread nD τ).loc cc0_scratch0) × Buf (Elt F) ((c : Thread nD τ).loc cc0_scratch1) :=
  if h : t.val = 0 then (default, default, default) else traj0 T m ρ c (t.val - 1) (by omega)

theorem traj0_eq (c : Dev nD) (t : Fin (cfgA T).N) : traj0 T m ρ c t.val t.isLt = step0 T m ρ c t (prev0 T m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA T).N) (prev : (S256x1024.Idx → Elt F .f32) × Buf (Elt F) ((c : Thread nD τ).loc cc0_scratch0) × Buf (Elt F) ((c : Thread nD τ).loc cc0_scratch1)) (q0 : P0_0 T t) (q1 : P0_1 T t) :
    step0 T m ρ c t prev = (out0_A_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) (hypsR0_A T t q0 q1).1 (hypsR0_A T t q0 q1).2.1 (hypsR0_A T t q0 q1).2.2.1, (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) (hypsR0_A T t q0 q1).1 (hypsR0_A T t q0 q1).2.1 (hypsR0_A T t q0 q1).2.2.1).2.1, (kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) (hypsR0_A T t q0 q1).1 (hypsR0_A T t q0 q1).2.1 (hypsR0_A T t q0 q1).2.2.1).2.2.1) := by
  unfold step0; simp only [dif_pos q0, dif_pos q1]

/-- `step0` at a point of path B. -/
theorem step0_B (c : Dev nD) (t : Fin (cfgA T).N) (prev : (S256x1024.Idx → Elt F .f32) × Buf (Elt F) ((c : Thread nD τ).loc cc0_scratch0) × Buf (Elt F) ((c : Thread nD τ).loc cc0_scratch1)) (q0 : P0_0 T t) (q1 : ¬P0_1 T t) :
    step0 T m ρ c t prev = (out0_B_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_B T t q0 q1).1 (hypsR0_B T t q0 q1).2.1 (hypsR0_B T t q0 q1).2.2.1, (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_B T t q0 q1).1 (hypsR0_B T t q0 q1).2.1 (hypsR0_B T t q0 q1).2.2.1).2.1, (kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_B T t q0 q1).1 (hypsR0_B T t q0 q1).2.1 (hypsR0_B T t q0 q1).2.2.1).2.2.1) := by
  unfold step0; simp only [dif_pos q0, dif_neg q1]

/-- `step0` at a point of path C. -/
theorem step0_C (c : Dev nD) (t : Fin (cfgA T).N) (prev : (S256x1024.Idx → Elt F .f32) × Buf (Elt F) ((c : Thread nD τ).loc cc0_scratch0) × Buf (Elt F) ((c : Thread nD τ).loc cc0_scratch1)) (q0 : ¬P0_0 T t) :
    step0 T m ρ c t prev = (out0_C_5 c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_C T t q0).1 (hypsR0_C T t q0).2.1, (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_C T t q0).1 (hypsR0_C T t q0).2.1).2.1, (kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) prev.2.1 prev.2.2 (hypsR0_C T t q0).1 (hypsR0_C T t q0).2.1).2.2.1) := by
  unfold step0; simp only [dif_neg q0]

/-! ## The pipeline's proof data -/

/-- What the tracked buffers held before position `t` of `Fin (N+1)` (the invariant's index). -/
def prev0T (c : Dev nD) (t : Fin ((cfgA T).N + 1)) : (S256x1024.Idx → Elt F .f32) × Buf (Elt F) ((c : Thread nD τ).loc cc0_scratch0) × Buf (Elt F) ((c : Thread nD τ).loc cc0_scratch1) :=
  if h : t.val = 0 then (default, default, default) else traj0 T m ρ c (t.val - 1) (by omega)

theorem prev0T_castSucc (c : Dev nD) (t : Fin (cfgA T).N) : prev0T T m ρ c t.castSucc = prev0 T m ρ c t := by
  unfold prev0T prev0; simp only [Fin.val_castSucc]
theorem prev0T_succ (c : Dev nD) (t : Fin (cfgA T).N) : prev0T T m ρ c t.succ = traj0 T m ρ c t.val t.isLt := by
  unfold prev0T; simp only [Fin.val_succ, Nat.add_one_ne_zero, ↓reduceDIte, Nat.add_one_sub_one]

/-- What holds before point `t`: each scratch is at what the point before left (anything before the first), and the tables are
    at their contents. -/
def Phi (m : (ℓ : Loc nD τ sig) → Buf (Elt F) ℓ) (ρ : Dev nD → PrngReg) (c : Dev nD) (t : Fin ((cfgA T).N + 1)) : sProp 𝕄 :=
  iprop((∃ a, ⌜sfresh t.val = false → a = (prev0T T m ρ c t).2.1⌝ ∗ (scM0_0.view.loc (c : Thread nD τ) ↦{fullShare} a)) ∗ (∃ a, ⌜sfresh t.val = false → a = (prev0T T m ρ c t).2.2⌝ ∗ (scM0_1.view.loc (c : Thread nD τ) ↦{fullShare} a)) ∗ (tbM0_0.view.loc (c : Thread nD τ) ↦{fullShare.right} T.be) ∗ (tbM0_1.view.loc (c : Thread nD τ) ↦{fullShare.right} T.nu))

/-- The proof data of the one pipeline on core `c`. -/
def dats (_ : Fin 1) (c : Dev nD) : Dat τ (Elt F) Unit ℕ (UR sig nD τ) ℕ (cfgA T) c where
  A w := (s₀ m ρ).mem (((cfgA T).win w).arr.view.loc (c : Thread nD τ))
  after w t := match w with
    | ⟨0, _⟩ => iblk T m ρ c (0 : Fin 6) t
    | ⟨1, _⟩ => iblk T m ρ c (1 : Fin 6) t
    | ⟨2, _⟩ => iblk T m ρ c (2 : Fin 6) t
    | ⟨3, _⟩ => iblk T m ρ c (3 : Fin 6) t
    | ⟨4, _⟩ => iblk T m ρ c (4 : Fin 6) t
    | ⟨5, _⟩ => (traj0 T m ρ c t.val t.isLt).1
  Φ t := Phi T m ρ c t
  q _ := fullShare
  owed _ := 0

theorem after0_0 (c : Dev nD) (t : Fin (cfgA T).N) : (dats T m ρ 0 c).after (0 : Fin 6) t = iblk T m ρ c (0 : Fin 6) t := rfl
theorem after0_1 (c : Dev nD) (t : Fin (cfgA T).N) : (dats T m ρ 0 c).after (1 : Fin 6) t = iblk T m ρ c (1 : Fin 6) t := rfl
theorem after0_2 (c : Dev nD) (t : Fin (cfgA T).N) : (dats T m ρ 0 c).after (2 : Fin 6) t = iblk T m ρ c (2 : Fin 6) t := rfl
theorem after0_3 (c : Dev nD) (t : Fin (cfgA T).N) : (dats T m ρ 0 c).after (3 : Fin 6) t = iblk T m ρ c (3 : Fin 6) t := rfl
theorem after0_4 (c : Dev nD) (t : Fin (cfgA T).N) : (dats T m ρ 0 c).after (4 : Fin 6) t = iblk T m ρ c (4 : Fin 6) t := rfl
theorem after0_5 (c : Dev nD) (t : Fin (cfgA T).N) : (dats T m ρ 0 c).after (5 : Fin 6) t = (traj0 T m ρ c t.val t.isLt).1 := rfl

/-! ## What each window's staging buffer holds when the body runs -/

/-- Input window 0 holds its block, fetched there or not. -/
theorem before0_0 (c : Dev nD) (t : Fin (cfgA T).N) (d) : (dats T m ρ 0 c).before (0 : Fin 6) t d = iblk T m ρ c (0 : Fin 6) t :=
  ((dats T m ρ 0 c).before_in_eq_fetched (0 : Fin 6) rfl (fun _ => rfl) (fun _ _ _ => rfl) (fun t => by rw [after0_0]; unfold Dat.blockOf iblk; rfl) t d).trans
    (by unfold Dat.fetched Dat.blockOf iblk; rfl)

/-- Input window 1 holds its block, fetched there or not. -/
theorem before0_1 (c : Dev nD) (t : Fin (cfgA T).N) (d) : (dats T m ρ 0 c).before (1 : Fin 6) t d = iblk T m ρ c (1 : Fin 6) t :=
  ((dats T m ρ 0 c).before_in_eq_fetched (1 : Fin 6) rfl (fun _ => rfl) (fun _ _ _ => rfl) (fun t => by rw [after0_1]; unfold Dat.blockOf iblk; rfl) t d).trans
    (by unfold Dat.fetched Dat.blockOf iblk; rfl)

/-- Input window 2 holds its block, fetched there or not. -/
theorem before0_2 (c : Dev nD) (t : Fin (cfgA T).N) (d) : (dats T m ρ 0 c).before (2 : Fin 6) t d = iblk T m ρ c (2 : Fin 6) t :=
  ((dats T m ρ 0 c).before_in_eq_fetched (2 : Fin 6) rfl (fun _ => rfl) (fun _ _ _ => rfl) (fun t => by rw [after0_2]; unfold Dat.blockOf iblk; rfl) t d).trans
    (by unfold Dat.fetched Dat.blockOf iblk; rfl)

/-- Input window 3 holds its block, fetched there or not. -/
theorem before0_3 (c : Dev nD) (t : Fin (cfgA T).N) (d) : (dats T m ρ 0 c).before (3 : Fin 6) t d = iblk T m ρ c (3 : Fin 6) t :=
  ((dats T m ρ 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- Input window 4 holds its block, fetched there or not. -/
theorem before0_4 (c : Dev nD) (t : Fin (cfgA T).N) (d) : (dats T m ρ 0 c).before (4 : Fin 6) t d = iblk T m ρ c (4 : Fin 6) t :=
  ((dats T m ρ 0 c).before_in_eq_fetched (4 : Fin 6) rfl (fun _ => rfl) (fun _ _ _ => rfl) (fun t => by rw [after0_4]; unfold Dat.blockOf iblk; rfl) t d).trans
    (by unfold Dat.fetched Dat.blockOf iblk; rfl)

/-- The output's buffer keeps what it holds through the points that don't write it. -/
theorem hcarry0_5 (c : Dev nD) : ∀ (t : Fin (cfgA T).N) (ht : t.val ≠ 0), (cfgA T).idle (5 : Fin 6) ((cfgA T).grid.coords t) = true → (cfgA T).fresh (5 : Fin 6) t.val = false →
    (dats T m ρ 0 c).after (5 : Fin 6) t = (dats T m ρ 0 c).after (5 : Fin 6) ⟨t.val - 1, by omega⟩ := by
  intro t ht hi hf
  rw [after0_5, after0_5, traj0_eq]
  by_cases q0 : P0_0 T t
  · by_cases q1 : P0_1 T t
    · obtain ⟨i5, -, -, -, -⟩ := sched0_A T t q0 q1
      rw [i5] at hi; exact absurd hi (by decide)
    · obtain ⟨i5, -, -, -, -, -, -⟩ := sched0_B T t q0 q1
      rw [i5] at hi; exact absurd hi (by decide)
  · obtain ⟨i5, -, -, -, -, -, -⟩ := sched0_C T t q0
    rw [i5] at hi; exact absurd hi (by decide)

/-- The output's buffer holds, when the body runs at `t`, anything if nothing was written since it was last written back, else
    what the point before left. -/
theorem before0_5 (c : Dev nD) (t : Fin (cfgA T).N) (d) :
    (dats T m ρ 0 c).before (5 : Fin 6) t d = if (cfgA T).fresh (5 : Fin 6) t.val then d else (prev0 T m ρ c t).1 := by
  rw [(dats T m ρ 0 c).before_out_traj (5 : Fin 6) rfl (fun _ _ => rfl) (hcarry0_5 T m ρ c) t.val t rfl d]
  by_cases hf : (cfgA T).fresh (5 : Fin 6) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_5]; unfold prev0; rw [dif_neg h0]

/-! ## The body obligation, at a generic point, by path -/

/-- The body at point `t` on its staging memrefs, as the pipeline calls it. -/
abbrev bodyAt0 (t : Fin (cfgA T).N) : Prog (TpuEff nD τ sig (Elt F) Λ₀ .tc) PUnit :=
  cc0_expert_mlp (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (Memref.whole cc0_scratch0) (Memref.isWhole_whole _) (Memref.whole cc0_scratch1) (Memref.isWhole_whole _)

set_option maxHeartbeats 4000000 in
/-- The body at point `t`: the branches' conditions there tell the path, the inputs' buffers hold their blocks, and the path's
    run applies. -/
theorem sound_body (hp : Pinned T m) (c : Dev nD) (t : Fin (cfgA T).N) :
    iprop((dats T m ρ 0 c).Φ t.castSucc ∗ (dats T m ρ 0 c).owesAt () t.castSucc
        ∗ (∃ d, owns (c : Thread nD τ) (ms0_0 T t) fullShare ((dats T m ρ 0 c).before (0 : Fin 6) t d))
        ∗ (∃ d, owns (c : Thread nD τ) (ms0_1 T t) fullShare ((dats T m ρ 0 c).before (1 : Fin 6) t d))
        ∗ (∃ d, owns (c : Thread nD τ) (ms0_2 T t) fullShare ((dats T m ρ 0 c).before (2 : Fin 6) t d))
        ∗ (∃ d, owns (c : Thread nD τ) (ms0_3 T t) fullShare ((dats T m ρ 0 c).before (3 : Fin 6) t d))
        ∗ (∃ d, owns (c : Thread nD τ) (ms0_4 T t) fullShare ((dats T m ρ 0 c).before (4 : Fin 6) t d))
        ∗ (∃ d, owns (c : Thread nD τ) (ms0_5 T t) fullShare ((dats T m ρ 0 c).before (5 : Fin 6) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA T).W =>
                match (cfgA T).idle w ((cfgA T).grid.coords t) with
                | true =>
                  match ((cfgA T).win w).flush t with
                  | false => iprop(∃ d, owns (c : Thread nD τ) (((cfgA T).win w).stage ((cfgA T).slots t w)) fullShare ((dats T m ρ 0 c).before w t d))
                  | true => owns (c : Thread nD τ) (((cfgA T).win w).stage ((cfgA T).slots t w)) fullShare ((dats T m ρ 0 c).after w t)
                | false => owns (c : Thread nD τ) (((cfgA T).win w).stage ((cfgA T).slots t w)) fullShare ((dats T m ρ 0 c).after w t)) := by
  rw [bigSep_W0]
  by_cases q0 : P0_0 T t
  · by_cases q1 : P0_1 T t
    · obtain ⟨i5, f5, fr5, sfn0, sfn1⟩ := sched0_A T t q0 q1
      have F0 := hypsR0_A T t q0 q1
      have k0_h1 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_A T m ρ c t _ q0 q1]
      unfold Phi; simp only [prev0T_castSucc, prev0T_succ, traj0_eq, step0_A T m ρ c t _ q0 q1, Fin.val_castSucc, Fin.val_succ]
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩, ⟨%d5, H5⟩⟩
      iapply ((kernelRun0_A c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) k0_h1 hc1 k0_h3).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_A_5 c _ _ _ _ _ _ _ _ _ _ _ _ _ _ _ _ _ _ _ _ _ _ _)
    · obtain ⟨i5, f5, fr5, sf0, sfn0, sf1, sfn1⟩ := sched0_B T t q0 q1
      have F0 := hypsR0_B T t q0 q1
      have k0_h1 := F0.1; have F1 := F0.2
      have hc1 := F1.1; have F2 := F1.2
      have k0_h3 := F2.1; have F3 := F2.2
      clear F0 F1 F2 F3
      rewrite [i5]
      simp only [before0_0, before0_1, before0_2, before0_3, before0_4, before0_5, after0_0, after0_1, after0_2, after0_3, after0_4, after0_5, f5]
      simp only [fr5, Bool.false_eq_true, ↓reduceIte]
      rewrite [show (dats T m ρ 0 c).Φ t.succ = Phi T m ρ c t.succ from rfl, show (dats T m ρ 0 c).Φ t.castSucc = Phi T m ρ c t.castSucc from rfl,
        show (dats T m ρ 0 c).owesAt () t.succ = (dats T m ρ 0 c).owesAt () t.castSucc from rfl]
      try rewrite [traj0_eq, step0_B T m ρ c t _ q0 q1]
      unfold Phi; simp only [prev0T_castSucc, prev0T_succ, traj0_eq, step0_B T m ρ c t _ q0 q1, Fin.val_castSucc, Fin.val_succ]
      simp only [exists_held sf0, exists_held sf1]
      iintro ⟨⟨HS0, HS1, HT0, HT1⟩, Ho, ⟨%d0, H0⟩, ⟨%d1, H1⟩, ⟨%d2, H2⟩, ⟨%d3, H3⟩, ⟨%d4, H4⟩, ⟨%d5, H5⟩⟩
      iapply ((kernelRun0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) _ _ k0_h1 hc1 k0_h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro; exact View.read_writes_of_cover _ _ _ _ _ (cover0_B_5 c _ _ _ _ _ _ _ _ _ _ _ _ _ _ _ _ _ _ _ _ _ _ _ _ _)
  · obtain ⟨i5, f5, fr5, sf0, sfn0, sf1, sfn1⟩ := sched0_C T t q0
    have F0 := hypsR0_C T t q0
    have k0_h1 := F0.1; have F1 := F0.2
    have k0_h3 := F1.1; have F2 := F1.2
    clear F0 F1 F2
    rewrite [i5]
    simp only [before0_0, before0_1, before0_2, before0_3, before0_4, before0_5, after0_0, after0_1, after0_2, after0_3, after0_4, after0_5, f5]
    simp only [fr5, Bool.false_eq_true, ↓reduceIte]
    rewrite [show (dats T m ρ 0 c).Φ t.succ = Phi T m ρ c t.succ from rfl, show (dats T m ρ 0 c).Φ t.castSucc = Phi T m ρ c t.castSucc from rfl,
      show (dats T m ρ 0 c).owesAt () t.succ = (dats T m ρ 0 c).owesAt () t.castSucc from rfl]
    try rewrite [traj0_eq, step0_C T m ρ c t _ q0]
    unfold Phi; simp only [prev0T_castSucc, prev0T_succ, traj0_eq, step0_C T m ρ c t _ q0, Fin.val_castSucc, Fin.val_succ]
    simp only [exists_held sf0, exists_held sf1]
    iintro ⟨⟨HS0, HS1, HT0, HT1⟩, Ho, ⟨%d0, H0⟩, ⟨%d1, H1⟩, ⟨%d2, H2⟩, ⟨%d3, H3⟩, ⟨%d4, H4⟩, ⟨%d5, H5⟩⟩
    iapply ((kernelRun0_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (T.be) (T.nu) (iblk T m ρ c (0 : Fin 6) t) (iblk T m ρ c (1 : Fin 6) t) (iblk T m ρ c (2 : Fin 6) t) (iblk T m ρ c (3 : Fin 6) t) (iblk T m ρ c (4 : Fin 6) t) _ _ k0_h1 k0_h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · isplitl [HS0]
      · iexists _; isplitr; swap
        · iexact HS0
        · ipureintro; intro hn; first | rfl | exact absurd hn (by first | (rw [sfn0]; decide) | decide)
      isplitl [HS1]
      · iexists _; isplitr; swap
        · iexact HS1
        · ipureintro; intro hn; first | rfl | exact absurd hn (by first | (rw [sfn1]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro; exact View.read_writes_of_cover _ _ _ _ _ (cover0_C_5 c _ _ _ _ _ _ _ _ _ _ _ _ _ _ _ _ _ _ _ _ _ _ _ _)

/-- The library's body obligation, at every point. -/
theorem body_obligation (hp : Pinned T m) (c : Dev nD) : BodyObligation (dats T m ρ 0 c) (defs₀ (F := F)) Variants.none () Set.univ := fun t => by
  rw [bigSep_W0]
  exact sound_body T m ρ hp c t

/-! ## The launch -/

/-- The rounds library's launch element. -/
def u₀ : UR sig nD τ :=
  initOf (Pipeline.cells (pcs T) ((launch0 (F := F)).cellOf_inj fun _ => adm T))
    (Pipeline.launchToks (pcs T) ((launch0 (F := F)).cellOf_inj fun _ => adm T))

theorem share_eq (c : Dev nD) (w : Fin (cfgA T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd (h.symm.trans (show sfresh 0 = true from rfl)) Bool.false_ne_true
  isplitl [HS1]
  · iexists a1; isplitr; swap
    · iexact HS1
    · ipureintro; intro h; exact absurd (h.symm.trans (show sfresh 0 = true from rfl)) Bool.false_ne_true
  isplitl [HT0]
  · iexact HT0
  iexact HT1

/-- at the last point it gives the scratch buffers back (`hout`), the tables let go. -/
theorem phiN_exit (c : Dev nD) : (dats T m ρ 0 c).Φ (Fin.last (cfgA T).N) ⊢ iprop(BI.emp ∗ Pipeline.scopedRest spec0 c) := by
  rw [scopedRest0_eq, show (dats T m ρ 0 c).Φ (Fin.last (cfgA T).N) = Phi T m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- Every array is at the computed contents, every table at what the launch was given. -/
def QC : PUnit × MemSt nD τ sig (Elt F) → Prop := fun r =>
  ∀ c : Dev nD, (∀ w : Fin (cfgA T).W, r.2.mem (((cfgA T).win w).arr.view.loc (c : Thread nD τ)) = (dats T m ρ 0 c).arrAt w (cfgA T).N)
    ∧ ∀ j, r.2.mem ((c : Thread nD τ).loc (pre0.ref j)) = (adm T).1 j

theorem V_pre (hp : Pinned T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory with zero counters that holds the tables, every execution terminates, with each array at the computed
    contents and every semaphore counter at zero. -/
theorem run_main_quiescent (hp : Pinned T m) : θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ hp c).loose) (hne := (launch0 (F := F)).block_pos)
    (harr := (launch0 (F := F)).arr_whole) (hstage := (launch0 (F := F)).stage_whole) (howed := fun _ _ => rfl)
    (u₀ := u₀ T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned T m) : θ_run (defs (F := F)) (onTc (τ := τ) (main (F := F))) (s₀ m ρ) (QC T m ρ) :=
  (θ_run defs _ _).mono (fun _ h => h.1) (run_main_quiescent T m ρ hp)

/-- `frame` without the counters: the argument arrays end unchanged. -/
theorem unchanged (hp : Pinned T m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) (run_main T m ρ hp)

/-- From a memory that holds the tables, every execution terminates without fault, leaves the arguments unchanged and every
    semaphore counter at zero. This holds over any float values. -/
theorem frame (hp : Pinned T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged T m ρ hp) ((θ_run defs _ _).mono (fun _ h => h.2) (run_main_quiescent T m ρ hp))

end Cert.Expert

end
-- ==== Proof.ExpertPre.lean ====
/- The expert call's precondition: what it says of the tables, and the frames of the kernel under it. -/
module

public import proofs.«01_k».proof.Defs
public import proofs.«01_k».proof.Proof.ExpertFrame
public import proofs.«01_k».proof.Proof.Gen.Kernel2

@[expose] public section

set_option maxRecDepth 16384

noncomputable section

namespace Cert.Expert

open Cert.Kernel2Ideal Cert.Kernel2Ideal.Gen
open Idealize.ShloMosaic Idealize.ShloMosaic.TcCoe Idealize.SL.Sem

variable {F : FTy → Type} [FloatOps F]

/-- The side conditions of the precondition. -/
theorem pre_facts : Cert.Pre_planned.Facts := ⟨by decide, by decide⟩

/-- A test's word is one exactly where the test holds. -/
theorem of_word : ∀ b : Bool, BitVec.ofBool b = 1#1 → b = true := by decide

/-- What the precondition's tests say of a word: it is not negative, -/
theorem ge_zero (v : BitVec 32) (h : IntOp.cmpi .sge v 0#32 = 1#1) : v.toNat < 2 ^ 31 := by
  have h' : (0#32).sle v = true := of_word _ h
  rw [BitVec.sle_iff_toInt_le, BitVec.toInt_eq_toNat_cond, BitVec.toInt_eq_toNat_cond] at h'
  have := v.isLt
  simp only [BitVec.toNat_ofNat] at h'
  split at h' <;> split at h' <;> omega

/-- it is an expert's number, -/
theorem lt_experts (v : BitVec 32) (h0 : v.toNat < 2 ^ 31) (h : IntOp.cmpi .slt v 32#32 = 1#1) : v.toNat < 32 := by
  have h' : v.slt 32#32 = true := of_word _ h
  rw [BitVec.slt_iff_toInt_lt, BitVec.toInt_eq_toNat_cond, BitVec.toInt_eq_toNat_cond] at h'
  simp only [BitVec.toNat_ofNat] at h'
  split at h' <;> split at h' <;> omega

/-- it is at least one. -/
theorem ge_one (v : BitVec 32) (h : IntOp.cmpi .sge v 1#32 = 1#1) : v.toNat < 2 ^ 31 ∧ 1 ≤ v.toNat := by
  have h' : (1#32).sle v = true := of_word _ h
  rw [BitVec.sle_iff_toInt_le, BitVec.toInt_eq_toNat_cond, BitVec.toInt_eq_toNat_cond] at h'
  have := v.isLt
  simp only [BitVec.toNat_ofNat] at h'
  split at h' <;> split at h' <;> omega

/-- Under the precondition the launch memory holds tables. -/
theorem pinned_of_pre [hP : Cert.Pre_planned.Facts] (m : (ℓ : Loc nD τ sig) → Buf (Elt F) ℓ)
    (h : ∀ c : Dev nD,
      (Cert.Pre_planned.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).1 = (fun _ => 1#1)
      ∧ (Cert.Pre_planned.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.1 = (fun _ => 1#1)
      ∧ (Cert.Pre_planned.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))).2.2 = (fun _ => 1#1)) :
    ∃ T : Tables F, Pinned T m := by
  have h0 := h 0
  have hb := fun x => ge_zero _ (congrFun h0.1 x)
  exact ⟨⟨m (((0 : Dev nD) : Thread nD τ).loc main_arg0), m (((0 : Dev nD) : Thread nD τ).loc main_arg1),
      fun x => lt_experts _ (hb x) (congrFun h0.2.1 x), fun x => (ge_one _ (congrFun h0.2.2 x)).2, fun x => (ge_one _ (congrFun h0.2.2 x)).1⟩,
    fun c => by rw [Subsingleton.elim c 0], fun c => by rw [Subsingleton.elim c 0]⟩

theorem frame_kernelIdeal [hP : Cert.Pre_planned.Facts] : Cert.quiescent_Kernel2Ideal := fun m ρ h =>
  (pinned_of_pre m h).elim fun T hp => frame T m ρ hp

/-- The two texts' body tables are one table, -/
theorem bodies_eq : @Cert.Kernel2.defs₀ Bits _ _ = @Cert.Kernel2Ideal.defs₀ Bits _ _ :=
  congrArg Defs.onTc (funext fun l => funext fun x => match l, x with
    | 0, (_, _) => rfl
    | ⟨_ + 1, h⟩, _ => absurd h (Nat.not_lt.2 (Nat.le_add_left _ _)))

/-- and so are the tables with the pipeline's labels. -/
theorem tables_eq : @Cert.Kernel2.defs Bits _ _ = @Cert.Kernel2Ideal.defs Bits _ _ :=
  congrArg (Pipeline.defs (Cert.Kernel2Ideal.pcfgs (F := Bits))) bodies_eq

/-- The kernel's text is the ideal kernel's: its frame is the same run's, at the machine's floats. -/
theorem frame_kernel [hP : Cert.Pre_planned.Facts] : Cert.quiescent_Kernel2 := fun m ρ h =>
  (pinned_of_pre (F := Bits) m h).elim fun T hp => by
    rw [tables_eq]
    exact (θ_run Cert.Kernel2Ideal.defs _ _).mono (fun _ h => h) (frame (F := Bits) T m ρ hp)

end Cert.Expert

end
-- ==== Proof.ExpertBlocks.lean ====
/- The blocks the expert kernel's windows read: a block's rows, and its expert's weights and biases. -/
module

public import proofs.«01_k».proof.Proof.ExpertFrame
public import Idealize.ShloMosaic.Lib.Pipeline.ValueKit
public import Idealize.ShloMosaic.Lib.Pointwise

@[expose] public section

set_option maxRecDepth 16384

noncomputable section

namespace Cert.Expert

open Cert.Kernel2Ideal Cert.Kernel2Ideal.Gen
open Idealize.ShloMosaic
open Idealize.ShloMosaic.TcCoe Idealize.ShloMosaic.Tactic
open Idealize.SL.Sem
open Idealize.ShloMosaic.Pipeline (Dat Cfg Window)

variable (T : Tables Ideal) (m : (ℓ : Loc nD τ sig) → Buf (Elt Ideal) ℓ) (ρ : Dev nD → PrngReg)

/-- Block `t`'s expert. -/
def expert (t : Fin 655) : Fin 32 := ⟨BitVec.toNat (T.be (ix1 t)), T.be_lt _⟩

theorem table_eq (x : S655.Idx) (t : Fin 655) (h : (x 0).val = t.val) : T.be x = T.be (ix1 t) := by
  refine congrArg T.be (funext fun a => ?_)
  fin_cases a
  exact Fin.ext h

/-- The window of the rows reads the block's own while blocks are in use, -/
theorem index0 (t : Fin (cfgA T).N) : ((cfgA T).win 0).index t = ![min t.val (T.n - 1), 0] := by
  have ht : t.val < 655 := t.isLt
  have h := row_block ((crd T t) 0).val ((crd T t) 0).isLt (T.nu (Shape.Idx.first (numel1_S1.symm ▸ Nat.one_pos))) (T.nu_pos _) (T.nu_lt _)
  rw [crd_val] at h
  refine Eq.trans ?_ (congrArg (fun n => (![n, 0] : Fin 2 → ℕ)) h)
  show (![BitVec.toNat (Scalar.minsi (BitVec.ofNat 32 ((crd T t) 0).val) (Scalar.subi (T.nu _) 1#32)), 0] : Fin 2 → ℕ) = _
  rw [crd_val]
  exact congrArg (fun v : BitVec 32 => (![BitVec.toNat (Scalar.minsi (BitVec.ofNat 32 t.val) (Scalar.subi v 1#32)), 0] : Fin 2 → ℕ)) (nu_eq T _ _)

theorem entry (t : Fin (cfgA T).N) (x : S655.Idx) (h : (x 0).val = ((BitVec.ofNat 32 ((crd T t) 0).val : BitVec 32)).toNat) : BitVec.toNat (T.be x) = (expert T t).val := by
  have e := congrArg (fun v : Elt Ideal .i32 => BitVec.toNat v) (table_eq T x t (by rw [h, toNat_point _ ((crd T t) 0).isLt, crd_val]))
  exact e

/-- and the others their expert's. -/
theorem index1 (t : Fin (cfgA T).N) : ((cfgA T).win 1).index t = (![(expert T t).val, 0, 0] : Fin 3 → ℕ) :=
  congrArg (fun n => (![n, 0, 0] : Fin 3 → ℕ))
    (entry T t ((Rect.unit (s := S655) (k0_off1 (crd T t)) S1.size (k0_off1_inb (crd T t))).emb (Shape.Idx.first (numel1_S1.symm ▸ Nat.one_pos))) rfl)

theorem index5 (t : Fin (cfgA T).N) : ((cfgA T).win 5).index t = ![t.val, 0] := by
  refine congrArg (fun n => (![n, 0] : Fin 2 → ℕ)) ?_
  show (BitVec.ofNat 32 ((crd T t) 0).val : BitVec 32).toNat = _
  rw [toNat_point _ ((crd T t) 0).isLt, crd_val]

theorem index2 (t : Fin (cfgA T).N) : ((cfgA T).win 2).index t = ![(expert T t).val, 0, 0] := index1 T t
theorem index3 (t : Fin (cfgA T).N) : ((cfgA T).win 3).index t = ![(expert T t).val, 0, 0] := index1 T t
theorem index4 (t : Fin (cfgA T).N) : ((cfgA T).win 4).index t = ![(expert T t).val, 0, 0] := index1 T t

abbrev arr2 (c : Dev nD) : FVec Ideal S167680x1024 .f32 := m ((c : Thread nD τ).loc main_arg2)
abbrev arr3 (c : Dev nD) : FVec Ideal S32x1024x2048 .f32 := m ((c : Thread nD τ).loc main_arg3)
abbrev arr4 (c : Dev nD) : FVec Ideal S32x1x2048 .f32 := m ((c : Thread nD τ).loc main_arg4)
abbrev arr5 (c : Dev nD) : FVec Ideal S32x1024x1024 .f32 := m ((c : Thread nD τ).loc main_arg5)
abbrev arr6 (c : Dev nD) : FVec Ideal S32x1x1024 .f32 := m ((c : Thread nD τ).loc main_arg6)

/-- The blocks a point reads. -/
theorem blk_x (c : Dev nD) (t : Fin (cfgA T).N) (r : Fin 256) (d : Fin 1024) (h : 256 * min t.val (T.n - 1) + r.val < 167680) :
    (iblk T m ρ c 0 t : FVec Ideal S256x1024 .f32) (ix2 r d) = arr2 m c (ix2 ⟨256 * min t.val (T.n - 1) + r.val, h⟩ d) := by
  blk_ext [iblk, index0 T t]

theorem blk_w (c : Dev nD) (t : Fin (cfgA T).N) (k : Fin 1024) (j : Fin 2048) :
    (iblk T m ρ c 1 t : FVec Ideal S1x1024x2048 .f32) (ix3 0 k j) = arr3 m c (ix3 (expert T t) k j) := by
  blk_ext [iblk, index1 T t]

theorem blk_b (c : Dev nD) (t : Fin (cfgA T).N) (j : Fin 2048) :
    (iblk T m ρ c 2 t : FVec Ideal S1x1x2048 .f32) (ix3 0 0 j) = arr4 m c (ix3 (expert T t) 0 j) := by
  blk_ext [iblk, index2 T t]

theorem blk_wd (c : Dev nD) (t : Fin (cfgA T).N) (k : Fin 1024) (j : Fin 1024) :
    (iblk T m ρ c 3 t : FVec Ideal S1x1024x1024 .f32) (ix3 0 k j) = arr5 m c (ix3 (expert T t) k j) := by
  blk_ext [iblk, index3 T t]

theorem blk_bd (c : Dev nD) (t : Fin (cfgA T).N) (j : Fin 1024) :
    (iblk T m ρ c 4 t : FVec Ideal S1x1x1024 .f32) (ix3 0 0 j) = arr6 m c (ix3 (expert T t) 0 j) := by
  blk_ext [iblk, index4 T t]

theorem prev_point (n : ℕ) (h : n + 1 < 655) : (Scalar.maxsi (Scalar.subi (BitVec.ofNat 32 (n + 1)) 1#32) 0#32 : BitVec 32).toNat + 1 * 0 = n := by
  have e : (Scalar.subi (BitVec.ofNat 32 (n + 1)) 1#32 : BitVec 32) = BitVec.ofNat 32 n := by
    show BitVec.ofNat 32 (n + 1) - 1#32 = BitVec.ofNat 32 n
    apply BitVec.eq_of_toNat_eq
    rw [sub_one _ (by rw [toNat_point _ h]; omega), toNat_point _ h, toNat_point _ (by omega)]
    omega
  rw [e, Nat.mul_zero, Nat.add_zero]
  show (if (0#32).slt (BitVec.ofNat 32 n) then BitVec.ofNat 32 n else 0#32 : BitVec 32).toNat = n
  rw [show (0#32 : BitVec 32) = BitVec.ofNat 32 0 from rfl, slt_point 0 (by omega) _ (by rw [toNat_point _ (by omega)]; omega), toNat_point _ (by omega)]
  by_cases h0 : 0 < n
  · rw [decide_eq_true h0, if_pos rfl, toNat_point _ (by omega)]
  · rw [decide_eq_false h0, if_neg (by decide), toNat_point _ (by omega)]; omega

/-- Away from the first point, the inner branch is left out only where the block's expert is the one before's. -/
theorem same_expert (t t' : Fin (cfgA T).N) (ht : t.val = t'.val + 1) (q : ¬ P0_1 T t) : expert T t = expert T t' := by
  have key : ∀ a b : BitVec 32, ¬ ((Scalar.cmpi .ne (Scalar.extui (Scalar.ori (Scalar.cmpi .eq (BitVec.ofNat 32 ((crd T t) 0).val) 0#32) (Scalar.cmpi .ne a b))) 0#32 : BitVec 1) = 1#1) → a = b := by
    intro a b h
    by_contra hn
    apply h
    have h1 : (Scalar.cmpi .ne a b : BitVec 1) = 1#1 := by simp only [Scalar.cmpi, IntOp.cmpi, bne_iff_ne.2 hn]; rfl
    rw [h1]
    generalize (Scalar.cmpi .eq (BitVec.ofNat 32 ((crd T t) 0).val) 0#32 : BitVec 1) = z
    revert z
    decide
  have h := key _ _ q
  have hp : t'.val + 1 < 655 := by have := t.isLt; rw [ht] at this; exact this
  have hv : ((Rect.unit (s := S655) (k0_off3 (crd T t)) S1.size (k0_off3_inb (crd T t))).emb (Shape.Idx.first (numel1_S1.symm ▸ Nat.one_pos)) 0).val = t'.val := by
    show (Scalar.maxsi (Scalar.subi (BitVec.ofNat 32 ((crd T t) 0).val) 1#32) 0#32 : BitVec 32).toNat + 1 * 0 = t'.val
    rw [crd_val, ht, prev_point _ hp]
  have e := congrArg (fun v : Elt Ideal .i32 => BitVec.toNat v) (table_eq T _ t' hv)
  have e' := congrArg (fun v : BitVec 32 => BitVec.toNat v) h
  have e'' := entry T t ((Rect.unit (s := S655) (k0_off2 (crd T t)) S1.size (k0_off2_inb (crd T t))).emb (Shape.Idx.first (numel1_S1.symm ▸ Nat.one_pos))) rfl
  exact Fin.ext (e''.symm.trans (Eq.trans e' e))

end Cert.Expert
-- ==== Proof.ExpertTile.lean ====
/- A block's rows through one expert, as a function of the block and the expert's weights. -/
module

public import proofs.«01_k».proof.Proof.Gen.Kernel2Ideal.Skeleton
public import Idealize.ShloMosaic.Lib.Pointwise

@[expose] public section

set_option maxRecDepth 16384

noncomputable section

namespace Cert.Expert

open Cert.Kernel2Ideal Cert.Kernel2Ideal.Gen
open Idealize.ShloMosaic Idealize.ShloMosaic.TcCoe

section
variable {F : FTy → Type} [FloatOps F]

/-- The even lanes of a tile. -/
def evens : IVec S256x128 1 := broadcastTo S256x128 (shapeCast S1x128 k0_pay27 shapeCasts_S1x128_S1x128) broadcasts_S1x128_S256x128

/-- Two neighbouring tiles of the activated columns become one: each gated column by its neighbour. -/
def merged (G L : FVec F S256x2048 .f32) (o o' : ℕ) (h : S256x2048.Slices ![0, o] S256x128) (h' : S256x2048.Slices ![0, o'] S256x128) : FVec F S256x128 .f32 :=
  have a : FVec F S256x128 .f32 := select evens (extractStridedSlice S256x128 ![0, o] G h) (extractStridedSlice S256x128 ![0, o] L h)
  have b : FVec F S256x128 .f32 := select evens (extractStridedSlice S256x128 ![0, o'] G h') (extractStridedSlice S256x128 ![0, o'] L h')
  select evens (mulf a (dynamicRotate 1 127#32 none a rotates_S256x128_d1)) (mulf b (dynamicRotate 1 1#32 none b rotates_S256x128_d1))

/-- The eight merged tiles side by side. -/
def merged8 (G L : FVec F S256x2048 .f32) : FVec F S256x1024 .f32 :=
  concatenate S256x1024 1 [⟨S256x128, merged G L 0 128 slices_S256x2048_o0_0_S256x128 slices_S256x2048_o0_128_S256x128⟩,
    ⟨S256x128, merged G L 256 384 slices_S256x2048_o0_256_S256x128 slices_S256x2048_o0_384_S256x128⟩,
    ⟨S256x128, merged G L 512 640 slices_S256x2048_o0_512_S256x128 slices_S256x2048_o0_640_S256x128⟩,
    ⟨S256x128, merged G L 768 896 slices_S256x2048_o0_768_S256x128 slices_S256x2048_o0_896_S256x128⟩,
    ⟨S256x128, merged G L 1024 1152 slices_S256x2048_o0_1024_S256x128 slices_S256x2048_o0_1152_S256x128⟩,
    ⟨S256x128, merged G L 1280 1408 slices_S256x2048_o0_1280_S256x128 slices_S256x2048_o0_1408_S256x128⟩,
    ⟨S256x128, merged G L 1536 1664 slices_S256x2048_o0_1536_S256x128 slices_S256x2048_o0_1664_S256x128⟩,
    ⟨S256x128, merged G L 1792 1920 slices_S256x2048_o0_1792_S256x128 slices_S256x2048_o0_1920_S256x128⟩]
    concatenates_S256x128_S256x128_S256x128_S256x128_S256x128_S256x128_S256x128_S256x128_S256x1024_d1

/-- The second product, and its bias. -/
def down (h : FVec F S256x1024 .f32) (wd : Vec F S1024x1024 .bf16) (bd : Vec F S1x1x1024 .f32) : FVec F S256x1024 .f32 :=
  addf (matmul dot_S256x1024_S1024x1024_S256x1024_1_0_0_1_n_n none (truncf .bf16 h bitsLt_bf16_f32) wd (constant S256x1024 .f32 0x00000000#32))
    (broadcastTo S256x1024 (shapeCast S1x1024 bd shapeCasts_S1x1x1024_S1x1024) broadcasts_S1x1024_S256x1024)

/-- What the body writes of a block, from the block, the two weights and the two biases. -/
def blockOut (x : Vec F S256x1024 .f32) (w : Vec F S1024x2048 .bf16) (b : Vec F S1x1x2048 .f32) (wd : Vec F S1024x1024 .bf16) (bd : Vec F S1x1x1024 .f32) : FVec F S256x1024 .f32 :=
  down (merged8 (k0_pay28 x w b) (k0_pay29 x w b)) wd bd

/-- The body's last payload, with its parts, is that. -/
theorem pay1_eq (x : Vec F S256x1024 .f32) (w : Vec F S1024x2048 .bf16) (b : Vec F S1x1x2048 .f32) (wd : Vec F S1024x1024 .bf16) (bd : Vec F S1x1x1024 .f32) :
    k0_pay1 k0_pay27 (k0_pay28 x w b) (k0_pay29 x w b)
        (k0_pay33 k0_pay27 (k0_pay28 x w b) (k0_pay29 x w b) (k0_pay30 x w b) (k0_pay31 x w b) k0_pay32)
        (k0_pay34 k0_pay27 (k0_pay28 x w b) (k0_pay29 x w b)) (k0_pay35 k0_pay27 (k0_pay28 x w b) (k0_pay29 x w b))
        (k0_pay39 k0_pay27 (k0_pay36 k0_pay27 (k0_pay28 x w b) (k0_pay29 x w b)) (k0_pay37 (k0_pay28 x w b)) (k0_pay38 (k0_pay29 x w b)))
        (k0_pay40 k0_pay27 (k0_pay28 x w b) (k0_pay29 x w b)) (k0_pay41 k0_pay27 (k0_pay28 x w b) (k0_pay29 x w b))
        (k0_pay42 k0_pay27 (k0_pay28 x w b) (k0_pay29 x w b)) (k0_pay43 k0_pay27 (k0_pay28 x w b) (k0_pay29 x w b)) wd bd
      = blockOut x w b wd bd := rfl

end

/-- A block's first product, with its bias, at a row and a column. -/
def pre (x : FVec Ideal S256x1024 .f32) (w : FVec Ideal S1024x2048 .bf16) (b : FVec Ideal S1x1x2048 .f32) (r : Fin 256) (j : Fin 2048) : EReal :=
  ∑ k : Fin 1024, (x (ix2 r k) : EReal) * w (ix2 k j) + b (ix3 0 0 j)

/-- The gated activation of a column's value, -/
def gate (g : EReal) : EReal :=
  min g (Ideal.ofBits .f32 0x40E00000#32) * Ideal.logistic (Ideal.ofBits .f32 0x3FD9DB23#32 * min g (Ideal.ofBits .f32 0x40E00000#32))

/-- the clipped value its neighbour takes, one added. -/
def lin (l : EReal) : EReal :=
  min (Ideal.ofBits .f32 0x40E00000#32) (max (Ideal.ofBits .f32 0xC0E00000#32) l) + Ideal.ofBits .f32 0x3F800000#32

theorem pay28_apply (x : FVec Ideal S256x1024 .f32) (w : FVec Ideal S1024x2048 .bf16) (b : FVec Ideal S1x1x2048 .f32) (r : Fin 256) (j : Fin 2048) :
    k0_pay28 (F := Ideal) x w b (ix2 r j) = gate (pre x w b r j) := by
  pointwise [k0_pay28, k0_pay26, gate, pre]

theorem pay29_apply (x : FVec Ideal S256x1024 .f32) (w : FVec Ideal S1024x2048 .bf16) (b : FVec Ideal S1x1x2048 .f32) (r : Fin 256) (j : Fin 2048) :
    k0_pay29 (F := Ideal) x w b (ix2 r j) = lin (pre x w b r j) := by
  pointwise [k0_pay29, k0_pay26, lin, pre]

/-- A lane's test is that its number is even. -/
theorem even_lane (n : ℕ) (hn : n < 128) : IntOp.cmpi .eq (IntOp.andi (BitVec.ofNat 32 n) 1#32) 0#32 = if n % 2 = 0 then 1#1 else 0#1 :=
  (by decide : ∀ l : Fin 128, IntOp.cmpi .eq (IntOp.andi (BitVec.ofNat 32 l.val) 1#32) 0#32 = if l.val % 2 = 0 then 1#1 else 0#1) ⟨n, hn⟩

/-- A merged tile at a lane: a gated column by its neighbour. -/
theorem merged_apply (G L : FVec Ideal S256x2048 .f32) (o o' : ℕ) (h : S256x2048.Slices ![0, o] S256x128) (h' : S256x2048.Slices ![0, o'] S256x128)
    (r : Fin 256) (l : Fin 128) (j : Fin 1024) (hj : l.val % 2 = 0 → 2 * j.val = o + l.val) (hj' : l.val % 2 = 1 → 2 * j.val + 1 = o' + l.val) :
    merged G L o o' h h' (ix2 r l) = (G (ix2 r ⟨2 * j.val, by omega⟩) : EReal) * L (ix2 r ⟨2 * j.val + 1, by omega⟩) := by
  pointwise [merged, evens, k0_pay27]
  rw [even_lane l.val l.isLt, even_lane ((l.val + 128 - 127) % 128) (by omega), even_lane ((l.val + 128 - 1) % 128) (by omega)]
  rcases Nat.mod_two_eq_zero_or_one l.val with e | e
  · have := hj e
    rw [if_pos e, if_neg (by omega : ¬ (l.val + 128 - 127) % 128 % 2 = 0)]
    exact congrArg₂ (fun a b : EReal => a * b)
      (congrArg (fun k => G (ix2 r k)) (show (⟨o + l.val, by omega⟩ : Fin 2048) = ⟨2 * j.val, by omega⟩ from Fin.ext (by simp only; omega)))
      (congrArg (fun k => L (ix2 r k)) (show (⟨o + (l.val + 128 - 127) % 128, by omega⟩ : Fin 2048) = ⟨2 * j.val + 1, by omega⟩ from Fin.ext (by simp only; omega)))
  · have := hj' e
    rw [if_neg (by omega : ¬ l.val % 2 = 0), if_pos (by omega : (l.val + 128 - 1) % 128 % 2 = 0)]
    refine Eq.trans (congrArg₂ (fun a b : EReal => a * b)
      (congrArg (fun k => L (ix2 r k)) (show (⟨o' + l.val, by omega⟩ : Fin 2048) = ⟨2 * j.val + 1, by omega⟩ from Fin.ext (by simp only; omega)))
      (congrArg (fun k => G (ix2 r k)) (show (⟨o' + (l.val + 128 - 1) % 128, by omega⟩ : Fin 2048) = ⟨2 * j.val, by omega⟩ from Fin.ext (by simp only; omega)))) (mul_comm _ _)

/-- The gate and its neighbour the merged columns' place `x` holds. -/
def tau (x : Fin 1024) : Fin 1024 := ⟨128 * (x.val / 128) + 64 * (x.val % 128 % 2) + x.val % 128 / 2, by omega⟩

theorem merged8_apply (G L : FVec Ideal S256x2048 .f32) (r : Fin 256) (x : Fin 1024) :
    merged8 G L (ix2 r x) = (G (ix2 r ⟨2 * (tau x).val, by omega⟩) : EReal) * L (ix2 r ⟨2 * (tau x).val + 1, by omega⟩) := by
  pointwise [merged8]
  repeat' split
  all_goals
    refine merged_apply G L _ _ _ _ r _ (tau x) (fun e => ?_) (fun e => ?_) <;> (simp only [tau] at e ⊢; omega)

/-- A block's row through the expert, at a column of the model. -/
theorem blockOut_apply (x : FVec Ideal S256x1024 .f32) (w : FVec Ideal S1024x2048 .bf16) (b : FVec Ideal S1x1x2048 .f32) (wd : FVec Ideal S1024x1024 .bf16) (bd : FVec Ideal S1x1x1024 .f32)
    (r : Fin 256) (d : Fin 1024) :
    blockOut (F := Ideal) x w b wd bd (ix2 r d)
      = ∑ k : Fin 1024, gate (pre x w b r ⟨2 * (tau k).val, by omega⟩) * lin (pre x w b r ⟨2 * (tau k).val + 1, by omega⟩) * wd (ix2 k d) + bd (ix3 0 0 d) := by
  pointwise [blockOut, down, merged8_apply, pay28_apply, pay29_apply]

end Cert.Expert

end
-- ==== Proof.ExpertBlock.lean ====
/- What the body leaves on each of its paths: the block's rows, and the two scratches. -/
module

public import proofs.«01_k».proof.Proof.ExpertBody
public import proofs.«01_k».proof.Proof.ExpertTile
public import Idealize.ShloMosaic.Lib.Writes
public import Idealize.ShloMosaic.Lib.VecWindow
public import Idealize.ShloMosaic.Lib.Pointwise

@[expose] public section

set_option maxRecDepth 16384

noncomputable section

namespace Cert.Expert

open Cert.Kernel2Ideal Cert.Kernel2Ideal.Gen
open Idealize.ShloMosaic Idealize.ShloMosaic.TcCoe Idealize.SL.Sem

section
variable {F : FTy → Type} [FloatOps F]

/-- Where the weights are copied, the first scratch is left at these writes, -/
theorem scratch0_A (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    (kernelRun0_A c i arg3 harg3 arg4 harg4 arg5 harg5 arg6 harg6 arg7 harg7 arg8 harg8 T0 T1 x0 x1 x2 x3 x4 k0_h1 hc1 k0_h3).2.1 = scM0_0.view.writes (Elt F) scM0_0.view.junk (kernelRun0_A.sl.HS0_8 arg4 x1) := by
  unfold kernelRun0_A; dsimp only

/-- and the second at these. -/
theorem scratch1_A (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    (kernelRun0_A c i arg3 harg3 arg4 harg4 arg5 harg5 arg6 harg6 arg7 harg7 arg8 harg8 T0 T1 x0 x1 x2 x3 x4 k0_h1 hc1 k0_h3).2.2.1 = scM0_1.view.writes (Elt F) scM0_1.view.junk (kernelRun0_A.sl.HS1_8 arg6 x3) := by
  unfold kernelRun0_A; dsimp only

/-- Elsewhere they are left as they were. -/
theorem scratch0_B (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1)) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    (kernelRun0_B c i arg3 harg3 arg4 harg4 arg5 harg5 arg6 harg6 arg7 harg7 arg8 harg8 T0 T1 x0 x1 x2 x3 x4 xa0 xa1 k0_h1 hc1 k0_h3).2.1 = xa0 := rfl
theorem scratch1_B (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1)) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    (kernelRun0_B c i arg3 harg3 arg4 harg4 arg5 harg5 arg6 harg6 arg7 harg7 arg8 harg8 T0 T1 x0 x1 x2 x3 x4 xa0 xa1 k0_h1 hc1 k0_h3).2.2.1 = xa1 := rfl
theorem scratch0_C (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h3 : k0_cond3 i (View.readAt (Elt F) (tbM0_1).view (Rect.unit (s := S1) ![0] S1.size inb_S1_S1_0).toLoadRect T1 (Shape.Idx.first (numel1_S1.symm ▸ Nat.one_pos))) = 1#1) :
    (kernelRun0_C c i arg3 harg3 arg4 harg4 arg5 harg5 arg6 harg6 arg7 harg7 arg8 harg8 T0 T1 x0 x1 x2 x3 x4 xa0 xa1 k0_h1 k0_h3).2.1 = xa0 := rfl
theorem scratch1_C (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h3 : k0_cond3 i (View.readAt (Elt F) (tbM0_1).view (Rect.unit (s := S1) ![0] S1.size inb_S1_S1_0).toLoadRect T1 (Shape.Idx.first (numel1_S1.symm ▸ Nat.one_pos))) = 1#1) :
    (kernelRun0_C c i arg3 harg3 arg4 harg4 arg5 harg5 arg6 harg6 arg7 harg7 arg8 harg8 T0 T1 x0 x1 x2 x3 x4 xa0 xa1 k0_h1 k0_h3).2.2.1 = xa1 := rfl

/-- What is read of the first scratch after its writes, -/
theorem v21_eq (arg4 : Memref sig .tc .vmem S1x1024x2048 .f32) (x1 : S1x1024x2048.Idx → Elt F .f32) :
    kernelRun0_A.sl.v21 arg4 x1 = scM0_0.view.read (Elt F) (scM0_0.view.writes (Elt F) scM0_0.view.junk (kernelRun0_A.sl.HS0_8 arg4 x1)) := by
  unfold kernelRun0_A.sl.v21
  generalize kernelRun0_A.sl.HS0_8 arg4 x1 = L
  exact View.readAt_full _ _ _

/-- and of the second. -/
theorem v182_eq (arg6 : Memref sig .tc .vmem S1x1024x1024 .f32) (x3 : S1x1024x1024.Idx → Elt F .f32) :
    kernelRun0_A.sl.v182 arg6 x3 = scM0_1.view.read (Elt F) (scM0_1.view.writes (Elt F) scM0_1.view.junk (kernelRun0_A.sl.HS1_8 arg6 x3)) := by
  unfold kernelRun0_A.sl.v182
  generalize kernelRun0_A.sl.HS1_8 arg6 x3 = L
  exact View.readAt_full _ _ _

/-- Where the weights are copied, the block's rows are through what was copied. -/
theorem out_A (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : (Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    out0_A_5 c i arg3 harg3 arg4 harg4 arg5 harg5 arg6 harg6 arg7 harg7 arg8 harg8 T0 T1 x0 x1 x2 x3 x4 k0_h1 hc1 k0_h3
      = blockOut x0 (scM0_0.view.read (Elt F) (scM0_0.view.writes (Elt F) scM0_0.view.junk (kernelRun0_A.sl.HS0_8 arg4 x1))) x2
          (scM0_1.view.read (Elt F) (scM0_1.view.writes (Elt F) scM0_1.view.junk (kernelRun0_A.sl.HS1_8 arg6 x3))) x4 := by
  unfold out0_A_5 kernelRun0_A
  dsimp only
  unfold kernelRun0_A.sl.HO5_1
  refine (View.read_writes_full VO0_5 _ _ _ _).trans ?_
  unfold kernelRun0_A.sl.r_20 kernelRun0_A.sl.r_19 kernelRun0_A.sl.r_18 kernelRun0_A.sl.r_17 kernelRun0_A.sl.r_16 kernelRun0_A.sl.r_15 kernelRun0_A.sl.r_14
    kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6
  rw [v21_eq, v182_eq, View.readAt_rep_full, View.readAt_rep_full, View.readAt_rep_full]
  exact pay1_eq _ _ _ _ _

/-- Where they are not, the block's rows are through what the scratches hold, -/
theorem out_B (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : k0_cond1 i (View.readAt (Elt F) (tbM0_1).view (Rect.unit (s := S1) ![0] S1.size inb_S1_S1_0).toLoadRect T1 (Shape.Idx.first (numel1_S1.symm ▸ Nat.one_pos))) = 1#1) (hc1 : ¬((Scalar.cmpi .ne (Scalar.extui (Scalar.ori (Scalar.cmpi .eq (BitVec.ofNat 32 (i 0).val) 0#32) (Scalar.cmpi .ne (View.readAt (Elt F) (tbM0_0).view (Rect.unit (s := S655) (k0_off2 i) S1.size (k0_off2_inb i)).toLoadRect T0 (Shape.Idx.first (numel1_S1.symm ▸ Nat.one_pos))) (View.readAt (Elt F) (tbM0_0).view (Rect.unit (s := S655) (k0_off3 i) S1.size (k0_off3_inb i)).toLoadRect T0 (Shape.Idx.first (numel1_S1.symm ▸ Nat.one_pos)))))) 0#32) = 1#1)) (k0_h3 : ¬(k0_cond3 i (View.readAt (Elt F) (tbM0_1).view (Rect.unit (s := S1) ![0] S1.size inb_S1_S1_0).toLoadRect T1 (Shape.Idx.first (numel1_S1.symm ▸ Nat.one_pos))) = 1#1)) :
    out0_B_5 c i arg3 harg3 arg4 harg4 arg5 harg5 arg6 harg6 arg7 harg7 arg8 harg8 T0 T1 x0 x1 x2 x3 x4 xa0 xa1 k0_h1 hc1 k0_h3 = blockOut x0 (scM0_0.view.read (Elt F) xa0) x2 (scM0_1.view.read (Elt F) xa1) x4 := by
  unfold out0_B_5 kernelRun0_B
  dsimp only
  unfold kernelRun0_B.sl.HO5_1
  refine (View.read_writes_full VO0_5 _ _ _ _).trans ?_
  unfold kernelRun0_B.sl.r_17 kernelRun0_B.sl.r_16 kernelRun0_B.sl.r_15 kernelRun0_B.sl.r_14 kernelRun0_B.sl.r_13 kernelRun0_B.sl.r_12 kernelRun0_B.sl.r_11
    kernelRun0_B.sl.r_10 kernelRun0_B.sl.r_9 kernelRun0_B.sl.r_8 kernelRun0_B.sl.r_7 kernelRun0_B.sl.r_6 kernelRun0_B.sl.r_5 kernelRun0_B.sl.r_4 kernelRun0_B.sl.r_3
  rw [View.readAt_rep_full, View.readAt_rep_full, View.readAt_rep_full]
  refine Eq.trans ?_ (pay1_eq _ _ _ _ _)
  rw [← View.readAt_full scM0_0.view xa0 inb_S1024x2048_S1024x2048_0_0, ← View.readAt_full scM0_1.view xa1 inb_S1024x1024_S1024x1024_0_0]

/-- and past the blocks in use they are zeros. -/
theorem out_C (c : Dev nD) (i : grid0.Coords) (arg3 : Memref sig .tc .vmem S256x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S256x1024 .f32) (harg8 : arg8.IsWhole) (T0 : (S655.Idx → Elt F .i32)) (T1 : (S1.Idx → Elt F .i32))
     (x0 : (S256x1024.Idx → Elt F .f32)) (x1 : (S1x1024x2048.Idx → Elt F .f32)) (x2 : (S1x1x2048.Idx → Elt F .f32)) (x3 : (S1x1024x1024.Idx → Elt F .f32)) (x4 : (S1x1x1024.Idx → Elt F .f32)) (xa0 : Buf (Elt F) ((c : Thread nD τ).loc cc0_scratch0)) (xa1 : Buf (Elt F) ((c : Thread nD τ).loc cc0_scratch1)) (k0_h1 : ¬(k0_cond1 i (View.readAt (Elt F) (tbM0_1).view (Rect.unit (s := S1) ![0] S1.size inb_S1_S1_0).toLoadRect T1 (Shape.Idx.first (numel1_S1.symm ▸ Nat.one_pos))) = 1#1)) (k0_h3 : k0_cond3 i (View.readAt (Elt F) (tbM0_1).view (Rect.unit (s := S1) ![0] S1.size inb_S1_S1_0).toLoadRect T1 (Shape.Idx.first (numel1_S1.symm ▸ Nat.one_pos))) = 1#1) :
    out0_C_5 c i arg3 harg3 arg4 harg4 arg5 harg5 arg6 harg6 arg7 harg7 arg8 harg8 T0 T1 x0 x1 x2 x3 x4 xa0 xa1 k0_h1 k0_h3 = k0_pay2 := by
  unfold out0_C_5 kernelRun0_C
  dsimp only
  exact View.read_writes_full VO0_5 _ _ _ _

end

end Cert.Expert

end
-- ==== Proof.ExpertScratch.lean ====
/- What the two scratches hold once the weights are copied: an expert's weights, the second's rows taken in the merged columns' order. -/
module

public import proofs.«01_k».proof.Proof.ExpertBlock
public import Idealize.ShloMosaic.Lib.Ring
public import Idealize.ShloMosaic.Lib.Tactic

@[expose] public section

set_option maxRecDepth 16384

noncomputable section

namespace Cert.Expert

open Cert.Kernel2Ideal Cert.Kernel2Ideal.Gen
open Idealize.ShloMosaic Idealize.ShloMosaic.TcCoe

/-- An expert's first weights as rows. -/
def rows0 (x1 : FVec Ideal S1x1024x2048 .f32) : FVec Ideal S1024x2048 .bf16 := fun y => x1 (ix3 0 (y 0) (y 1))

/-- An expert's second weights as rows, in the merged columns' order. -/
def rows1 (x3 : FVec Ideal S1x1024x1024 .f32) : FVec Ideal S1024x1024 .bf16 := fun y => x3 (ix3 0 (tau (y 0)) (y 1))

/-- A copied piece is rows of the weights. -/
theorem piece0 (v : View sig .tc .vmem S1x1024x2048 .f32) (w : FVec Ideal S1x1024x2048 .f32) (o : ℕ) (inb : ∀ a, (![0, o, 0] : Fin 3 → ℕ) a + S1x128x2048.size a ≤ S1x1024x2048.size a)
    (inb' : ∀ a, (![o, 0] : Fin 2 → ℕ) a + S128x2048.size a ≤ S1024x2048.size a) (y : S128x2048.Idx) :
    k0_pay3 (F := Ideal) (v.readAt (Elt Ideal) (Rect.unit (s := S1x1024x2048) ![0, o, 0] S1x128x2048.size inb).toLoadRect (v.rep w)) y
      = rows0 w ((Rect.unit (s := S1024x2048) ![o, 0] S128x2048.size inb').emb y) := by
  have e := View.readAt_rep_unit (Val := Elt Ideal) v w inb rfl inb
  refine (congrFun (congrArg (k0_pay3 (F := Ideal)) e) y).trans ?_
  idx_vars y
  pointwise [k0_pay3]
  refine congrArg w (funext fun a => Fin.ext ?_)
  fin_cases a
  all_goals rfl

/-- The first scratch is left at the expert's first weights. -/
theorem scratch0_read (arg4 : Memref sig .tc .vmem S1x1024x2048 .f32) (x1 : FVec Ideal S1x1024x2048 .f32) :
    scM0_0.view.read (Elt Ideal) (scM0_0.view.writes (Elt Ideal) scM0_0.view.junk (kernelRun0_A.sl.HS0_8 (F := Ideal) arg4 x1)) = rows0 x1 := by
  funext y
  refine View.read_writes_apply_of_pieces _ _ (rows0 x1) (kernelRun0_A.sl.HS0_8 (F := Ideal) arg4 x1) ?_ y (View.cover_of_tiledL (kernelRun0_A.sl.HS0_8 (F := Ideal) arg4 x1) S128x2048.size (by sl_kernel_rfl) y)
  unfold kernelRun0_A.sl.HS0_8
  simp only [List.forall_mem_cons]
  refine ⟨?_, ?_, ?_, ?_, ?_, ?_, ?_, ?_, by simp⟩
  all_goals exact fun x => piece0 arg4.view x1 _ _ _ x

/-- A lane's place before the merge. -/
def sigma (a : Fin 128) : Fin 128 := ⟨64 * (a.val % 2) + a.val / 2, by omega⟩

/-- The permutation's row, as a word. -/
theorem perm_word : ∀ a : Fin 128, IntOp.addi (IntOp.muli 64#32 (IntOp.andi (BitVec.ofNat 32 a.val) 1#32)) (IntOp.shrsi ArithUnit.vector (BitVec.ofNat 32 a.val) 1#32) = BitVec.ofNat 32 (sigma a).val := by
  decide

/-- Two lanes' words are equal exactly where the lanes are. -/
theorem word_eq (k a : Fin 128) : IntOp.cmpi .eq (BitVec.ofNat 32 k.val) (BitVec.ofNat 32 a.val) = if k = a then 1#1 else 0#1 := by
  by_cases h : k = a
  · subst h
    rw [if_pos rfl]
    exact congrArg BitVec.ofBool (decide_eq_true rfl)
  · rw [if_neg h]
    refine congrArg BitVec.ofBool (decide_eq_false fun e => h (Fin.ext ?_))
    have := congrArg BitVec.toNat e
    simp only [BitVec.toNat_ofNat] at this
    omega

/-- A permuted piece is rows of the weights, taken in the merged columns' order. -/
theorem piece1 (v : View sig .tc .vmem S1x1024x1024 .f32) (w : FVec Ideal S1x1024x1024 .f32) (p : Fin 8) (inb : ∀ a, (![0, 128 * p.val, 0] : Fin 3 → ℕ) a + S1x128x1024.size a ≤ S1x1024x1024.size a)
    (inb' : ∀ a, (![128 * p.val, 0] : Fin 2 → ℕ) a + S128x1024.size a ≤ S1024x1024.size a) (y : S128x1024.Idx) :
    k0_pay4 (F := Ideal) (v.readAt (Elt Ideal) (Rect.unit (s := S1x1024x1024) ![0, 128 * p.val, 0] S1x128x1024.size inb).toLoadRect (v.rep w)) y
      = rows1 w ((Rect.unit (s := S1024x1024) ![128 * p.val, 0] S128x1024.size inb').emb y) := by
  have e := View.readAt_rep_unit (Val := Elt Ideal) v w inb rfl inb
  refine (congrFun (congrArg (k0_pay4 (F := Ideal)) e) y).trans ?_
  idx_vars y
  pointwise [k0_pay4]
  rw [perm_word y0]
  refine (Finset.sum_eq_single (sigma y0) (fun k _ hk => ?_) fun h => absurd (Finset.mem_univ _) h).trans ?_
  · rw [(word_eq k (sigma y0)).trans (if_neg hk)]
    rfl
  · rw [(word_eq (sigma y0) (sigma y0)).trans (if_pos rfl)]
    refine congrArg w (funext fun a => Fin.ext ?_)
    fin_cases a
    · rfl
    · show 128 * p.val + 1 * (64 * (y0.val % 2) + y0.val / 2) = 128 * ((128 * p.val + 1 * y0.val) / 128) + 64 * ((128 * p.val + 1 * y0.val) % 128 % 2) + (128 * p.val + 1 * y0.val) % 128 / 2
      omega
    · rfl

/-- The second scratch is left at the expert's second weights, in the merged columns' order. -/
theorem scratch1_read (arg6 : Memref sig .tc .vmem S1x1024x1024 .f32) (x3 : FVec Ideal S1x1024x1024 .f32) :
    scM0_1.view.read (Elt Ideal) (scM0_1.view.writes (Elt Ideal) scM0_1.view.junk (kernelRun0_A.sl.HS1_8 (F := Ideal) arg6 x3)) = rows1 x3 := by
  funext y
  refine View.read_writes_apply_of_pieces _ _ (rows1 x3) (kernelRun0_A.sl.HS1_8 (F := Ideal) arg6 x3) ?_ y (View.cover_of_tiledL (kernelRun0_A.sl.HS1_8 (F := Ideal) arg6 x3) S128x1024.size (by sl_kernel_rfl) y)
  unfold kernelRun0_A.sl.HS1_8
  simp only [List.forall_mem_cons]
  refine ⟨?_, ?_, ?_, ?_, ?_, ?_, ?_, ?_, by simp⟩
  · exact fun x => piece1 arg6.view x3 7 _ _ x
  · exact fun x => piece1 arg6.view x3 6 _ _ x
  · exact fun x => piece1 arg6.view x3 5 _ _ x
  · exact fun x => piece1 arg6.view x3 4 _ _ x
  · exact fun x => piece1 arg6.view x3 3 _ _ x
  · exact fun x => piece1 arg6.view x3 2 _ _ x
  · exact fun x => piece1 arg6.view x3 1 _ _ x
  · exact fun x => piece1 arg6.view x3 0 _ _ x

end Cert.Expert

end
-- ==== Proof.ExpertValue.lean ====
/- The expert kernel's result: every block in use is its expert's, and the blocks after are zero. -/
module

public import proofs.«01_k».proof.Proof.ExpertBlocks
public import proofs.«01_k».proof.Proof.ExpertScratch
public import Idealize.ShloMosaic.Lib.Pipeline.Covers

@[expose] public section

set_option maxRecDepth 16384

noncomputable section

namespace Cert.Expert

open Cert.Kernel2Ideal Cert.Kernel2Ideal.Gen
open Idealize.ShloMosaic
open Idealize.ShloMosaic.TcCoe Idealize.ShloMosaic.Tactic
open Idealize.SL.Sem
open Idealize.ShloMosaic.Pipeline (Dat Cfg Window)

variable (T : Tables Ideal) (m : (ℓ : Loc nD τ sig) → Buf (Elt Ideal) ℓ) (ρ : Dev nD → PrngReg)

/-- The weights a point's scratches hold: its expert's. -/
def wts0 (c : Dev nD) (e : Fin 32) : FVec Ideal S1024x2048 .bf16 := fun y => arr3 m c (ix3 e (y 0) (y 1))
def wts1 (c : Dev nD) (e : Fin 32) : FVec Ideal S1024x1024 .bf16 := fun y => arr5 m c (ix3 e (tau (y 0)) (y 1))

theorem rows0_blk (c : Dev nD) (t : Fin (cfgA T).N) : rows0 (iblk T m ρ c 1 t) = wts0 m c (expert T t) :=
  funext fun y => blk_w T m ρ c t (y 0) (y 1)
theorem rows1_blk (c : Dev nD) (t : Fin (cfgA T).N) : rows1 (iblk T m ρ c 3 t) = wts1 m c (expert T t) :=
  funext fun y => blk_wd T m ρ c t (tau (y 0)) (y 1)

/-- What a point leaves, from what the point before left: where the weights are copied, -/
theorem step_A (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) (q1 : P0_1 T t) :
    (step0 T m ρ c t prev).1 = blockOut (F := Ideal) (iblk T m ρ c 0 t) (wts0 m c (expert T t)) (iblk T m ρ c 2 t) (wts1 m c (expert T t)) (iblk T m ρ c 4 t) := by
  have h := out_A (F := Ideal) c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) (hypsR0_A T t q0 q1).1 (hypsR0_A T t q0 q1).2.1 (hypsR0_A T t q0 q1).2.2.1
  have e := congrArg Prod.fst (step0_A T m ρ c t prev q0 q1)
  dsimp only at e
  rw [e, h]
  exact congrArg₂ (fun a b => blockOut (F := Ideal) (iblk T m ρ c 0 t) a (iblk T m ρ c 2 t) b (iblk T m ρ c 4 t)) ((scratch0_read (ms0_1 T t) (iblk T m ρ c 1 t)).trans (rows0_blk T m ρ c t))
    ((scratch1_read (ms0_3 T t) (iblk T m ρ c 3 t)).trans (rows1_blk T m ρ c t))

theorem step_A0 (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) (q1 : P0_1 T t) :
    scM0_0.view.read (Elt Ideal) (step0 T m ρ c t prev).2.1 = wts0 m c (expert T t) := by
  have h := scratch0_A (F := Ideal) c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) (hypsR0_A T t q0 q1).1 (hypsR0_A T t q0 q1).2.1 (hypsR0_A T t q0 q1).2.2.1
  have e := congrArg (fun p => p.2.1) (step0_A T m ρ c t prev q0 q1)
  dsimp only at e
  rw [e, h]
  exact (scratch0_read (ms0_1 T t) (iblk T m ρ c 1 t)).trans (rows0_blk T m ρ c t)

theorem step_A1 (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) (q1 : P0_1 T t) :
    scM0_1.view.read (Elt Ideal) (step0 T m ρ c t prev).2.2 = wts1 m c (expert T t) := by
  have h := scratch1_A (F := Ideal) c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) (hypsR0_A T t q0 q1).1 (hypsR0_A T t q0 q1).2.1 (hypsR0_A T t q0 q1).2.2.1
  have e := congrArg (fun p => p.2.2) (step0_A T m ρ c t prev q0 q1)
  dsimp only at e
  rw [e, h]
  exact (scratch1_read (ms0_3 T t) (iblk T m ρ c 3 t)).trans (rows1_blk T m ρ c t)

/-- where they are kept, -/
theorem step_B (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) (q1 : ¬ P0_1 T t)
    (h0 : scM0_0.view.read (Elt Ideal) prev.2.1 = wts0 m c (expert T t)) (h1 : scM0_1.view.read (Elt Ideal) prev.2.2 = wts1 m c (expert T t)) :
    (step0 T m ρ c t prev).1 = blockOut (F := Ideal) (iblk T m ρ c 0 t) (wts0 m c (expert T t)) (iblk T m ρ c 2 t) (wts1 m c (expert T t)) (iblk T m ρ c 4 t) := by
  have h := out_B (F := Ideal) c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) prev.2.1 prev.2.2 (hypsR0_B T t q0 q1).1 (hypsR0_B T t q0 q1).2.1 (hypsR0_B T t q0 q1).2.2.1
  have e := congrArg Prod.fst (step0_B T m ρ c t prev q0 q1)
  dsimp only at e
  rw [e, h]
  exact congrArg₂ (fun a b => blockOut (F := Ideal) (iblk T m ρ c 0 t) a (iblk T m ρ c 2 t) b (iblk T m ρ c 4 t)) h0 h1

theorem step_B0 (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) (q1 : ¬ P0_1 T t)
    (h0 : scM0_0.view.read (Elt Ideal) prev.2.1 = wts0 m c (expert T t)) : scM0_0.view.read (Elt Ideal) (step0 T m ρ c t prev).2.1 = wts0 m c (expert T t) :=
  (congrArg (scM0_0.view.read (Elt Ideal)) ((congrArg (fun p => p.2.1) (step0_B T m ρ c t prev q0 q1)).trans
    (scratch0_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) prev.2.1 prev.2.2 (hypsR0_B T t q0 q1).1 (hypsR0_B T t q0 q1).2.1 (hypsR0_B T t q0 q1).2.2.1))).trans h0

theorem step_B1 (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t) (q1 : ¬ P0_1 T t)
    (h1 : scM0_1.view.read (Elt Ideal) prev.2.2 = wts1 m c (expert T t)) : scM0_1.view.read (Elt Ideal) (step0 T m ρ c t prev).2.2 = wts1 m c (expert T t) :=
  (congrArg (scM0_1.view.read (Elt Ideal)) ((congrArg (fun p => p.2.2) (step0_B T m ρ c t prev q0 q1)).trans
    (scratch1_B c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) prev.2.1 prev.2.2 (hypsR0_B T t q0 q1).1 (hypsR0_B T t q0 q1).2.1 (hypsR0_B T t q0 q1).2.2.1))).trans h1

/-- and where the block is not in use. -/
theorem step_C (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : ¬ P0_0 T t) : (step0 T m ρ c t prev).1 = k0_pay2 (F := Ideal) :=
  (congrArg Prod.fst (step0_C T m ρ c t prev q0)).trans (out_C c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) T.be T.nu (iblk T m ρ c 0 t) (iblk T m ρ c 1 t) (iblk T m ρ c 2 t) (iblk T m ρ c 3 t) (iblk T m ρ c 4 t) prev.2.1 prev.2.2 (hypsR0_C T t q0).1 (hypsR0_C T t q0).2.1)

theorem step_used (c : Dev nD) (t : Fin (cfgA T).N) (prev : (S256x1024.Idx → Elt Ideal .f32) × Buf (Elt Ideal) ((c : Thread nD τ).loc cc0_scratch0) × Buf (Elt Ideal) ((c : Thread nD τ).loc cc0_scratch1)) (q0 : P0_0 T t)
    (hp : ¬ P0_1 T t → scM0_0.view.read (Elt Ideal) prev.2.1 = wts0 m c (expert T t) ∧ scM0_1.view.read (Elt Ideal) prev.2.2 = wts1 m c (expert T t)) :
    (step0 T m ρ c t prev).1 = blockOut (F := Ideal) (iblk T m ρ c 0 t) (wts0 m c (expert T t)) (iblk T m ρ c 2 t) (wts1 m c (expert T t)) (iblk T m ρ c 4 t)
      ∧ scM0_0.view.read (Elt Ideal) (step0 T m ρ c t prev).2.1 = wts0 m c (expert T t)
      ∧ scM0_1.view.read (Elt Ideal) (step0 T m ρ c t prev).2.2 = wts1 m c (expert T t) := by
  by_cases q1 : P0_1 T t
  · exact ⟨step_A T m ρ c t prev q0 q1, step_A0 T m ρ c t prev q0 q1, step_A1 T m ρ c t prev q0 q1⟩
  · exact ⟨step_B T m ρ c t prev q0 q1 (hp q1).1 (hp q1).2, step_B0 T m ρ c t prev q0 q1 (hp q1).1, step_B1 T m ρ c t prev q0 q1 (hp q1).2⟩

/-- A block in use: its expert's, and the scratches hold its expert's weights. -/
theorem traj_used (c : Dev nD) : ∀ (n : ℕ) (h : n < (cfgA T).N), n < T.n →
    (traj0 T m ρ c n h).1 = blockOut (F := Ideal) (iblk T m ρ c 0 ⟨n, h⟩) (wts0 m c (expert T ⟨n, h⟩)) (iblk T m ρ c 2 ⟨n, h⟩) (wts1 m c (expert T ⟨n, h⟩)) (iblk T m ρ c 4 ⟨n, h⟩)
      ∧ scM0_0.view.read (Elt Ideal) (traj0 T m ρ c n h).2.1 = wts0 m c (expert T ⟨n, h⟩)
      ∧ scM0_1.view.read (Elt Ideal) (traj0 T m ρ c n h).2.2 = wts1 m c (expert T ⟨n, h⟩)
  | 0, h, hn => step_used T m ρ c ⟨0, h⟩ _ ((P0_0_iff T ⟨0, h⟩).2 hn) fun q => absurd (P0_1_zero T ⟨0, h⟩ rfl) q
  | n + 1, h, hn => step_used T m ρ c ⟨n + 1, h⟩ (traj0 T m ρ c n (by omega)) ((P0_0_iff T ⟨n + 1, h⟩).2 hn) fun q => by
      rw [same_expert T ⟨n + 1, h⟩ ⟨n, by omega⟩ rfl q]
      exact (traj_used c n (by omega) (by omega)).2

/-- A block after them is zero. -/
theorem traj_rest (c : Dev nD) (t : Fin (cfgA T).N) (hn : ¬ t.val < T.n) : (traj0 T m ρ c t.val t.isLt).1 = k0_pay2 (F := Ideal) := by
  have q0 : ¬ P0_0 T t := fun q => hn ((P0_0_iff T t).1 q)
  exact (congrArg Prod.fst (traj0_eq T m ρ c t)).trans (step_C T m ρ c t _ q0)

/-- A row's gated product before the second weights, at a pair of columns. -/
def act (x : Fin 1024 → EReal) (w : Fin 1024 → Fin 2048 → EReal) (b : Fin 2048 → EReal) (j : Fin 1024) : EReal :=
  gate (∑ k : Fin 1024, x k * w k ⟨2 * j.val, by omega⟩ + b ⟨2 * j.val, by omega⟩) * lin (∑ k : Fin 1024, x k * w k ⟨2 * j.val + 1, by omega⟩ + b ⟨2 * j.val + 1, by omega⟩)

/-- A row of a block, by its expert, at a column. -/
def blockAt (c : Dev nD) (t : Fin 655) (s : Fin 167680) (d : Fin 1024) : EReal :=
  ∑ j : Fin 1024, act (fun k => arr2 m c (ix2 s k)) (fun k l => arr3 m c (ix3 (expert T t) k l)) (fun l => arr4 m c (ix3 (expert T t) 0 l)) j * arr5 m c (ix3 (expert T t) j d)
    + arr6 m c (ix3 (expert T t) 0 d)

/-- The result, entry by entry. -/
def kout (c : Dev nD) : FVec Ideal S167680x1024 .f32 := fun i =>
  if (i 0).val / 256 < T.n then blockAt T m c ⟨(i 0).val / 256, by have : (i 0).val < 167680 := (i 0).isLt; omega⟩ (i 0) (i 1) else (0 : EReal)

theorem kout_apply (c : Dev nD) (t : Fin 655) (r : Fin 256) (d : Fin 1024) (hr : 256 * t.val + r.val < 167680) :
    kout T m c (ix2 ⟨256 * t.val + r.val, hr⟩ d) = if t.val < T.n then blockAt T m c t ⟨256 * t.val + r.val, hr⟩ d else (0 : EReal) := by
  have hq : (256 * t.val + r.val) / 256 = t.val := by omega
  show (if (256 * t.val + r.val) / 256 < T.n then blockAt T m c ⟨(256 * t.val + r.val) / 256, _⟩ ⟨256 * t.val + r.val, hr⟩ d else (0 : EReal)) = _
  simp only [hq]

theorem tau_bij : Function.Bijective tau := by
  refine (Fintype.bijective_iff_injective_and_card tau).2 ⟨fun x y h => ?_, rfl⟩
  have h' := congrArg Fin.val h
  simp only [tau] at h'
  exact Fin.ext (by omega)

theorem block_apply (c : Dev nD) (t : Fin (cfgA T).N) (ht : t.val < T.n) (r : Fin 256) (d : Fin 1024) (hr : 256 * t.val + r.val < 167680) :
    blockOut (F := Ideal) (iblk T m ρ c 0 t) (wts0 m c (expert T t)) (iblk T m ρ c 2 t) (wts1 m c (expert T t)) (iblk T m ρ c 4 t) (ix2 r d)
      = blockAt T m c t ⟨256 * t.val + r.val, hr⟩ d := by
  have hm : min t.val (T.n - 1) = t.val := by omega
  have hx : ∀ k : Fin 1024, (iblk T m ρ c 0 t : FVec Ideal S256x1024 .f32) (ix2 r k) = arr2 m c (ix2 ⟨256 * t.val + r.val, hr⟩ k) := fun k => by
    refine (blk_x T m ρ c t r k (by rw [hm]; exact hr)).trans (congrArg (fun n => arr2 m c (ix2 n k)) (Fin.ext ?_))
    show 256 * min t.val (T.n - 1) + r.val = _
    rw [hm]
  have hpre : ∀ j, pre (iblk T m ρ c 0 t) (wts0 m c (expert T t)) (iblk T m ρ c 2 t) r j
      = ∑ k : Fin 1024, arr2 m c (ix2 ⟨256 * t.val + r.val, hr⟩ k) * arr3 m c (ix3 (expert T t) k j) + arr4 m c (ix3 (expert T t) 0 j) := fun j => by
    unfold pre
    exact congrArg₂ (· + ·) (Finset.sum_congr rfl fun k _ => congrArg (· * _) (hx k)) (blk_b T m ρ c t j)
  refine (blockOut_apply _ _ _ _ _ r d).trans ?_
  refine congrArg₂ (· + ·) ?_ (blk_bd T m ρ c t d)
  refine Eq.trans ?_ (tau_bij.sum_comp (fun j => act (fun k => arr2 m c (ix2 ⟨256 * t.val + r.val, hr⟩ k)) (fun k l => arr3 m c (ix3 (expert T t) k l)) (fun l => arr4 m c (ix3 (expert T t) 0 l)) j
          * arr5 m c (ix3 (expert T t) j d)))
  refine Finset.sum_congr rfl fun k _ => ?_
  rw [hpre, hpre]
  rfl

theorem covers5 : ((cfgA T).win 5).Covers :=
  Pipeline.Window.covers_of_index_surj _ rfl (show ∀ a : Fin 2, 0 < S256x1024.size a by decide) fun β => by
    have h0 : (β (0 : Fin 2)).val < 655 := Nat.lt_of_lt_of_le (show (β (0 : Fin 2)).val < (167680 + 256 - 1) / 256 from (β (0 : Fin 2)).isLt) (by decide)
    have h1 : (β (1 : Fin 2)).val < 1 := Nat.lt_of_lt_of_le (show (β (1 : Fin 2)).val < (1024 + 1024 - 1) / 1024 from (β (1 : Fin 2)).isLt) (by decide)
    refine ⟨⟨(β (0 : Fin 2)).val, h0⟩, fun a => ?_⟩
    rw [index5]
    match a with
    | ⟨0, _⟩ => rfl
    | ⟨1, _⟩ =>
      show 0 = (β (1 : Fin 2)).val
      omega

theorem zero_apply (y : S256x1024.Idx) : k0_pay2 (F := Ideal) y = (0 : EReal) := by
  pointwise [k0_pay2]

/-- The result array. -/
theorem result (c : Dev nD) : (dats T m ρ 0 c).arrAt 5 (cfgA T).N = kout T m c := by
  refine (dats T m ρ 0 c).arrAt_eq_of_covers 5 _ (covers5 T) fun t _ y => ?_
  blk_simp
  rw [after0_5]
  have ht : t.val < 655 := t.isLt
  obtain ⟨r, d, rfl⟩ : ∃ (r : Fin 256) (d : Fin 1024), y = (ix2 r d : S256x1024.Idx) := ⟨(show S256x1024.Idx from y) 0, (show S256x1024.Idx from y) 1, by
    funext z
    match z with
    | ⟨0, _⟩ => rfl
    | ⟨1, _⟩ => rfl⟩
  have ei : (((cfgA T).win 5).blk t).view.emb (ix2 r d : S256x1024.Idx) = (ix2 ⟨256 * t.val + r.val, by omega⟩ d : S167680x1024.Idx) := by
    blk_ext [index5 T t]
  refine Eq.trans ?_ (congrArg (kout T m c) ei).symm
  refine Eq.trans ?_ (kout_apply T m c t r d _).symm
  by_cases hn : t.val < T.n
  · rw [if_pos hn]
    exact (congrFun (traj_used T m ρ c t.val t.isLt hn).1 (ix2 r d)).trans (block_apply T m ρ c t hn r d _)
  · rw [if_neg hn]
    exact (congrFun (traj_rest T m ρ c t hn) (ix2 r d)).trans (zero_apply _)

end Cert.Expert
-- ==== Proof.ExpertRef.lean ====
/- The expert call's reference, entry by entry. -/
module

public import proofs.«01_k».proof.Proof.ExpertValue
public import proofs.«01_k».proof.Proof.Gen.Reference2Ideal
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Reference2Ideal.Expert

open Cert.Reference2Ideal Cert.Reference2Ideal.Gen Cert.Reference2Ideal.Value Idealize.ShloMosaic.StableHlo
open Idealize.ShloMosaic Idealize.ShloMosaic.TcCoe Idealize.SL.Sem

/-- Taking whole slices along the first of three axes, one slice for every entry of a list. -/
abbrev takeSlices (A B : ℕ) (wf : GatherDims.WF ⟨3, ![32, A, B]⟩ ⟨2, ![655, 1]⟩ ⟨3, ![655, A, B]⟩ [1, 2] [0] [] [0] [] 1 ![1, A, B]) :
    GatherDims ⟨3, ![32, A, B]⟩ ⟨2, ![655, 1]⟩ ⟨3, ![655, A, B]⟩ where
  offsetDims := [1, 2]
  collapsedSliceDims := [0]
  operandBatchingDims := []
  startIndicesBatchingDims := []
  startIndexMap := [0]
  indexVectorDim := 1
  sliceSizes := ![1, A, B]
  wf := wf

/-- A slice taken is the list's entry's, clamped. -/
theorem takeSlices_apply (A B : ℕ) (wf : GatherDims.WF ⟨3, ![32, A, B]⟩ ⟨2, ![655, 1]⟩ ⟨3, ![655, A, B]⟩ [1, 2] [0] [] [0] [] 1 ![1, A, B])
    (x : (⟨3, ![32, A, B]⟩ : Shape).Idx → EReal) (idx : IVec ⟨2, ![655, 1]⟩ 32) (t : Fin 655) (k : Fin A) (j : Fin B) :
    Host.gather (takeSlices A B wf) x idx (ix3 t k j) = x (ix3 ⟨min (idx (ix2 t 0)).toInt.toNat 31, by omega⟩ k j) := by
  unfold Host.gather
  congr 1
  funext a
  refine Fin.ext ?_
  set D := takeSlices A B wf with hD
  show D.start (ix3 t k j) idx a + D.batchCoord (ix3 t k j) a + D.offCoord (ix3 t k j) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.batchCoord_eq_zero _ _ _ (fun h => by simp [hD] at h),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ D.startIndexMap from List.mem_singleton.mpr rfl)]
    have hsi : D.siIdx (ix3 t k j) ⟨List.idxOf (0 : Fin 3) D.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  all_goals
    rw [GatherDims.batchCoord_eq_zero _ _ _ (fun h => by simp [hD] at h)]
    unfold GatherDims.start
    rw [dif_neg (fun h => by simp [hD] at h)]
    unfold GatherDims.offCoord
    rw [dif_pos ((GatherDims.mem_sKept _ _).mpr ⟨by simp [hD], by simp [hD]⟩)]
    simp only [Nat.zero_add]
    rfl

/-- Every block's rows through its expert's first weights and bias, -/
def gu (b : IVec S655 32) (x : FVec Ideal S167680x1024 .f32) (w : FVec Ideal S32x1024x2048 .f32) (bi : FVec Ideal S32x1x2048 .f32) : FVec Ideal S655x256x2048 .f32 :=
  addf (Host.dotGeneral dot_S655x256x1024_S655x1024x2048_S655x256x2048_2_1_1_2_0_0 none (shapeCast _ x shapeCasts_S167680x1024_S655x256x1024) (Host.gather gather_S32x1024x2048_S655x1_S655x1024x2048_12_0_n_n_0_1_110242048 w (broadcastInDim S655x1 ![0] bcast_S655_S655x1_0 b))) (broadcastInDim S655x256x2048 ![0, 1, 2] bcast_S655x1x2048_S655x256x2048_0_1_2 (Host.gather gather_S32x1x2048_S655x1_S655x1x2048_12_0_n_n_0_1_112048 bi (broadcastInDim S655x1 ![0] bcast_S655_S655x1_0 b)))

/-- the gated products of neighbouring columns, -/
def ract (g : FVec Ideal S655x256x2048 .f32) : FVec Ideal S655x256x1024 .f32 :=
  mulf (mulf (minimumf (Host.slice S655x256x1024 ![0, 0, 0] ![1, 1, 2] g slicesBy_S655x256x2048_S655x256x1024_0s1_0s1_0s2) (broadcastInDim S655x256x1024 ![] bcast_S_S655x256x1024 (constant S_ .f32 0x40E00000#32))) (Host.divf (broadcastInDim S655x256x1024 ![] bcast_S_S655x256x1024 (constant S_ .f32 0x3F800000#32)) (addf (broadcastInDim S655x256x1024 ![] bcast_S_S655x256x1024 (constant S_ .f32 0x3F800000#32)) (Host.exp (Host.negf (mulf (broadcastInDim S655x256x1024 ![] bcast_S_S655x256x1024 (constant S_ .f32 0x3FD9DB23#32)) (minimumf (Host.slice S655x256x1024 ![0, 0, 0] ![1, 1, 2] g slicesBy_S655x256x2048_S655x256x1024_0s1_0s1_0s2) (broadcastInDim S655x256x1024 ![] bcast_S_S655x256x1024 (constant S_ .f32 0x40E00000#32))))))))) (addf (minimumf (broadcastInDim S655x256x1024 ![] bcast_S_S655x256x1024 (id (constant S_ .f32 0x40E00000#32))) (maximumf (broadcastInDim S655x256x1024 ![] bcast_S_S655x256x1024 (id (constant S_ .f32 0xC0E00000#32))) (Host.slice S655x256x1024 ![0, 0, 1] ![1, 1, 2] g slicesBy_S655x256x2048_S655x256x1024_0s1_0s1_1s2))) (broadcastInDim S655x256x1024 ![] bcast_S_S655x256x1024 (constant S_ .f32 0x3F800000#32)))

/-- and these through its second weights and bias, zero after the blocks in use. -/
def rout (b : IVec S655 32) (n : IVec S1 32) (g : FVec Ideal S655x256x2048 .f32) (wd : FVec Ideal S32x1024x1024 .f32) (bd : FVec Ideal S32x1x1024 .f32) : FVec Ideal S167680x1024 .f32 :=
  shapeCast _ (select (broadcastInDim S655x256x1024 ![0, 1, 2] bcast_S655x1x1_S655x256x1024_0_1_2 (broadcastInDim S655x1x1 ![0] bcast_S655_S655x1x1_0 (cmpi .slt (iotaInDim S655 32 0) (broadcastInDim S655 ![] bcast_S_S655 (shapeCast _ n shapeCasts_S1_S_))))) (addf (Host.dotGeneral dot_S655x256x1024_S655x1024x1024_S655x256x1024_2_1_1_2_0_0 none (ract g) (Host.gather gather_S32x1024x1024_S655x1_S655x1024x1024_12_0_n_n_0_1_110241024 wd (broadcastInDim S655x1 ![0] bcast_S655_S655x1_0 b))) (broadcastInDim S655x256x1024 ![0, 1, 2] bcast_S655x1x1024_S655x256x1024_0_1_2 (Host.gather gather_S32x1x1024_S655x1_S655x1x1024_12_0_n_n_0_1_111024 bd (broadcastInDim S655x1 ![0] bcast_S655_S655x1_0 b)))) (broadcastInDim S655x256x1024 ![] bcast_S_S655x256x1024 (id (constant S_ .f32 0x00000000#32)))) shapeCasts_S655x256x1024_S167680x1024

theorem res_eq (m : (ℓ : Loc nD τ sig) → Buf (Elt Ideal) ℓ) (c : Dev nD) :
    res_main_v34 m c = rout (m ((c.tc : Thread nD τ).loc main_arg0)) (m ((c.tc : Thread nD τ).loc main_arg1))
      (gu (m ((c.tc : Thread nD τ).loc main_arg0)) (m ((c.tc : Thread nD τ).loc main_arg2)) (m ((c.tc : Thread nD τ).loc main_arg3)) (m ((c.tc : Thread nD τ).loc main_arg4)))
      (m ((c.tc : Thread nD τ).loc main_arg5)) (m ((c.tc : Thread nD τ).loc main_arg6)) := by
  unfold res_main_v34 rout gu ract
  rfl

/-- A block's expert. -/
def rexpert (b : IVec S655 32) (t : Fin 655) : Fin 32 := ⟨min (b (ix1 t)).toInt.toNat 31, by omega⟩

theorem idx_apply (b : IVec S655 32) (t : Fin 655) : (broadcastInDim S655x1 ![0] bcast_S655_S655x1_0 b) (ix2 t 0) = b (ix1 t) := by
  pointwise

theorem take_apply (A B : ℕ) (wf : GatherDims.WF ⟨3, ![32, A, B]⟩ ⟨2, ![655, 1]⟩ ⟨3, ![655, A, B]⟩ [1, 2] [0] [] [0] [] 1 ![1, A, B])
    (x : (⟨3, ![32, A, B]⟩ : Shape).Idx → EReal) (b : IVec S655 32) (t : Fin 655) (k : Fin A) (j : Fin B) :
    Host.gather (takeSlices A B wf) x (broadcastInDim S655x1 ![0] bcast_S655_S655x1_0 b) (ix3 t k j) = x (ix3 (rexpert b t) k j) := by
  refine (takeSlices_apply A B wf x _ t k j).trans (congrArg (fun e => x (ix3 e k j)) (Fin.ext ?_))
  exact congrArg (fun v : BitVec 32 => min v.toInt.toNat 31) (idx_apply b t)

theorem gu_apply (b : IVec S655 32) (x : FVec Ideal S167680x1024 .f32) (w : FVec Ideal S32x1024x2048 .f32) (bi : FVec Ideal S32x1x2048 .f32)
    (t : Fin 655) (r : Fin 256) (j : Fin 2048) (h : 256 * t.val + r.val < 167680) :
    gu b x w bi (ix3 t r j) = ∑ k : Fin 1024, x (ix2 ⟨256 * t.val + r.val, h⟩ k) * w (ix3 (rexpert b t) k j) + bi (ix3 (rexpert b t) 0 j) := by
  pointwise [gu]
  refine congrArg₂ (· + ·) (Finset.sum_congr rfl fun k _ => congrArg₂ (· * ·) ?_ (take_apply 1024 2048 _ w b t k j)) (take_apply 1 2048 _ bi b t 0 j)
  exact congrArg (fun n => x (ix2 n k)) (Fin.ext (by simp only; omega))

theorem one_eq : Ideal.ofBits .f32 0x3F800000#32 = (1 : EReal) := by
  simp [Ideal.ofBits, Ideal.ieee, -EReal.coe_mul]
  norm_num

theorem ract_apply (g : FVec Ideal S655x256x2048 .f32) (t : Fin 655) (r : Fin 256) (j : Fin 1024) :
    ract g (ix3 t r j) = Cert.Expert.gate (g (ix3 t r ⟨2 * j.val, by omega⟩)) * Cert.Expert.lin (g (ix3 t r ⟨2 * j.val + 1, by omega⟩)) := by
  pointwise [ract]
  unfold Cert.Expert.gate Cert.Expert.lin Ideal.logistic
  rw [one_eq]
  refine congrArg₂ (· * ·) rfl (congrArg (fun v => min _ (max _ v) + 1) (congrArg (fun n => g (ix3 t r n)) (Fin.ext (by simp only; omega))))

theorem rout_apply (b : IVec S655 32) (n : IVec S1 32) (g : FVec Ideal S655x256x2048 .f32) (wd : FVec Ideal S32x1024x1024 .f32) (bd : FVec Ideal S32x1x1024 .f32)
    (t : Fin 655) (r : Fin 256) (d : Fin 1024) (h : 256 * t.val + r.val < 167680) (hn : (n (ix1 0)).toNat < 2 ^ 31) :
    rout b n g wd bd (ix2 ⟨256 * t.val + r.val, h⟩ d) = if t.val < (n (ix1 0)).toNat then
      ∑ j : Fin 1024, ract g (ix3 t r j) * wd (ix3 (rexpert b t) j d) + bd (ix3 (rexpert b t) 0 d) else (0 : EReal) := by
  pointwise [rout]
  have hc : (IntOp.cmpi CmpIPredicate.slt (BitVec.ofNat 32 t.val) (n (ix1 0)) : BitVec 1) = if t.val < (n (ix1 0)).toNat then 1#1 else 0#1 := by
    show BitVec.ofBool ((BitVec.ofNat 32 t.val).slt (n (ix1 0))) = _
    rw [Cert.Expert.slt_point t.val t.isLt _ hn]
    by_cases hl : t.val < (n (ix1 0)).toNat
    · rw [if_pos hl, decide_eq_true hl]; rfl
    · rw [if_neg hl, decide_eq_false hl]; rfl
  rw [hc]
  by_cases hl : t.val < (n (ix1 0)).toNat
  · rw [if_pos hl, if_pos hl]
    refine (ValueIdx.select_one _ _).trans ?_
    exact congrArg₂ (· + ·) (Finset.sum_congr rfl fun k _ => congrArg (_ * ·) (take_apply 1024 1024 _ wd b t k d)) (take_apply 1 1024 _ bd b t 0 d)
  · rw [if_neg hl, if_neg hl]
    refine (ValueIdx.select_zero _ _).trans ?_
    show Ideal.ofBits .f32 0x00000000#32 = (0 : EReal)
    simp [Ideal.ofBits, Ideal.ieee]

end Cert.Reference2Ideal.Expert
-- ==== Proof.ExpertEqual.lean ====
/- The expert call's kernel and its reference end with the same array. -/
module

public import proofs.«01_k».proof.Proof.ExpertPre
public import proofs.«01_k».proof.Proof.ExpertRef

@[expose] public section

set_option maxRecDepth 16384

noncomputable section

namespace Cert.Expert

open Cert.Kernel2Ideal Cert.Kernel2Ideal.Gen
open Idealize.ShloMosaic
open Idealize.ShloMosaic.TcCoe
open Idealize.SL.Sem
open Cert.Reference2Ideal.Expert (gu ract rout rexpert gu_apply ract_apply rout_apply res_eq)

variable (T : Tables Ideal) (m : (ℓ : Loc nD τ sig) → Buf (Elt Ideal) ℓ) (ρ : Dev nD → PrngReg)

/-- An expert read from the table is below 32, so clamping it changes nothing. -/
theorem rexpert_eq (t : Fin 655) : rexpert T.be t = expert T t := by
  have h := T.be_lt (ix1 t)
  refine Fin.ext ?_
  show min (BitVec.toInt (T.be (ix1 t))).toNat 31 = BitVec.toNat (T.be (ix1 t))
  rw [toInt_small _ (by omega)]
  omega

/-- The reference's array, of the kernel's arguments, is the kernel's. -/
theorem rout_eq (c : Dev nD) : rout T.be T.nu (gu T.be (arr2 m c) (arr3 m c) (arr4 m c)) (arr5 m c) (arr6 m c) = kout T m c := by
  funext i
  have hi : (i 0).val < 167680 := (i 0).isLt
  obtain ⟨t, r, d, h, rfl⟩ : ∃ (t : Fin 655) (r : Fin 256) (d : Fin 1024) (h : 256 * t.val + r.val < 167680), i = ix2 ⟨256 * t.val + r.val, h⟩ d :=
    ⟨⟨(i 0).val / 256, by omega⟩, ⟨(i 0).val % 256, by omega⟩, i 1, by simp only; omega, by
      funext a
      match a with
      | ⟨0, _⟩ => exact Fin.ext (by show (i 0).val = 256 * ((i 0).val / 256) + (i 0).val % 256; omega)
      | ⟨1, _⟩ => rfl⟩
  refine (rout_apply T.be T.nu _ _ _ t r d h (T.nu_lt _)).trans (Eq.trans ?_ (kout_apply T m c t r d h).symm)
  have hn : BitVec.toNat (T.nu (ix1 0)) = T.n := congrArg (fun v : Elt Ideal .i32 => BitVec.toNat v) (nu_eq T _ _)
  rw [hn, rexpert_eq]
  refine if_congr Iff.rfl ?_ rfl
  unfold blockAt act
  refine congrArg₂ (· + ·) (Finset.sum_congr rfl fun j _ => congrArg₂ (· * ·) ?_ rfl) rfl
  rw [ract_apply, gu_apply _ _ _ _ t r _ h, gu_apply _ _ _ _ t r _ h, rexpert_eq]

/-- The reference leaves its arguments unchanged and no semaphore counts. -/
theorem frame_reference : Cert.quiescent_Reference2Ideal := fun m ρ _ =>
  (θ_run (Cert.Reference2Ideal.defs (F := Ideal)) _ _).mono (fun r h => And.intro (fun c => (h c).2) (sem_eq_zero_of_no_sems (by decide) r.2))
    (Cert.Reference2Ideal.Value.run (F := Ideal) m ρ)

/-- The kernel's run ends with that array. -/
theorem run_value (hp : Pinned T m) :
    θ_run (defs (F := Ideal)) (onTc (τ := τ) (main (F := Ideal))) ⟨m, fun _ => 0, ρ⟩ (fun r => ∀ c : Dev nD,
      r.2.mem ((c.tc : Thread nD τ).loc main_v0) = kout T m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 (5 : Fin 6)).trans (result T m ρ c), ((h c).2 0).trans (hp.1 c).symm, ((h c).2 1).trans (hp.2 c).symm, ((h c).1 (0 : Fin 6)).trans ((dats T m ρ 0 c).arrAt_in (0 : Fin 6) rfl _), ((h c).1 (1 : Fin 6)).trans ((dats T m ρ 0 c).arrAt_in (1 : Fin 6) rfl _), ((h c).1 (2 : Fin 6)).trans ((dats T m ρ 0 c).arrAt_in (2 : Fin 6) rfl _), ((h c).1 (3 : Fin 6)).trans ((dats T m ρ 0 c).arrAt_in (3 : Fin 6) rfl _), ((h c).1 (4 : Fin 6)).trans ((dats T m ρ 0 c).arrAt_in (4 : Fin 6) rfl _)⟩) (run_main T m ρ hp)

/-- Under the precondition the kernel and the reference end with the same array. -/
theorem algebraic [hP : Cert.Pre_planned.Facts] : Cert.algebraic_Kernel2Ideal_Reference2Ideal := by
  intro m g m' g' hpre hag
  obtain ⟨T, hp⟩ := pinned_of_pre m hpre
  refine ⟨fun c => kout T m c, run_value T m g hp, ?_⟩
  refine (θ_run Cert.Reference2Ideal.defs _ _).mono (fun _ h c => ⟨(h c).1.trans ?_, (h c).2⟩) (Cert.Reference2Ideal.Value.run (F := Ideal) m' g')
  obtain ⟨a0, a1, a2, a3, a4, a5, a6⟩ := hag c
  refine (res_eq m' c).trans ?_
  rw [a0, a1, a2, a3, a4, a5, a6, hp.1 c, hp.2 c]
  exact rout_eq T m c

end Cert.Expert

end
-- ==== Proof.MixSpec.lean ====
/- What the input projection's program computes, entry by entry, over curried arrays. -/
module

public import Idealize.ShloMosaic.Lib.Claim
public import Idealize.ShloMosaic.Lib.Pointwise

@[expose] public section

noncomputable section

namespace Cert.Mix

open Idealize.ShloMosaic

/-- A normalised entry: the entry, by the root of the mean square over `n` plus the small constant, by the gain. -/
def normed (x ms n g : EReal) : EReal := x * Ideal.rsqrt (Ideal.div ms n + Ideal.ofBits .f32 0x358637BD#32) * g

/-- A row normalised. -/
def hrow (x g : Fin 1024 → EReal) (k : Fin 1024) : EReal := normed (x k) (∑ j : Fin 1024, x j * x j) (Ideal.ofBits .f32 0x44800000#32) (g k)

/-- A normalised row's product with a column. -/
def proj (x g : Fin 1024 → EReal) (w : Fin 1024 → EReal) : EReal := ∑ k : Fin 1024, hrow x g k * w k

/-- A gated convolution's entry: the gate by the sum of three rows by their weights. -/
def gated (b c0 u0 c1 u1 c2 u2 : EReal) : EReal := b * (c0 * u0 + c1 * u1 + c2 * u2)

/-- A column of one of the six groups of 512. -/
def grp (o : ℕ) (h : o + 512 ≤ 3072) (l : Fin 512) : Fin 3072 := ⟨o + l.val, by omega⟩

variable (x : Fin 16 → Fin 2048 → Fin 1024 → EReal) (g : Fin 1024 → EReal) (w : Fin 1024 → Fin 3072 → EReal)

/-- The projection. -/
def P (b : Fin 16) (s : Fin 2048) (n : Fin 3072) : EReal := proj (x b s) g (fun k => w k n)

/-- A row of a projection's columns, normalised over each head's 64 lanes. -/
def headNorm (p : Fin 512 → EReal) (hg : Fin 64 → EReal) (l : Fin 512) : EReal :=
  normed (p l) (∑ j : Fin 64, p ⟨64 * (l.val / 64) + j.val, by omega⟩ * p ⟨64 * (l.val / 64) + j.val, by omega⟩) (Ideal.ofBits .f32 0x42800000#32) (hg ⟨l.val % 64, by omega⟩)

/-- The convolution's input, -/
def U (b : Fin 16) (s : Fin 2048) (l : Fin 512) : EReal := P x g w b s (grp 2048 (by decide) l) * P x g w b s (grp 2560 (by decide) l)

/-- `d` rows before a row, zero before the first, -/
def back (d : ℕ) (b : Fin 16) (s : Fin 2048) (l : Fin 512) : EReal := if d ≤ s.val then U x g w b ⟨s.val - d, by omega⟩ l else 0

/-- the gated convolution, -/
def G (cw : Fin 3 → Fin 512 → EReal) (b : Fin 16) (s : Fin 2048) (l : Fin 512) : EReal :=
  gated (P x g w b s (grp 1536 (by decide) l)) (cw 0 l) (back x g w 2 b s l) (cw 1 l) (back x g w 1 b s l) (cw 2 l) (U x g w b s l)

/-- and its norm. -/
def Y (cw : Fin 3 → Fin 512 → EReal) (og : Fin 512 → EReal) (b : Fin 16) (s : Fin 2048) (l : Fin 512) : EReal :=
  normed (G x g w cw b s l) (∑ j : Fin 512, G x g w cw b s j * G x g w cw b s j) (Ideal.ofBits .f32 0x44000000#32) (og l)

end Cert.Mix

end
-- ==== Proof.MixTile.lean ====
/- A tile of the input projection's call, entry by entry: the normalised rows, the products, the norms over the heads, the convolution. -/
module

public import proofs.«01_k».proof.Proof.Gen.Kernel3Ideal.Skeleton
public import proofs.«01_k».proof.Proof.MixSpec
public import Idealize.ShloMosaic.Lib.Pointwise

@[expose] public section

set_option maxRecDepth 16384

noncomputable section

namespace Cert.Mix

open Cert.Kernel3Ideal Cert.Kernel3Ideal.Gen
open Idealize.ShloMosaic Idealize.ShloMosaic.TcCoe

theorem pay4_apply (x : FVec Ideal S1x1024x1024 .f32) (g : FVec Ideal S1x1024 .f32) (r k : Fin 1024) :
    k0_pay4 (F := Ideal) x g (ix2 r k) = hrow (fun k => x (ix3 0 r k)) (fun k => g (ix2 0 k)) k := by
  pointwise [k0_pay4, hrow, normed]

theorem pay2_apply (x : FVec Ideal S1x1024x1024 .f32) (g : FVec Ideal S1x1024 .f32) (w : FVec Ideal S1024x512 .bf16) (r : Fin 1024) (l : Fin 512) :
    k0_pay2 (F := Ideal) (k0_pay4 x g) w (ix3 0 r l) = proj (fun k => x (ix3 0 r k)) (fun k => g (ix2 0 k)) (fun k => w (ix2 k l)) := by
  pointwise [k0_pay2, pay4_apply, proj]

theorem pay5_apply (x : FVec Ideal S1x1024x1024 .f32) (g : FVec Ideal S1x1024 .f32) (w : FVec Ideal S1024x512 .bf16) (r : Fin 1024) (l : Fin 512) :
    k0_pay5 (F := Ideal) x g w (ix2 r l) = proj (fun k => x (ix3 0 r k)) (fun k => g (ix2 0 k)) (fun k => w (ix2 k l)) := by
  pointwise [k0_pay5, pay4_apply, proj]

theorem pay6_apply (x : FVec Ideal S1x1024x1024 .f32) (g : FVec Ideal S1x1024 .f32) (w w' : FVec Ideal S1024x512 .bf16) (r : Fin 1024) (l : Fin 512) :
    k0_pay6 (F := Ideal) x g w w' (ix2 r l) = proj (fun k => x (ix3 0 r k)) (fun k => g (ix2 0 k)) (fun k => w (ix2 k l))
      * proj (fun k => x (ix3 0 r k)) (fun k => g (ix2 0 k)) (fun k => w' (ix2 k l)) := by
  pointwise [k0_pay6, pay4_apply, proj]

theorem pay7_eq (x : FVec Ideal S1x1024x1024 .f32) (g : FVec Ideal S1x1024 .f32) (w w' : FVec Ideal S1024x512 .bf16) (r : Fin 1024) (l : Fin 512) :
    k0_pay7 (F := Ideal) x g w w' (ix2 r l) = k0_pay6 (F := Ideal) x g w w' (ix2 r l) := by
  pointwise [k0_pay7]

theorem pay8_apply (u : FVec Ideal S1024x512 .f32) (r : Fin 8) (l : Fin 512) : k0_pay8 (F := Ideal) u (ix2 r l) = u (ix2 ⟨1016 + r.val, by omega⟩ l) := by
  pointwise [k0_pay8]

theorem pay3_apply (r : Fin 8) (l : Fin 512) : k0_pay3 (F := Ideal) (ix2 r l) = (0 : EReal) := by
  pointwise [k0_pay3]

/-- A row's products with a head's columns, normalised over the head: at a column, the squares are summed by the matrix of the heads. -/
def hnorm (p : Fin 512 → EReal) (hm : FVec Ideal S512x512 .bf16) (g : EReal) (l : Fin 512) : EReal :=
  p l * Ideal.rsqrt ((∑ j : Fin 512, p j * p j * hm (ix2 j l)) * Ideal.ofBits .f32 0x3C800000#32 + Ideal.ofBits .f32 0x358637BD#32) * g

theorem pay11_apply (x : FVec Ideal S1x1024x1024 .f32) (g : FVec Ideal S1x1024 .f32) (w : FVec Ideal S1024x512 .bf16) (qg : FVec Ideal S1x512 .f32) (hm : FVec Ideal S512x512 .bf16)
    (r : Fin 1024) (l : Fin 512) :
    k0_pay11 (F := Ideal) (k0_pay4 x g) (k0_pay10 w) qg hm (ix3 0 r l)
      = hnorm (fun l => proj (fun k => x (ix3 0 r k)) (fun k => g (ix2 0 k)) (fun k => w (ix2 k l))) hm (qg (ix2 0 l)) l := by
  pointwise [k0_pay11, k0_pay10, pay4_apply, proj, hnorm]

theorem pay12_apply (x : FVec Ideal S1x1024x1024 .f32) (g : FVec Ideal S1x1024 .f32) (w : FVec Ideal S1024x512 .bf16) (qg : FVec Ideal S1x512 .f32) (hm : FVec Ideal S512x512 .bf16)
    (r : Fin 1024) (l : Fin 512) :
    k0_pay1 (F := Ideal) (k0_pay12 (k0_pay4 x g) w qg hm) (ix3 0 r l)
      = hnorm (fun l => proj (fun k => x (ix3 0 r k)) (fun k => g (ix2 0 k)) (fun k => w (ix2 k l))) hm (qg (ix2 0 l)) l := by
  pointwise [k0_pay1, k0_pay12, pay4_apply, proj, hnorm]

theorem pay9_apply (b u : FVec Ideal S1024x512 .f32) (c0 : FVec Ideal S1x512 .f32) (u0 : FVec Ideal S1024x512 .f32) (c1 : FVec Ideal S1x512 .f32) (u1 : FVec Ideal S1024x512 .f32)
    (c2 g : FVec Ideal S1x512 .f32) (r : Fin 1024) (l : Fin 512) :
    k0_pay9 (F := Ideal) b u c0 u0 c1 u1 c2 g (ix3 0 r l)
      = normed (gated (b (ix2 r l)) (c0 (ix2 0 l)) (u0 (ix2 r l)) (c1 (ix2 0 l)) (u1 (ix2 r l)) (c2 (ix2 0 l)) (u (ix2 r l)))
          (∑ j : Fin 512, gated (b (ix2 r j)) (c0 (ix2 0 j)) (u0 (ix2 r j)) (c1 (ix2 0 j)) (u1 (ix2 r j)) (c2 (ix2 0 j)) (u (ix2 r j))
            * gated (b (ix2 r j)) (c0 (ix2 0 j)) (u0 (ix2 r j)) (c1 (ix2 0 j)) (u1 (ix2 r j)) (c2 (ix2 0 j)) (u (ix2 r j)))
          (Ideal.ofBits .f32 0x44000000#32) (g (ix2 0 l)) := by
  pointwise [k0_pay9, normed, gated]

end Cert.Mix

end
-- ==== Proof.MixBlock.lean ====
/- A tile's block entry by entry on both paths of the body: the queries, the keys, the values, the convolution's rows, and the rows carried to the next tile. -/
module

public import proofs.«01_k».proof.Proof.Gen.Kernel3Ideal.Frame
public import proofs.«01_k».proof.Proof.MixTile
public import Idealize.ShloMosaic.Lib.Writes
public import Idealize.ShloMosaic.Lib.VecWindow
public import Idealize.ShloMosaic.Lib.WritesUnit
public import Idealize.ShloMosaic.Lib.WholeRead

@[expose] public section

set_option maxRecDepth 16384

noncomputable section

namespace Cert.Mix

open Cert.Kernel3Ideal Cert.Kernel3Ideal.Gen
open Idealize.ShloMosaic Idealize.ShloMosaic.TcCoe Idealize.SL.Sem

/-- A column of the weights. -/
def wcol (w : FVec Ideal S1024x3072 .bf16) (n : Fin 3072) (k : Fin 1024) : EReal := w (ix2 k n)

/-- A tile's entry of the projection. -/
def tproj (x0 : FVec Ideal S1x1024x1024 .f32) (x1 : FVec Ideal S1x1024 .f32) (x2 : FVec Ideal S1024x3072 .bf16) (r : Fin 1024) (n : Fin 3072) : EReal :=
  proj (fun k => x0 (ix3 0 r k)) (fun k => x1 (ix2 0 k)) (wcol x2 n)

/-- The convolution's input in a tile. -/
def tU (x0 : FVec Ideal S1x1024x1024 .f32) (x1 : FVec Ideal S1x1024 .f32) (x2 : FVec Ideal S1024x3072 .bf16) (r : Fin 1024) (l : Fin 512) : EReal :=
  tproj x0 x1 x2 r (grp 2048 (by decide) l) * tproj x0 x1 x2 r (grp 2560 (by decide) l)

/-- The convolution's input `d` rows before a tile's row, the rows before the tile being the eight carried. -/
def tback (x0 : FVec Ideal S1x1024x1024 .f32) (x1 : FVec Ideal S1x1024 .f32) (x2 : FVec Ideal S1024x3072 .bf16) (cr : Fin 8 → Fin 512 → EReal) (o : ℕ) (ho : o < 8) (r : Fin 1024) (l : Fin 512) : EReal :=
  if h : 8 ≤ o + r.val then tU x0 x1 x2 ⟨o + r.val - 8, by omega⟩ l else cr ⟨o + r.val, by omega⟩ l

/-- The gated convolution in a tile, -/
def tgated (x0 : FVec Ideal S1x1024x1024 .f32) (x1 : FVec Ideal S1x1024 .f32) (x2 : FVec Ideal S1024x3072 .bf16) (x6 : FVec Ideal S3x512 .f32) (cr : Fin 8 → Fin 512 → EReal) (r : Fin 1024) (l : Fin 512) : EReal :=
  gated (tproj x0 x1 x2 r (grp 1536 (by decide) l)) (x6 (ix2 0 l)) (tback x0 x1 x2 cr 6 (by decide) r l) (x6 (ix2 1 l)) (tback x0 x1 x2 cr 7 (by decide) r l) (x6 (ix2 2 l)) (tU x0 x1 x2 r l)

/-- and its norm. -/
def tY (x0 : FVec Ideal S1x1024x1024 .f32) (x1 : FVec Ideal S1x1024 .f32) (x2 : FVec Ideal S1024x3072 .bf16) (x6 : FVec Ideal S3x512 .f32) (x7 : FVec Ideal S1x512 .f32) (cr : Fin 8 → Fin 512 → EReal) (r : Fin 1024) (l : Fin 512) : EReal :=
  normed (tgated x0 x1 x2 x6 cr r l) (∑ j : Fin 512, tgated x0 x1 x2 x6 cr r j * tgated x0 x1 x2 x6 cr r j) (Ideal.ofBits .f32 0x44000000#32) (x7 (ix2 0 l))

section reads
variable {sig : RefSig} {κ : Kind} {sp : Space}

theorem rd_x0 (m : Memref sig κ sp S1x1024x1024 .f32) (h : m.IsWhole) (X : FVec Ideal S1x1024x1024 .f32) (inb : ∀ a, (![0, 0, 0] : Fin 3 → ℕ) a + S1x1024x1024.size a ≤ S1x1024x1024.size a) :
    View.readAt (Elt Ideal) m.view (Rect.unit (s := S1x1024x1024) ![0, 0, 0] S1x1024x1024.size inb).toLoadRect (h.unread X) = X := (View.readAt_full (Val := Elt Ideal) m.view (h.unread X) inb).trans (h.read_unread (Val := Elt Ideal) X)

theorem rd_x1 (m : Memref sig κ sp S1x1024 .f32) (h : m.IsWhole) (X : FVec Ideal S1x1024 .f32) (inb : ∀ a, (![0, 0] : Fin 2 → ℕ) a + S1x1024.size a ≤ S1x1024.size a) :
    View.readAt (Elt Ideal) m.view (Rect.unit (s := S1x1024) ![0, 0] S1x1024.size inb).toLoadRect (h.unread X) = X := (View.readAt_full (Val := Elt Ideal) m.view (h.unread X) inb).trans (h.read_unread (Val := Elt Ideal) X)

theorem rd_x3 (m : Memref sig κ sp S1x512 .f32) (h : m.IsWhole) (X : FVec Ideal S1x512 .f32) (inb : ∀ a, (![0, 0] : Fin 2 → ℕ) a + S1x512.size a ≤ S1x512.size a) :
    View.readAt (Elt Ideal) m.view (Rect.unit (s := S1x512) ![0, 0] S1x512.size inb).toLoadRect (h.unread X) = X := (View.readAt_full (Val := Elt Ideal) m.view (h.unread X) inb).trans (h.read_unread (Val := Elt Ideal) X)

theorem rd_x5 (m : Memref sig κ sp S512x512 .bf16) (h : m.IsWhole) (X : FVec Ideal S512x512 .bf16) (inb : ∀ a, (![0, 0] : Fin 2 → ℕ) a + S512x512.size a ≤ S512x512.size a) :
    View.readAt (Elt Ideal) m.view (Rect.unit (s := S512x512) ![0, 0] S512x512.size inb).toLoadRect (h.unread X) = X := (View.readAt_full (Val := Elt Ideal) m.view (h.unread X) inb).trans (h.read_unread (Val := Elt Ideal) X)

theorem rd_x2 (m : Memref sig κ sp S1024x3072 .bf16) (h : m.IsWhole) (X : FVec Ideal S1024x3072 .bf16) (o : ℕ) (ho : o + 512 ≤ 3072) (inb : ∀ a, (![0, o] : Fin 2 → ℕ) a + S1024x512.size a ≤ S1024x3072.size a)
    (k : Fin 1024) (l : Fin 512) :
    View.readAt (Elt Ideal) m.view (Rect.unit (s := S1024x3072) ![0, o] S1024x512.size inb).toLoadRect (h.unread X) (ix2 k l) = wcol X (grp o ho l) k := by
  rw [h.readAt_unread]
  refine congrArg X (funext fun a => Fin.ext ?_)
  fin_cases a
  · show 0 + 1 * k.val = k.val
    omega
  · show o + 1 * l.val = o + l.val
    omega

theorem rd_x6 (m : Memref sig κ sp S3x512 .f32) (h : m.IsWhole) (X : FVec Ideal S3x512 .f32) (o : Fin 3) (inb : ∀ a, (![o.val, 0] : Fin 2 → ℕ) a + S1x512.size a ≤ S3x512.size a) (l : Fin 512) :
    View.readAt (Elt Ideal) m.view (Rect.unit (s := S3x512) ![o.val, 0] S1x512.size inb).toLoadRect (h.unread X) (ix2 0 l) = X (ix2 o l) := by
  rw [h.readAt_unread]
  refine congrArg X (funext fun a => Fin.ext ?_)
  fin_cases a
  · show o.val + 1 * 0 = o.val
    omega
  · show 0 + 1 * l.val = l.val
    omega

/-- A row read of the scratch, under the tile's rows stored from row 8. -/
theorem rd_hist (v : View sig κ sp S1032x512 .f32) (f : v.ty.Contents (Elt Ideal)) (u : FVec Ideal S1024x512 .f32) (L : List (View.Piece (Elt Ideal) S1032x512 .f32)) (o : ℕ) (ho : o < 8)
    (inb : ∀ a, (![o, 0] : Fin 2 → ℕ) a + S1024x512.size a ≤ S1032x512.size a) (inb' : ∀ a, (![8, 0] : Fin 2 → ℕ) a + S1024x512.size a ≤ S1032x512.size a) (r : Fin 1024) (l : Fin 512) :
    View.readAt (Elt Ideal) v (Rect.unit (s := S1032x512) ![o, 0] S1024x512.size inb).toLoadRect (v.writes (Elt Ideal) f (⟨Rect.unit (s := S1032x512) ![8, 0] S1024x512.size inb', u⟩ :: L)) (ix2 r l)
      = if h : 8 ≤ o + r.val then u (ix2 ⟨o + r.val - 8, by omega⟩ l) else v.read (Elt Ideal) (v.writes (Elt Ideal) f L) (ix2 ⟨o + r.val, by omega⟩ l) := by
  have e : (Rect.unit (s := S1032x512) ![o, 0] S1024x512.size inb).toLoadRect.idx (ix2 r l) = ix2 (⟨o + r.val, by omega⟩ : Fin 1032) l := by
    refine funext fun a => Fin.ext ?_
    fin_cases a
    · show o + 1 * r.val = o + r.val
      omega
    · show 0 + 1 * l.val = l.val
      omega
  rw [View.readAt_apply, e]
  split
  · rename_i h
    refine View.read_writes_cons_unit_of_mem v f inb' u L _ (ix2 (⟨o + r.val - 8, by omega⟩ : Fin 1024) l) rfl fun a => ?_
    fin_cases a
    · show o + r.val = 8 + (o + r.val - 8)
      omega
    · show l.val = 0 + l.val
      omega
  · rename_i h
    exact View.read_writes_cons_unit_of_not_mem v f inb' u L _ rfl (0 : Fin 2) (Or.inl (by show o + r.val < 8; omega))

/-- A row of the first eight, just stored. -/
theorem rd_first (v : View sig κ sp S1032x512 .f32) (f : v.ty.Contents (Elt Ideal)) (u : FVec Ideal S8x512 .f32) (L : List (View.Piece (Elt Ideal) S1032x512 .f32))
    (inb : ∀ a, (![0, 0] : Fin 2 → ℕ) a + S8x512.size a ≤ S1032x512.size a) (r : Fin 8) (l : Fin 512) :
    v.read (Elt Ideal) (v.writes (Elt Ideal) f (⟨Rect.unit (s := S1032x512) ![0, 0] S8x512.size inb, u⟩ :: L)) (ix2 (⟨r.val, by omega⟩ : Fin 1032) l) = u (ix2 r l) := by
  refine View.read_writes_cons_unit_of_mem v f inb u L _ (ix2 r l) rfl fun a => ?_
  fin_cases a
  · show r.val = 0 + r.val
    omega
  · show l.val = 0 + l.val
    omega

theorem q_tile (m0 : Memref sig κ sp S1x1024x1024 .f32) (h0 : m0.IsWhole) (x0 : FVec Ideal S1x1024x1024 .f32) (i0 : ∀ a, (![0, 0, 0] : Fin 3 → ℕ) a + S1x1024x1024.size a ≤ S1x1024x1024.size a) (m1 : Memref sig κ sp S1x1024 .f32) (h1 : m1.IsWhole) (x1 : FVec Ideal S1x1024 .f32) (i1 : ∀ a, (![0, 0] : Fin 2 → ℕ) a + S1x1024.size a ≤ S1x1024.size a)
    (m2 : Memref sig κ sp S1024x3072 .bf16) (h2 : m2.IsWhole) (x2 : FVec Ideal S1024x3072 .bf16) (i2 : ∀ a, (![0, 0] : Fin 2 → ℕ) a + S1024x512.size a ≤ S1024x3072.size a) (m5 : Memref sig κ sp S1x512 .f32) (h5 : m5.IsWhole) (x5 : FVec Ideal S1x512 .f32) (i5 : ∀ a, (![0, 0] : Fin 2 → ℕ) a + S1x512.size a ≤ S1x512.size a) (m7 : Memref sig κ sp S512x512 .bf16) (h7 : m7.IsWhole) (x7 : FVec Ideal S512x512 .bf16) (i7 : ∀ a, (![0, 0] : Fin 2 → ℕ) a + S512x512.size a ≤ S512x512.size a) (r : Fin 1024) (l : Fin 512) :
    k0_pay11 (F := Ideal) (k0_pay4 (View.readAt (Elt Ideal) m0.view (Rect.unit (s := S1x1024x1024) ![0, 0, 0] S1x1024x1024.size i0).toLoadRect (h0.unread x0)) (View.readAt (Elt Ideal) m1.view (Rect.unit (s := S1x1024) ![0, 0] S1x1024.size i1).toLoadRect (h1.unread x1))) (k0_pay10 (View.readAt (Elt Ideal) m2.view (Rect.unit (s := S1024x3072) ![0, 0] S1024x512.size i2).toLoadRect (h2.unread x2))) (View.readAt (Elt Ideal) m5.view (Rect.unit (s := S1x512) ![0, 0] S1x512.size i5).toLoadRect (h5.unread x5)) (View.readAt (Elt Ideal) m7.view (Rect.unit (s := S512x512) ![0, 0] S512x512.size i7).toLoadRect (h7.unread x7)) (ix3 0 r l)
      = hnorm (fun n => tproj x0 x1 x2 r (grp 0 (by decide) n)) x7 (x5 (ix2 0 l)) l := by
  refine (pay11_apply _ _ _ _ _ r l).trans ?_
  rw [rd_x0 m0 h0 x0 i0, rd_x1 m1 h1 x1 i1, rd_x3 m5 h5 x5 i5, rd_x5 m7 h7 x7 i7]
  refine congrArg (fun p => hnorm p x7 (x5 (ix2 0 l)) l) (funext fun n => congrArg (proj _ _) (funext fun k => ?_))
  exact rd_x2 m2 h2 x2 0 (by decide) i2 k n

theorem k_tile (m0 : Memref sig κ sp S1x1024x1024 .f32) (h0 : m0.IsWhole) (x0 : FVec Ideal S1x1024x1024 .f32) (i0 : ∀ a, (![0, 0, 0] : Fin 3 → ℕ) a + S1x1024x1024.size a ≤ S1x1024x1024.size a) (m1 : Memref sig κ sp S1x1024 .f32) (h1 : m1.IsWhole) (x1 : FVec Ideal S1x1024 .f32) (i1 : ∀ a, (![0, 0] : Fin 2 → ℕ) a + S1x1024.size a ≤ S1x1024.size a)
    (m2 : Memref sig κ sp S1024x3072 .bf16) (h2 : m2.IsWhole) (x2 : FVec Ideal S1024x3072 .bf16) (i2 : ∀ a, (![0, 512] : Fin 2 → ℕ) a + S1024x512.size a ≤ S1024x3072.size a) (m5 : Memref sig κ sp S1x512 .f32) (h5 : m5.IsWhole) (x5 : FVec Ideal S1x512 .f32) (i5 : ∀ a, (![0, 0] : Fin 2 → ℕ) a + S1x512.size a ≤ S1x512.size a) (m7 : Memref sig κ sp S512x512 .bf16) (h7 : m7.IsWhole) (x7 : FVec Ideal S512x512 .bf16) (i7 : ∀ a, (![0, 0] : Fin 2 → ℕ) a + S512x512.size a ≤ S512x512.size a) (r : Fin 1024) (l : Fin 512) :
    k0_pay1 (F := Ideal) (k0_pay12 (k0_pay4 (View.readAt (Elt Ideal) m0.view (Rect.unit (s := S1x1024x1024) ![0, 0, 0] S1x1024x1024.size i0).toLoadRect (h0.unread x0)) (View.readAt (Elt Ideal) m1.view (Rect.unit (s := S1x1024) ![0, 0] S1x1024.size i1).toLoadRect (h1.unread x1))) (View.readAt (Elt Ideal) m2.view (Rect.unit (s := S1024x3072) ![0, 512] S1024x512.size i2).toLoadRect (h2.unread x2)) (View.readAt (Elt Ideal) m5.view (Rect.unit (s := S1x512) ![0, 0] S1x512.size i5).toLoadRect (h5.unread x5)) (View.readAt (Elt Ideal) m7.view (Rect.unit (s := S512x512) ![0, 0] S512x512.size i7).toLoadRect (h7.unread x7))) (ix3 0 r l)
      = hnorm (fun n => tproj x0 x1 x2 r (grp 512 (by decide) n)) x7 (x5 (ix2 0 l)) l := by
  refine (pay12_apply _ _ _ _ _ r l).trans ?_
  rw [rd_x0 m0 h0 x0 i0, rd_x1 m1 h1 x1 i1, rd_x3 m5 h5 x5 i5, rd_x5 m7 h7 x7 i7]
  refine congrArg (fun p => hnorm p x7 (x5 (ix2 0 l)) l) (funext fun n => congrArg (proj _ _) (funext fun k => ?_))
  exact rd_x2 m2 h2 x2 512 (by decide) i2 k n

theorem v_tile (m0 : Memref sig κ sp S1x1024x1024 .f32) (h0 : m0.IsWhole) (x0 : FVec Ideal S1x1024x1024 .f32) (i0 : ∀ a, (![0, 0, 0] : Fin 3 → ℕ) a + S1x1024x1024.size a ≤ S1x1024x1024.size a) (m1 : Memref sig κ sp S1x1024 .f32) (h1 : m1.IsWhole) (x1 : FVec Ideal S1x1024 .f32) (i1 : ∀ a, (![0, 0] : Fin 2 → ℕ) a + S1x1024.size a ≤ S1x1024.size a)
    (m2 : Memref sig κ sp S1024x3072 .bf16) (h2 : m2.IsWhole) (x2 : FVec Ideal S1024x3072 .bf16) (i2 : ∀ a, (![0, 1024] : Fin 2 → ℕ) a + S1024x512.size a ≤ S1024x3072.size a) (r : Fin 1024) (l : Fin 512) :
    k0_pay2 (F := Ideal) (k0_pay4 (View.readAt (Elt Ideal) m0.view (Rect.unit (s := S1x1024x1024) ![0, 0, 0] S1x1024x1024.size i0).toLoadRect (h0.unread x0)) (View.readAt (Elt Ideal) m1.view (Rect.unit (s := S1x1024) ![0, 0] S1x1024.size i1).toLoadRect (h1.unread x1))) (View.readAt (Elt Ideal) m2.view (Rect.unit (s := S1024x3072) ![0, 1024] S1024x512.size i2).toLoadRect (h2.unread x2)) (ix3 0 r l) = tproj x0 x1 x2 r (grp 1024 (by decide) l) := by
  refine (pay2_apply _ _ _ r l).trans ?_
  rw [rd_x0 m0 h0 x0 i0, rd_x1 m1 h1 x1 i1]
  exact congrArg (proj _ _) (funext fun k => rd_x2 m2 h2 x2 1024 (by decide) i2 k l)

theorem b_tile (m0 : Memref sig κ sp S1x1024x1024 .f32) (h0 : m0.IsWhole) (x0 : FVec Ideal S1x1024x1024 .f32) (i0 : ∀ a, (![0, 0, 0] : Fin 3 → ℕ) a + S1x1024x1024.size a ≤ S1x1024x1024.size a) (m1 : Memref sig κ sp S1x1024 .f32) (h1 : m1.IsWhole) (x1 : FVec Ideal S1x1024 .f32) (i1 : ∀ a, (![0, 0] : Fin 2 → ℕ) a + S1x1024.size a ≤ S1x1024.size a)
    (m2 : Memref sig κ sp S1024x3072 .bf16) (h2 : m2.IsWhole) (x2 : FVec Ideal S1024x3072 .bf16) (i2 : ∀ a, (![0, 1536] : Fin 2 → ℕ) a + S1024x512.size a ≤ S1024x3072.size a) (r : Fin 1024) (l : Fin 512) :
    k0_pay5 (F := Ideal) (View.readAt (Elt Ideal) m0.view (Rect.unit (s := S1x1024x1024) ![0, 0, 0] S1x1024x1024.size i0).toLoadRect (h0.unread x0)) (View.readAt (Elt Ideal) m1.view (Rect.unit (s := S1x1024) ![0, 0] S1x1024.size i1).toLoadRect (h1.unread x1)) (View.readAt (Elt Ideal) m2.view (Rect.unit (s := S1024x3072) ![0, 1536] S1024x512.size i2).toLoadRect (h2.unread x2)) (ix2 r l) = tproj x0 x1 x2 r (grp 1536 (by decide) l) := by
  refine (pay5_apply _ _ _ r l).trans ?_
  rw [rd_x0 m0 h0 x0 i0, rd_x1 m1 h1 x1 i1]
  exact congrArg (proj _ _) (funext fun k => rd_x2 m2 h2 x2 1536 (by decide) i2 k l)

theorem u_tile (m0 : Memref sig κ sp S1x1024x1024 .f32) (h0 : m0.IsWhole) (x0 : FVec Ideal S1x1024x1024 .f32) (i0 : ∀ a, (![0, 0, 0] : Fin 3 → ℕ) a + S1x1024x1024.size a ≤ S1x1024x1024.size a) (m1 : Memref sig κ sp S1x1024 .f32) (h1 : m1.IsWhole) (x1 : FVec Ideal S1x1024 .f32) (i1 : ∀ a, (![0, 0] : Fin 2 → ℕ) a + S1x1024.size a ≤ S1x1024.size a)
    (m2 : Memref sig κ sp S1024x3072 .bf16) (h2 : m2.IsWhole) (x2 : FVec Ideal S1024x3072 .bf16) (i2 : ∀ a, (![0, 2048] : Fin 2 → ℕ) a + S1024x512.size a ≤ S1024x3072.size a) (i3 : ∀ a, (![0, 2560] : Fin 2 → ℕ) a + S1024x512.size a ≤ S1024x3072.size a) (r : Fin 1024) (l : Fin 512) :
    k0_pay6 (F := Ideal) (View.readAt (Elt Ideal) m0.view (Rect.unit (s := S1x1024x1024) ![0, 0, 0] S1x1024x1024.size i0).toLoadRect (h0.unread x0)) (View.readAt (Elt Ideal) m1.view (Rect.unit (s := S1x1024) ![0, 0] S1x1024.size i1).toLoadRect (h1.unread x1)) (View.readAt (Elt Ideal) m2.view (Rect.unit (s := S1024x3072) ![0, 2048] S1024x512.size i2).toLoadRect (h2.unread x2)) (View.readAt (Elt Ideal) m2.view (Rect.unit (s := S1024x3072) ![0, 2560] S1024x512.size i3).toLoadRect (h2.unread x2)) (ix2 r l) = tU x0 x1 x2 r l := by
  refine (pay6_apply _ _ _ _ r l).trans ?_
  rw [rd_x0 m0 h0 x0 i0, rd_x1 m1 h1 x1 i1]
  exact congrArg₂ (fun a b => a * b) (congrArg (proj _ _) (funext fun k => rd_x2 m2 h2 x2 2048 (by decide) i2 k l)) (congrArg (proj _ _) (funext fun k => rd_x2 m2 h2 x2 2560 (by decide) i3 k l))

/-- The rows read of the scratch at row `o`, `8 - o` rows before the tile's. -/
theorem back_tile {sig : RefSig} {κ : Kind} {sp : Space} (v : View sig κ sp S1032x512 .f32) (f : v.ty.Contents (Elt Ideal)) (u : FVec Ideal S1024x512 .f32) (L : List (View.Piece (Elt Ideal) S1032x512 .f32)) (o : ℕ) (ho : o < 8)
    (inb : ∀ a, (![o, 0] : Fin 2 → ℕ) a + S1024x512.size a ≤ S1032x512.size a) (inb' : ∀ a, (![8, 0] : Fin 2 → ℕ) a + S1024x512.size a ≤ S1032x512.size a)
    (x0 : FVec Ideal S1x1024x1024 .f32) (x1 : FVec Ideal S1x1024 .f32) (x2 : FVec Ideal S1024x3072 .bf16) (cr : Fin 8 → Fin 512 → EReal)
    (hu : ∀ r l, u (ix2 r l) = tU x0 x1 x2 r l) (hc : ∀ (r : Fin 8) (l : Fin 512), v.read (Elt Ideal) (v.writes (Elt Ideal) f L) (ix2 (⟨r.val, by omega⟩ : Fin 1032) l) = cr r l) (r : Fin 1024) (l : Fin 512) :
    View.readAt (Elt Ideal) v (Rect.unit (s := S1032x512) ![o, 0] S1024x512.size inb).toLoadRect (v.writes (Elt Ideal) f (⟨Rect.unit (s := S1032x512) ![8, 0] S1024x512.size inb', u⟩ :: L)) (ix2 r l)
      = tback x0 x1 x2 cr o ho r l := by
  refine (rd_hist v f u L o ho inb inb' r l).trans ?_
  unfold tback
  split
  · exact hu _ _
  · exact hc ⟨o + r.val, by omega⟩ l

/-- The convolution's rows from their parts. -/
theorem y_tile (x0 : FVec Ideal S1x1024x1024 .f32) (x1 : FVec Ideal S1x1024 .f32) (x2 : FVec Ideal S1024x3072 .bf16) (x6 : FVec Ideal S3x512 .f32) (x7 : FVec Ideal S1x512 .f32) (cr : Fin 8 → Fin 512 → EReal)
    (b u : FVec Ideal S1024x512 .f32) (c0 : FVec Ideal S1x512 .f32) (u0 : FVec Ideal S1024x512 .f32) (c1 : FVec Ideal S1x512 .f32) (u1 : FVec Ideal S1024x512 .f32) (c2 g : FVec Ideal S1x512 .f32)
    (hb : ∀ r l, b (ix2 r l) = tproj x0 x1 x2 r (grp 1536 (by decide) l)) (hu : ∀ r l, u (ix2 r l) = tU x0 x1 x2 r l) (h0 : ∀ l, c0 (ix2 0 l) = x6 (ix2 0 l))
    (hu0 : ∀ r l, u0 (ix2 r l) = tback x0 x1 x2 cr 6 (by decide) r l) (h1 : ∀ l, c1 (ix2 0 l) = x6 (ix2 1 l))
    (hu1 : ∀ r l, u1 (ix2 r l) = tback x0 x1 x2 cr 7 (by decide) r l) (h2 : ∀ l, c2 (ix2 0 l) = x6 (ix2 2 l)) (hg : g = x7) (r : Fin 1024) (l : Fin 512) :
    k0_pay9 (F := Ideal) b u c0 u0 c1 u1 c2 g (ix3 0 r l) = tY x0 x1 x2 x6 x7 cr r l := by
  subst hg
  refine (pay9_apply _ _ _ _ _ _ _ _ r l).trans ?_
  simp only [hb, hu, h0, hu0, h1, hu1, h2]
  rfl

end reads

/-- The queries of a tile. -/
theorem outA_8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (r : Fin 1024) (l : Fin 512) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r l) = hnorm (fun n => tproj x0 x1 x2 r (grp 0 (by decide) n)) x5 (x3 (ix2 0 l)) l := by
  unfold out0_A_8 kernelRun0_A
  dsimp only
  refine (congrFun (View.read_writes_full VO0_8 _ _ _ _) _).trans ?_
  unfold kernelRun0_A.sl.r kernelRun0_A.sl.r_3
  exact q_tile arg2 harg2 x0 _ arg3 harg3 x1 _ arg4 harg4 x2 _ arg5 harg5 x3 _ arg7 harg7 x5 _ r l

/-- The keys of a tile. -/
theorem outA_9 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (r : Fin 1024) (l : Fin 512) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r l) = hnorm (fun n => tproj x0 x1 x2 r (grp 512 (by decide) n)) x5 (x4 (ix2 0 l)) l := by
  unfold out0_A_9 kernelRun0_A
  dsimp only
  refine (congrFun (View.read_writes_full VO0_9 _ _ _ _) _).trans ?_
  unfold kernelRun0_A.sl.r_4 kernelRun0_A.sl.r
  exact k_tile arg2 harg2 x0 _ arg3 harg3 x1 _ arg4 harg4 x2 _ arg6 harg6 x4 _ arg7 harg7 x5 _ r l

/-- The values of a tile. -/
theorem outA_10 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (r : Fin 1024) (l : Fin 512) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r l) = tproj x0 x1 x2 r (grp 1024 (by decide) l) := by
  unfold out0_A_10 kernelRun0_A
  dsimp only
  refine (congrFun (View.read_writes_full VO0_10 _ _ _ _) _).trans ?_
  unfold kernelRun0_A.sl.r
  exact v_tile arg2 harg2 x0 _ arg3 harg3 x1 _ arg4 harg4 x2 _ r l

/-- The convolution's rows of a row's first tile: nothing is before it. -/
theorem outA_11 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (r : Fin 1024) (l : Fin 512) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r l) = tY x0 x1 x2 x6 x7 (fun _ _ => 0) r l := by
  unfold out0_A_11 kernelRun0_A
  dsimp only
  refine (congrFun (View.read_writes_full VO0_11 _ _ _ _) _).trans ?_
  unfold kernelRun0_A.sl.r_1 kernelRun0_A.sl.r_2 kernelRun0_A.sl.v34 kernelRun0_A.sl.v38 kernelRun0_A.sl.HS0_2
  refine y_tile x0 x1 x2 x6 x7 (fun _ _ => 0) _ _ _ _ _ _ _ _ ?_ ?_ ?_ ?_ ?_ ?_ ?_ ?_ r l
  · exact fun r l => b_tile arg2 harg2 x0 _ arg3 harg3 x1 _ arg4 harg4 x2 _ r l
  · exact fun r l => u_tile arg2 harg2 x0 _ arg3 harg3 x1 _ arg4 harg4 x2 _ _ r l
  · exact fun l => rd_x6 arg8 harg8 x6 0 _ l
  · exact fun r l => back_tile arg14.view arg14.view.junk _ _ 6 (by decide) _ _ x0 x1 x2 (fun _ _ => 0) (fun r l => (pay7_eq _ _ _ _ r l).trans (u_tile arg2 harg2 x0 _ arg3 harg3 x1 _ arg4 harg4 x2 _ _ r l)) (fun r l => (rd_first _ _ _ _ _ r l).trans (pay3_apply r l)) r l
  · exact fun l => rd_x6 arg8 harg8 x6 1 _ l
  · exact fun r l => back_tile arg14.view arg14.view.junk _ _ 7 (by decide) _ _ x0 x1 x2 (fun _ _ => 0) (fun r l => (pay7_eq _ _ _ _ r l).trans (u_tile arg2 harg2 x0 _ arg3 harg3 x1 _ arg4 harg4 x2 _ _ r l)) (fun r l => (rd_first _ _ _ _ _ r l).trans (pay3_apply r l)) r l
  · exact fun l => rd_x6 arg8 harg8 x6 2 _ l
  · exact rd_x3 arg9 harg9 x7 _

/-- The rows carried to the next tile are this tile's last eight. -/
theorem carry_A (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (r : Fin 8) (l : Fin 512) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix2 (⟨r.val, by omega⟩ : Fin 1032) l) = tU x0 x1 x2 ⟨1016 + r.val, by omega⟩ l := by
  unfold sout0_A_0 kernelRun0_A
  dsimp only
  refine (rd_first VS0_0 _ _ _ _ r l).trans ?_
  refine (pay8_apply _ r l).trans ?_
  unfold kernelRun0_A.sl.r_2
  exact u_tile arg2 harg2 x0 _ arg3 harg3 x1 _ arg4 harg4 x2 _ _ _ l

/-- The queries of a tile. -/
theorem outB_8 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : ¬cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (xs0 : Vec Ideal S1032x512 .f32) (r : Fin 1024) (l : Fin 512) :
    out0_B_8 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix3 0 r l) = hnorm (fun n => tproj x0 x1 x2 r (grp 0 (by decide) n)) x5 (x3 (ix2 0 l)) l := by
  unfold out0_B_8 kernelRun0_B
  dsimp only
  refine (congrFun (View.read_writes_full VO0_8 _ _ _ _) _).trans ?_
  unfold kernelRun0_B.sl.r kernelRun0_B.sl.r_3
  exact q_tile arg2 harg2 x0 _ arg3 harg3 x1 _ arg4 harg4 x2 _ arg5 harg5 x3 _ arg7 harg7 x5 _ r l

/-- The keys of a tile. -/
theorem outB_9 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : ¬cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (xs0 : Vec Ideal S1032x512 .f32) (r : Fin 1024) (l : Fin 512) :
    out0_B_9 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix3 0 r l) = hnorm (fun n => tproj x0 x1 x2 r (grp 512 (by decide) n)) x5 (x4 (ix2 0 l)) l := by
  unfold out0_B_9 kernelRun0_B
  dsimp only
  refine (congrFun (View.read_writes_full VO0_9 _ _ _ _) _).trans ?_
  unfold kernelRun0_B.sl.r_4 kernelRun0_B.sl.r
  exact k_tile arg2 harg2 x0 _ arg3 harg3 x1 _ arg4 harg4 x2 _ arg6 harg6 x4 _ arg7 harg7 x5 _ r l

/-- The values of a tile. -/
theorem outB_10 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : ¬cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (xs0 : Vec Ideal S1032x512 .f32) (r : Fin 1024) (l : Fin 512) :
    out0_B_10 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix3 0 r l) = tproj x0 x1 x2 r (grp 1024 (by decide) l) := by
  unfold out0_B_10 kernelRun0_B
  dsimp only
  refine (congrFun (View.read_writes_full VO0_10 _ _ _ _) _).trans ?_
  unfold kernelRun0_B.sl.r
  exact v_tile arg2 harg2 x0 _ arg3 harg3 x1 _ arg4 harg4 x2 _ r l

/-- The convolution's rows of a row's second tile: the rows before it are the carried. -/
theorem outB_11 (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3072 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S512x512 .bf16) (harg7 : arg7.IsWhole) (arg8 : Memref sig .tc .vmem S3x512 .f32) (harg8 : arg8.IsWhole) (arg9 : Memref sig .tc .vmem S1x512 .f32) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1032x512 .f32) (harg14 : arg14.IsWhole) (hc0 : ¬cond0_0 i)
    (x0 : Vec Ideal S1x1024x1024 .f32) (x1 : Vec Ideal S1x1024 .f32) (x2 : Vec Ideal S1024x3072 .bf16) (x3 : Vec Ideal S1x512 .f32) (x4 : Vec Ideal S1x512 .f32) (x5 : Vec Ideal S512x512 .bf16) (x6 : Vec Ideal S3x512 .f32) (x7 : Vec Ideal S1x512 .f32) (xs0 : Vec Ideal S1032x512 .f32) (r : Fin 1024) (l : Fin 512) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 (ix3 0 r l) = tY x0 x1 x2 x6 x7 (fun r l => xs0 (ix2 (⟨r.val, by omega⟩ : Fin 1032) l)) r l := by
  unfold out0_B_11 kernelRun0_B
  dsimp only
  refine (congrFun (View.read_writes_full VO0_11 _ _ _ _) _).trans ?_
  unfold kernelRun0_B.sl.r_1 kernelRun0_B.sl.r_2
  refine y_tile x0 x1 x2 x6 x7 (fun r l => xs0 (ix2 (⟨r.val, by omega⟩ : Fin 1032) l)) _ _ _ _ _ _ _ _ ?_ ?_ ?_ ?_ ?_ ?_ ?_ ?_ r l
  · exact fun r l => b_tile arg2 harg2 x0 _ arg3 harg3 x1 _ arg4 harg4 x2 _ r l
  · exact fun r l => u_tile arg2 harg2 x0 _ arg3 harg3 x1 _ arg4 harg4 x2 _ _ r l
  · exact fun l => rd_x6 arg8 harg8 x6 0 _ l
  · exact fun r l => back_tile arg14.view (harg14.unread xs0) _ [] 6 (by decide) _ _ x0 x1 x2 (fun r l => xs0 (ix2 (⟨r.val, by omega⟩ : Fin 1032) l)) (fun r l => (pay7_eq _ _ _ _ r l).trans (u_tile arg2 harg2 x0 _ arg3 harg3 x1 _ arg4 harg4 x2 _ _ r l)) (fun r l => congrFun (harg14.read_unread (Val := Elt Ideal) xs0) _) r l
  · exact fun l => rd_x6 arg8 harg8 x6 1 _ l
  · exact fun r l => back_tile arg14.view (harg14.unread xs0) _ [] 7 (by decide) _ _ x0 x1 x2 (fun r l => xs0 (ix2 (⟨r.val, by omega⟩ : Fin 1032) l)) (fun r l => (pay7_eq _ _ _ _ r l).trans (u_tile arg2 harg2 x0 _ arg3 harg3 x1 _ arg4 harg4 x2 _ _ r l)) (fun r l => congrFun (harg14.read_unread (Val := Elt Ideal) xs0) _) r l
  · exact fun l => rd_x6 arg8 harg8 x6 2 _ l
  · exact rd_x3 arg9 harg9 x7 _

end Cert.Mix

end
-- ==== Proof.MixEntry.lean ====
/- What the input projection's region reads: the arguments' entries, and the matrix of the heads. -/
module

public import proofs.«01_k».proof.Proof.MixBlock
public import Idealize.ShloMosaic.Lib.Pipeline.ValueKit
public import Idealize.ShloMosaic.Lib.Pointwise

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.StableHlo

variable (m : (ℓ : Loc nD τ sig) → Buf (Elt Ideal) ℓ)

/-- The arguments as curried arrays. -/
def aX (c : Dev nD) (b : Fin 16) (s : Fin 2048) (k : Fin 1024) : EReal := (m ((c : Thread nD τ).loc main_arg0) : FVec Ideal S16x2048x1024 .f32) (ix3 b s k)
def aG (c : Dev nD) (k : Fin 1024) : EReal := (m ((c : Thread nD τ).loc main_arg1) : FVec Ideal S1024 .f32) (ix1 k)
def aW (c : Dev nD) (k : Fin 1024) (n : Fin 3072) : EReal := (m ((c : Thread nD τ).loc main_arg2) : FVec Ideal S1024x3072 .f32) (ix2 k n)
def aQ (c : Dev nD) (j : Fin 64) : EReal := (m ((c : Thread nD τ).loc main_arg3) : FVec Ideal S64 .f32) (ix1 j)
def aK (c : Dev nD) (j : Fin 64) : EReal := (m ((c : Thread nD τ).loc main_arg4) : FVec Ideal S64 .f32) (ix1 j)
def aC (c : Dev nD) (i : Fin 3) (l : Fin 512) : EReal := (m ((c : Thread nD τ).loc main_arg5) : FVec Ideal S3x512 .f32) (ix2 i l)
def aO (c : Dev nD) (l : Fin 512) : EReal := (m ((c : Thread nD τ).loc main_arg6) : FVec Ideal S512 .f32) (ix1 l)

/-- Two heads' words are equal exactly where the heads are. -/
theorem head_word (a b : Fin 8) : IntOp.cmpi .eq (BitVec.ofNat 32 a.val + 0#32) (BitVec.ofNat 32 b.val) = if a.val = b.val then 1#1 else 0#1 := by
  decide +revert +kernel

/-- The matrix of the heads: one where two lanes are of one head. -/
theorem V_v8 (c : Dev nD) (j l : Fin 512) : (V m c main_v8 : FVec Ideal S512x512 .bf16) (ix2 j l) = if j.val / 64 = l.val / 64 then (1 : EReal) else 0 := by
  have e : V m c main_v8 = StableHlo.after (hostOps0 ++ hostOps0_1 ++ hostOps0_2) (fun b => m (c, b)) (Proc.devRef .tc main_v8) := rfl
  rw [e]
  simp only [hostOps0, hostOps0_1, hostOps0_2, List.cons_append, List.nil_append, TRef.binary, TRef.unary, TRef.toBuf, TRef.ofBuf, cast_eq]
  after_results
  pointwise
  refine (congrArg (fun v : BitVec 1 => FloatOps.uitofp (F := Ideal) FTy.f32 v) (head_word ⟨j.val / 64, by omega⟩ ⟨l.val / 64, by omega⟩)).trans ?_
  show (((if j.val / 64 = l.val / 64 then 1#1 else 0#1 : BitVec 1).toNat : ℝ) : EReal) = _
  by_cases h : j.val / 64 = l.val / 64
  · rw [if_pos h, if_pos h]
    simp
  · rw [if_neg h, if_neg h]
    simp

theorem V_v9 (c : Dev nD) (k : Fin 1024) : (V m c main_v9 : FVec Ideal S1x1024 .f32) (ix2 0 k) = aG m c k := by
  have e : V m c main_v9 = StableHlo.after (hostOps0 ++ hostOps0_1 ++ hostOps0_2) (fun b => m (c, b)) (Proc.devRef .tc main_v9) := rfl
  rw [e]
  simp only [hostOps0, hostOps0_1, hostOps0_2, List.cons_append, List.nil_append, TRef.binary, TRef.unary, TRef.toBuf, TRef.ofBuf, cast_eq]
  after_results
  pointwise [aG]

theorem V_v10 (c : Dev nD) (k : Fin 1024) (n : Fin 3072) : (V m c main_v10 : FVec Ideal S1024x3072 .bf16) (ix2 k n) = aW m c k n := by
  have e : V m c main_v10 = StableHlo.after (hostOps0 ++ hostOps0_1 ++ hostOps0_2) (fun b => m (c, b)) (Proc.devRef .tc main_v10) := rfl
  rw [e]
  simp only [hostOps0, hostOps0_1, hostOps0_2, List.cons_append, List.nil_append, TRef.binary, TRef.unary, TRef.toBuf, TRef.ofBuf, cast_eq]
  after_results
  pointwise [aW]

theorem V_v14 (c : Dev nD) (l : Fin 512) : (V m c main_v14 : FVec Ideal S1x512 .f32) (ix2 0 l) = aQ m c ⟨l.val % 64, by omega⟩ := by
  have e : V m c main_v14 = StableHlo.after (hostOps0 ++ hostOps0_1 ++ hostOps0_2) (fun b => m (c, b)) (Proc.devRef .tc main_v14) := rfl
  rw [e]
  simp only [hostOps0, hostOps0_1, hostOps0_2, List.cons_append, List.nil_append, TRef.binary, TRef.unary, TRef.toBuf, TRef.ofBuf, cast_eq]
  after_results
  pointwise [aQ]

theorem V_v18 (c : Dev nD) (l : Fin 512) : (V m c main_v18 : FVec Ideal S1x512 .f32) (ix2 0 l) = aK m c ⟨l.val % 64, by omega⟩ := by
  have e : V m c main_v18 = StableHlo.after (hostOps0 ++ hostOps0_1 ++ hostOps0_2) (fun b => m (c, b)) (Proc.devRef .tc main_v18) := rfl
  rw [e]
  simp only [hostOps0, hostOps0_1, hostOps0_2, List.cons_append, List.nil_append, TRef.binary, TRef.unary, TRef.toBuf, TRef.ofBuf, cast_eq]
  after_results
  pointwise [aK]

theorem V_v19 (c : Dev nD) (l : Fin 512) : (V m c main_v19 : FVec Ideal S1x512 .f32) (ix2 0 l) = aO m c l := by
  have e : V m c main_v19 = StableHlo.after (hostOps0 ++ hostOps0_1 ++ hostOps0_2) (fun b => m (c, b)) (Proc.devRef .tc main_v19) := rfl
  rw [e]
  simp only [hostOps0, hostOps0_1, hostOps0_2, List.cons_append, List.nil_append, TRef.binary, TRef.unary, TRef.toBuf, TRef.ofBuf, cast_eq]
  after_results
  pointwise [aO]

theorem idx : ∀ t : Fin cfg0.N, win0_0.index t = ![t.val / 2, t.val % 2, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val / 2, t.val % 2, 0] ∧ win0_9.index t = ![t.val / 2, t.val % 2, 0]
    ∧ win0_10.index t = ![t.val / 2, t.val % 2, 0] ∧ win0_11.index t = ![t.val / 2, t.val % 2, 0] :=
  (by decide +kernel : ∀ t : Fin grid0.N, _)

/-- A tile's row of the batch, and its row of the sequence. -/
def tb (t : Fin cfg0.N) : Fin 16 := ⟨t.val / 2, by have : t.val < 32 := t.isLt; omega⟩
def ts (t : Fin cfg0.N) (r : Fin 1024) : Fin 2048 := ⟨1024 * (t.val % 2) + r.val, by omega⟩

theorem blk0 (c : Dev nD) (t : Fin cfg0.N) (r k : Fin 1024) : (iblk m c 0 t : FVec Ideal S1x1024x1024 .f32) (ix3 0 r k) = aX m c (tb t) (ts t r) k := by
  refine Eq.trans (b := (V m c main_arg0 : FVec Ideal S16x2048x1024 .f32) (ix3 (tb t) (ts t r) k)) ?_ (congrFun (V_main_arg0 m c) _)
  unfold tb ts
  blk_ext [iblk, idx t]

theorem blk1 (c : Dev nD) (t : Fin cfg0.N) (k : Fin 1024) : (iblk m c 1 t : FVec Ideal S1x1024 .f32) (ix2 0 k) = aG m c k := by
  rw [← V_v9]
  blk_ext [iblk, idx t]

theorem blk2 (c : Dev nD) (t : Fin cfg0.N) (k : Fin 1024) (n : Fin 3072) : (iblk m c 2 t : FVec Ideal S1024x3072 .bf16) (ix2 k n) = aW m c k n := by
  rw [← V_v10]
  blk_ext [iblk, idx t]

theorem blk3 (c : Dev nD) (t : Fin cfg0.N) (l : Fin 512) : (iblk m c 3 t : FVec Ideal S1x512 .f32) (ix2 0 l) = aQ m c ⟨l.val % 64, by omega⟩ := by
  rw [← V_v14]
  blk_ext [iblk, idx t]

theorem blk4 (c : Dev nD) (t : Fin cfg0.N) (l : Fin 512) : (iblk m c 4 t : FVec Ideal S1x512 .f32) (ix2 0 l) = aK m c ⟨l.val % 64, by omega⟩ := by
  rw [← V_v18]
  blk_ext [iblk, idx t]

theorem blk5 (c : Dev nD) (t : Fin cfg0.N) (j l : Fin 512) : (iblk m c 5 t : FVec Ideal S512x512 .bf16) (ix2 j l) = if j.val / 64 = l.val / 64 then (1 : EReal) else 0 := by
  rw [← V_v8 m c]
  blk_ext [iblk, idx t]

theorem blk6 (c : Dev nD) (t : Fin cfg0.N) (i : Fin 3) (l : Fin 512) : (iblk m c 6 t : FVec Ideal S3x512 .f32) (ix2 i l) = aC m c i l := by
  refine Eq.trans (b := (V m c main_arg5 : FVec Ideal S3x512 .f32) (ix2 i l)) ?_ (congrFun (V_main_arg5 m c) _)
  blk_ext [iblk, idx t]

theorem blk7 (c : Dev nD) (t : Fin cfg0.N) (l : Fin 512) : (iblk m c 7 t : FVec Ideal S1x512 .f32) (ix2 0 l) = aO m c l := by
  rw [← V_v19]
  blk_ext [iblk, idx t]

end Cert.Mix

end
-- ==== Proof.MixArrays.lean ====
/- The arrays the input projection's call ends with. -/
module

public import proofs.«01_k».proof.Proof.MixEntry
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Mix

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ)

section parts
variable {α β γ δ ε : Type*} {p : α × β × γ × δ × ε} {a : α} {b : β} {c : γ} {d : δ} {e : ε} (h : p = (a, b, c, d, e))
include h

theorem part0 : p.1 = a := by rw [h]
theorem part1 : p.2.1 = b := by rw [h]
theorem part2 : p.2.2.1 = c := by rw [h]
theorem part3 : p.2.2.2.1 = d := by rw [h]
theorem part4 : p.2.2.2.2 = e := by rw [h]

end parts

theorem sixtyfourth : Ideal.ofBits .f32 0x3C800000#32 = ((1 / 64 : ℝ) : EReal) := by
  simp [Ideal.ofBits, Ideal.ieee, -EReal.coe_mul]; norm_num

theorem sixtyfour : Ideal.ofBits .f32 0x42800000#32 = ((64 : ℝ) : EReal) := by
  simp [Ideal.ofBits, Ideal.ieee, -EReal.coe_mul]; norm_num

/-- The lanes by the matrix of the heads are the lanes of the head. -/
theorem sum_head (f : Fin 512 → EReal) (l : Fin 512) : (∑ j : Fin 512, f j * (if j.val / 64 = l.val / 64 then (1 : EReal) else 0)) = ∑ j : Fin 64, f ⟨64 * (l.val / 64) + j.val, by omega⟩ := by
  refine (Equiv.sum_comp (finProdFinEquiv (m := 8) (n := 64)) (fun j : Fin 512 => f j * (if j.val / 64 = l.val / 64 then (1 : EReal) else 0))).symm.trans ?_
  rw [Fintype.sum_prod_type, Finset.sum_eq_single (⟨l.val / 64, by omega⟩ : Fin 8)]
  · refine Finset.sum_congr rfl fun j _ => ?_
    have e : (finProdFinEquiv (m := 8) (n := 64) (⟨l.val / 64, by omega⟩, j) : Fin 512) = ⟨64 * (l.val / 64) + j.val, by omega⟩ := Fin.ext (show j.val + 64 * (l.val / 64) = 64 * (l.val / 64) + j.val by omega)
    rw [e, if_pos (show (64 * (l.val / 64) + j.val) / 64 = l.val / 64 by omega), mul_one]
  · intro a _ ha
    refine Finset.sum_eq_zero fun j _ => ?_
    have e : (finProdFinEquiv (m := 8) (n := 64) (a, j) : Fin 512) = ⟨64 * a.val + j.val, by omega⟩ := Fin.ext (show j.val + 64 * a.val = 64 * a.val + j.val by omega)
    have hne : a.val ≠ l.val / 64 := fun h => ha (Fin.ext h)
    rw [e, if_neg (show ¬(64 * a.val + j.val) / 64 = l.val / 64 by omega), mul_zero]
  · intro h
    exact absurd (Finset.mem_univ _) h

/-- The norm by the matrix of the heads is the norm over the head. -/
theorem hnorm_eq (p : Fin 512 → EReal) (hm : FVec Ideal S512x512 .bf16) (hh : ∀ j l : Fin 512, hm (ix2 j l) = if j.val / 64 = l.val / 64 then (1 : EReal) else 0) (hg : Fin 64 → EReal) (l : Fin 512) :
    hnorm p hm (hg ⟨l.val % 64, by omega⟩) l = headNorm p hg l := by
  unfold hnorm headNorm normed
  simp only [hh]
  rw [sum_head (fun j => p j * p j) l, sixtyfour, Ideal.div_coe (by norm_num), sixtyfourth]

theorem tproj_eq (c : Dev nD) (t : Fin cfg0.N) (r : Fin 1024) (n : Fin 3072) :
    tproj (iblk m c 0 t) (iblk m c 1 t) (iblk m c 2 t) r n = P (aX m c) (aG m c) (aW m c) (tb t) (ts t r) n := by
  unfold tproj P wcol
  simp only [blk0, blk1, blk2]

theorem tU_eq (c : Dev nD) (t : Fin cfg0.N) (r : Fin 1024) (l : Fin 512) :
    tU (iblk m c 0 t) (iblk m c 1 t) (iblk m c 2 t) r l = U (aX m c) (aG m c) (aW m c) (tb t) (ts t r) l :=
  congrArg₂ (fun a b => a * b) (tproj_eq m c t r _) (tproj_eq m c t r _)

/-- The rows before a tile's, where the eight carried are the previous tile's last. -/
theorem tback_eq (c : Dev nD) (t : Fin cfg0.N) (cr : Fin 8 → Fin 512 → EReal)
    (hcr : ∀ (r : Fin 8) (l : Fin 512), cr r l = if t.val % 2 = 0 then 0 else U (aX m c) (aG m c) (aW m c) (tb t) ⟨1016 + r.val, by omega⟩ l) (o : ℕ) (ho : o < 8) (r : Fin 1024) (l : Fin 512) :
    tback (iblk m c 0 t) (iblk m c 1 t) (iblk m c 2 t) cr o ho r l = back (aX m c) (aG m c) (aW m c) (8 - o) (tb t) (ts t r) l := by
  unfold tback back
  by_cases h : 8 ≤ o + r.val
  · rw [dif_pos h, tU_eq, if_pos (by unfold ts; simp only; omega)]
    refine congrArg (fun s => U (aX m c) (aG m c) (aW m c) (tb t) s l) (Fin.ext ?_)
    unfold ts
    simp only
    omega
  · rw [dif_neg h, hcr]
    by_cases ht : t.val % 2 = 0
    · rw [if_pos ht, if_neg (by unfold ts; simp only; omega)]
    · rw [if_neg ht, if_pos (by unfold ts; simp only; omega)]
      refine congrArg (fun s => U (aX m c) (aG m c) (aW m c) (tb t) s l) (Fin.ext ?_)
      unfold ts
      simp only
      omega

theorem tY_eq (c : Dev nD) (t : Fin cfg0.N) (cr : Fin 8 → Fin 512 → EReal)
    (hcr : ∀ (r : Fin 8) (l : Fin 512), cr r l = if t.val % 2 = 0 then 0 else U (aX m c) (aG m c) (aW m c) (tb t) ⟨1016 + r.val, by omega⟩ l) (r : Fin 1024) (l : Fin 512) :
    tY (iblk m c 0 t) (iblk m c 1 t) (iblk m c 2 t) (iblk m c 6 t) (iblk m c 7 t) cr r l = Y (aX m c) (aG m c) (aW m c) (aC m c) (aO m c) (tb t) (ts t r) l := by
  have hg : ∀ j, tgated (iblk m c 0 t) (iblk m c 1 t) (iblk m c 2 t) (iblk m c 6 t) cr r j = G (aX m c) (aG m c) (aW m c) (aC m c) (tb t) (ts t r) j := by
    intro j
    unfold tgated G
    rw [tproj_eq, tU_eq, tback_eq m c t cr hcr, tback_eq m c t cr hcr, blk6, blk6, blk6]
  unfold tY Y
  simp only [hg, blk7]

/-- A tile's blocks. -/
theorem out8 (c : Dev nD) (t : Fin cfg0.N) (r : Fin 1024) (l : Fin 512) :
    (outsAt0 m c t.val t.isLt).1 (ix3 0 r l) = headNorm (fun n => P (aX m c) (aG m c) (aW m c) (tb t) (ts t r) (grp 0 (by decide) n)) (aQ m c) l := by
  refine Eq.trans (b := hnorm (fun n => tproj (iblk m c 0 t) (iblk m c 1 t) (iblk m c 2 t) r (grp 0 (by decide) n)) (iblk m c 5 t) ((iblk m c 3 t : FVec Ideal S1x512 .f32) (ix2 0 l)) l) ?_ ?_
  · by_cases h0 : t.val % 2 = 0
    · refine (congrFun (part0 (outsAt0_A m c t h0)) _).trans ?_
      exact outA_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) r l
    · refine (congrFun (part0 (outsAt0_B m c t h0)) _).trans ?_
      exact outB_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2 r l
  · rw [blk3, hnorm_eq _ _ (blk5 m c t)]
    simp only [tproj_eq]

theorem out9 (c : Dev nD) (t : Fin cfg0.N) (r : Fin 1024) (l : Fin 512) :
    (outsAt0 m c t.val t.isLt).2.1 (ix3 0 r l) = headNorm (fun n => P (aX m c) (aG m c) (aW m c) (tb t) (ts t r) (grp 512 (by decide) n)) (aK m c) l := by
  refine Eq.trans (b := hnorm (fun n => tproj (iblk m c 0 t) (iblk m c 1 t) (iblk m c 2 t) r (grp 512 (by decide) n)) (iblk m c 5 t) ((iblk m c 4 t : FVec Ideal S1x512 .f32) (ix2 0 l)) l) ?_ ?_
  · by_cases h0 : t.val % 2 = 0
    · refine (congrFun (part1 (outsAt0_A m c t h0)) _).trans ?_
      exact outA_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) r l
    · refine (congrFun (part1 (outsAt0_B m c t h0)) _).trans ?_
      exact outB_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2 r l
  · rw [blk4, hnorm_eq _ _ (blk5 m c t)]
    simp only [tproj_eq]

theorem out10 (c : Dev nD) (t : Fin cfg0.N) (r : Fin 1024) (l : Fin 512) :
    (outsAt0 m c t.val t.isLt).2.2.1 (ix3 0 r l) = P (aX m c) (aG m c) (aW m c) (tb t) (ts t r) (grp 1024 (by decide) l) := by
  refine Eq.trans ?_ (tproj_eq m c t r _)
  by_cases h0 : t.val % 2 = 0
  · refine (congrFun (part2 (outsAt0_A m c t h0)) _).trans ?_
    exact outA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) r l
  · refine (congrFun (part2 (outsAt0_B m c t h0)) _).trans ?_
    exact outB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2 r l

theorem carried (c : Dev nD) (t : Fin cfg0.N) (h0 : t.val % 2 = 0) (r : Fin 8) (l : Fin 512) :
    (outsAt0 m c t.val t.isLt).2.2.2.2 (ix2 (⟨r.val, by omega⟩ : Fin 1032) l) = U (aX m c) (aG m c) (aW m c) (tb t) ⟨1016 + r.val, by omega⟩ l := by
  refine (congrFun (part4 (outsAt0_A m c t h0)) _).trans ?_
  refine (carry_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) r l).trans ((tU_eq m c t _ l).trans ?_)
  refine congrArg (fun s => U (aX m c) (aG m c) (aW m c) (tb t) s l) (Fin.ext ?_)
  unfold ts
  simp only
  omega

theorem out11 (c : Dev nD) (t : Fin cfg0.N) (r : Fin 1024) (l : Fin 512) :
    (outsAt0 m c t.val t.isLt).2.2.2.1 (ix3 0 r l) = Y (aX m c) (aG m c) (aW m c) (aC m c) (aO m c) (tb t) (ts t r) l := by
  by_cases h0 : t.val % 2 = 0
  · refine (congrFun (part3 (outsAt0_A m c t h0)) _).trans ?_
    exact (outA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) r l).trans (tY_eq m c t _ (fun r l => (if_pos h0).symm) r l)
  · have hlt : t.val - 1 < cfg0.N := Nat.lt_of_le_of_lt (Nat.sub_le _ _) t.isLt
    refine (congrFun (part3 (outsAt0_B m c t h0)) _).trans ?_
    refine (outB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2 r l).trans (tY_eq m c t _ (fun r l => ?_) r l)
    rw [if_neg h0]
    refine (carried m c ⟨t.val - 1, hlt⟩ (by simp only; omega) r l).trans ?_
    refine congrArg (fun b => U (aX m c) (aG m c) (aW m c) b ⟨1016 + r.val, by omega⟩ l) (Fin.ext ?_)
    unfold tb
    simp only
    omega

theorem at_congr (f : Fin 16 → Fin 2048 → Fin 512 → EReal) {b b' : Fin 16} {s s' : Fin 2048} {l l' : Fin 512} (e0 : b.val = b'.val) (e1 : s.val = s'.val) (e2 : l.val = l'.val) : f b s l = f b' s' l' := by
  obtain rfl := Fin.ext e0
  obtain rfl := Fin.ext e1
  obtain rfl := Fin.ext e2
  rfl

/-- A curried array as an array. -/
def arr (f : Fin 16 → Fin 2048 → Fin 512 → EReal) : FVec Ideal S16x2048x512 .bf16 := fun i => f (i 0) (i 1) (i 2)

/-- The queries, -/
theorem array8 (c : Dev nD) : (dats m 0 c).arrAt 8 cfg0.N = arr (fun b s => headNorm (fun n => P (aX m c) (aG m c) (aW m c) b s (grp 0 (by decide) n)) (aQ m c)) := by
  refine (dats m 0 c).arrAt_eq_of_covers 8 _ (by decide +kernel) fun t _ y => ?_
  blk_simp
  rw [after0_8]
  idx_vars y
  obtain rfl : y0 = 0 := Subsingleton.elim _ _
  refine (out8 m c t y1 y2).trans (at_congr (fun b s => headNorm (fun n => P (aX m c) (aG m c) (aW m c) b s (grp 0 (by decide) n)) (aQ m c)) ?_ ?_ ?_)
  · unfold tb
    blk_simp [idx t]
    rfl
  · unfold ts
    blk_simp [idx t]
    show 1024 * (t.val % 2) + y1.val = t.val % 2 * 1024 + y1.val
    omega
  · blk_simp [idx t]

/-- the keys, -/
theorem array9 (c : Dev nD) : (dats m 0 c).arrAt 9 cfg0.N = arr (fun b s => headNorm (fun n => P (aX m c) (aG m c) (aW m c) b s (grp 512 (by decide) n)) (aK m c)) := by
  refine (dats m 0 c).arrAt_eq_of_covers 9 _ (by decide +kernel) fun t _ y => ?_
  blk_simp
  rw [after0_9]
  idx_vars y
  obtain rfl : y0 = 0 := Subsingleton.elim _ _
  refine (out9 m c t y1 y2).trans (at_congr (fun b s => headNorm (fun n => P (aX m c) (aG m c) (aW m c) b s (grp 512 (by decide) n)) (aK m c)) ?_ ?_ ?_)
  · unfold tb
    blk_simp [idx t]
    rfl
  · unfold ts
    blk_simp [idx t]
    show 1024 * (t.val % 2) + y1.val = t.val % 2 * 1024 + y1.val
    omega
  · blk_simp [idx t]

/-- the values, -/
theorem array10 (c : Dev nD) : (dats m 0 c).arrAt 10 cfg0.N = arr (fun b s l => P (aX m c) (aG m c) (aW m c) b s (grp 1024 (by decide) l)) := by
  refine (dats m 0 c).arrAt_eq_of_covers 10 _ (by decide +kernel) fun t _ y => ?_
  blk_simp
  rw [after0_10]
  idx_vars y
  obtain rfl : y0 = 0 := Subsingleton.elim _ _
  refine (out10 m c t y1 y2).trans (at_congr (fun b s l => P (aX m c) (aG m c) (aW m c) b s (grp 1024 (by decide) l)) ?_ ?_ ?_)
  · unfold tb
    blk_simp [idx t]
    rfl
  · unfold ts
    blk_simp [idx t]
    show 1024 * (t.val % 2) + y1.val = t.val % 2 * 1024 + y1.val
    omega
  · blk_simp [idx t]

/-- and the convolution's rows. -/
theorem array11 (c : Dev nD) : (dats m 0 c).arrAt 11 cfg0.N = arr (Y (aX m c) (aG m c) (aW m c) (aC m c) (aO m c)) := by
  refine (dats m 0 c).arrAt_eq_of_covers 11 _ (by decide +kernel) fun t _ y => ?_
  blk_simp
  rw [after0_11]
  idx_vars y
  obtain rfl : y0 = 0 := Subsingleton.elim _ _
  refine (out11 m c t y1 y2).trans (at_congr (Y (aX m c) (aG m c) (aW m c) (aC m c) (aO m c)) ?_ ?_ ?_)
  · unfold tb
    blk_simp [idx t]
    rfl
  · unfold ts
    blk_simp [idx t]
    show 1024 * (t.val % 2) + y1.val = t.val % 2 * 1024 + y1.val
    omega
  · blk_simp [idx t]

end Cert.Mix

end
-- ==== Proof.MixRef.lean ====
/- The input projection's reference, entry by entry. -/
module

public import proofs.«01_k».proof.Proof.MixSpec
public import proofs.«01_k».proof.Proof.Gen.Reference3Ideal
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.Reference3Ideal.Mix

open Cert.Reference3Ideal Cert.Reference3Ideal.Gen Cert.Reference3Ideal.Value Idealize.ShloMosaic.StableHlo
open Idealize.ShloMosaic Idealize.ShloMosaic.TcCoe Idealize.SL.Sem
open Cert.Mix (P normed hrow proj headNorm grp back gated)

/-- The normalised input, -/
def rnorm (A0 : FVec Ideal S16x2048x1024 .f32) (A1 : FVec Ideal S1024 .f32) : FVec Ideal S16x2048x1024 .f32 :=
  mulf (mulf A0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf A0 A0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 A1))

/-- its projection, -/
def rproj (A0 : FVec Ideal S16x2048x1024 .f32) (A1 : FVec Ideal S1024 .f32) (A2 : FVec Ideal S1024x3072 .f32) : FVec Ideal S16x2048x3072 .f32 :=
  Host.dotGeneral dot_S16x2048x1024_S1024x3072_S16x2048x3072_2_0_01_1_n_n none (rnorm A0 A1) A2

/-- the norm over the heads, -/
def rhead (z : FVec Ideal S16x2048x8x64 .f32) (g : FVec Ideal S64 .f32) : FVec Ideal S16x2048x8x64 .f32 :=
  mulf (mulf z (broadcastInDim S16x2048x8x64 ![0, 1, 2, 3] bcast_S16x2048x8x1_S16x2048x8x64_0_1_2_3 (Host.rsqrt (addf (Host.divf (broadcastInDim S16x2048x8x1 ![0, 1, 2] bcast_S16x2048x8_S16x2048x8x1_0_1_2 (Host.reduceAdd (mulf z z) (constant S_ .f32 0x00000000#32) reducesTo_S16x2048x8x64_S16x2048x8_d3 h_S_)) (broadcastInDim S16x2048x8x1 ![] bcast_S_S16x2048x8x1 (constant S_ .f32 0x42800000#32))) (broadcastInDim S16x2048x8x1 ![] bcast_S_S16x2048x8x1 (constant S_ .f32 0x358637BD#32)))))) (broadcastInDim S16x2048x8x64 ![0, 1, 2, 3] bcast_S1x1x1x64_S16x2048x8x64_0_1_2_3 (broadcastInDim S1x1x1x64 ![3] bcast_S64_S1x1x1x64_3 g))

/-- the queries, -/
def rq (p : FVec Ideal S16x2048x3072 .f32) (g : FVec Ideal S64 .f32) : FVec Ideal S16x2048x512 .bf16 :=
  truncf .bf16 (shapeCast _ (rhead (shapeCast _ (extractStridedSlice S16x2048x512 ![0, 0, 0] p slices_S16x2048x3072_S16x2048x512_0_0_0) shapeCasts_S16x2048x512_S16x2048x8x64) g) shapeCasts_S16x2048x8x64_S16x2048x512) bitsLt_bf16_f32

/-- the keys, -/
def rk (p : FVec Ideal S16x2048x3072 .f32) (g : FVec Ideal S64 .f32) : FVec Ideal S16x2048x512 .bf16 :=
  truncf .bf16 (shapeCast _ (rhead (shapeCast _ (extractStridedSlice S16x2048x512 ![0, 0, 512] p slices_S16x2048x3072_S16x2048x512_0_0_512) shapeCasts_S16x2048x512_S16x2048x8x64) g) shapeCasts_S16x2048x8x64_S16x2048x512) bitsLt_bf16_f32

/-- the values, -/
def rv (p : FVec Ideal S16x2048x3072 .f32) : FVec Ideal S16x2048x512 .bf16 :=
  truncf .bf16 (extractStridedSlice S16x2048x512 ![0, 0, 1024] p slices_S16x2048x3072_S16x2048x512_0_0_1024) bitsLt_bf16_f32

/-- the convolution's input with two zero rows before it, -/
def rpad (p : FVec Ideal S16x2048x3072 .f32) : FVec Ideal S16x2050x512 .f32 :=
  pad S16x2050x512 ![0, 2, 0] ![0, 0, 0] ![0, 0, 0] (mulf (extractStridedSlice S16x2048x512 ![0, 0, 2048] p slices_S16x2048x3072_S16x2048x512_0_0_2048) (extractStridedSlice S16x2048x512 ![0, 0, 2560] p slices_S16x2048x3072_S16x2048x512_0_0_2560)) (sitofp .f32 (constantI S_ 32 0#32)) pads_S16x2048x512_S16x2050x512_000_200_000 h_S_

/-- the gated convolution, -/
def rgated (p : FVec Ideal S16x2048x3072 .f32) (u : FVec Ideal S16x2050x512 .f32) (A5 : FVec Ideal S3x512 .f32) : FVec Ideal S16x2048x512 .f32 :=
  mulf (extractStridedSlice S16x2048x512 ![0, 0, 1536] p slices_S16x2048x3072_S16x2048x512_0_0_1536) (addf (addf (mulf (broadcastInDim S16x2048x512 ![0, 1, 2] bcast_S1x1x512_S16x2048x512_0_1_2 (broadcastInDim S1x1x512 ![2] bcast_S512_S1x1x512_2 (shapeCast _ (extractStridedSlice S1x512 ![0, 0] A5 slices_S3x512_S1x512_0_0) shapeCasts_S1x512_S512))) (extractStridedSlice S16x2048x512 ![0, 0, 0] u slices_S16x2050x512_S16x2048x512_0_0_0)) (mulf (broadcastInDim S16x2048x512 ![0, 1, 2] bcast_S1x1x512_S16x2048x512_0_1_2 (broadcastInDim S1x1x512 ![2] bcast_S512_S1x1x512_2 (shapeCast _ (extractStridedSlice S1x512 ![1, 0] A5 slices_S3x512_S1x512_1_0) shapeCasts_S1x512_S512))) (extractStridedSlice S16x2048x512 ![0, 1, 0] u slices_S16x2050x512_S16x2048x512_0_1_0))) (mulf (broadcastInDim S16x2048x512 ![0, 1, 2] bcast_S1x1x512_S16x2048x512_0_1_2 (broadcastInDim S1x1x512 ![2] bcast_S512_S1x1x512_2 (shapeCast _ (extractStridedSlice S1x512 ![2, 0] A5 slices_S3x512_S1x512_2_0) shapeCasts_S1x512_S512))) (extractStridedSlice S16x2048x512 ![0, 2, 0] u slices_S16x2050x512_S16x2048x512_0_2_0)))

/-- and its norm. -/
def ry (z : FVec Ideal S16x2048x512 .f32) (g : FVec Ideal S512 .f32) : FVec Ideal S16x2048x512 .bf16 :=
  truncf .bf16 (mulf (mulf z (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf z z) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 g))) bitsLt_bf16_f32

theorem rnorm_apply (A0 : FVec Ideal S16x2048x1024 .f32) (A1 : FVec Ideal S1024 .f32) (b : Fin 16) (s : Fin 2048) (k : Fin 1024) :
    rnorm A0 A1 (ix3 b s k) = hrow (fun k => A0 (ix3 b s k)) (fun k => A1 (ix1 k)) k := by
  pointwise [rnorm, hrow, normed]

theorem rproj_apply (A0 : FVec Ideal S16x2048x1024 .f32) (A1 : FVec Ideal S1024 .f32) (A2 : FVec Ideal S1024x3072 .f32) (b : Fin 16) (s : Fin 2048) (n : Fin 3072) :
    rproj A0 A1 A2 (ix3 b s n) = P (fun b s k => A0 (ix3 b s k)) (fun k => A1 (ix1 k)) (fun k n => A2 (ix2 k n)) b s n := by
  pointwise [rproj, rnorm_apply, P, proj]

theorem rhead_apply (z : FVec Ideal S16x2048x8x64 .f32) (g : FVec Ideal S64 .f32) (b : Fin 16) (s : Fin 2048) (h : Fin 8) (j : Fin 64) :
    rhead z g (ix4 b s h j) = normed (z (ix4 b s h j)) (∑ i : Fin 64, z (ix4 b s h i) * z (ix4 b s h i)) (Ideal.ofBits .f32 0x42800000#32) (g (ix1 j)) := by
  pointwise [rhead, normed]

theorem rv_apply (p : FVec Ideal S16x2048x3072 .f32) (b : Fin 16) (s : Fin 2048) (l : Fin 512) : rv p (ix3 b s l) = p (ix3 b s (grp 1024 (by decide) l)) := by
  pointwise [rv, grp]

theorem rq_apply (p : FVec Ideal S16x2048x3072 .f32) (g : FVec Ideal S64 .f32) (b : Fin 16) (s : Fin 2048) (l : Fin 512) :
    rq p g (ix3 b s l) = headNorm (fun n => p (ix3 b s (grp 0 (by decide) n))) (fun j => g (ix1 j)) l := by
  pointwise [rq, rhead_apply, headNorm, grp]
  simp only [Nat.mul_comm]

theorem rk_apply (p : FVec Ideal S16x2048x3072 .f32) (g : FVec Ideal S64 .f32) (b : Fin 16) (s : Fin 2048) (l : Fin 512) :
    rk p g (ix3 b s l) = headNorm (fun n => p (ix3 b s (grp 512 (by decide) n))) (fun j => g (ix1 j)) l := by
  pointwise [rk, rhead_apply, headNorm, grp]
  simp only [Nat.mul_comm]

/-- The convolution's input of a projection. -/
def uOf (p : FVec Ideal S16x2048x3072 .f32) (b : Fin 16) (s : Fin 2048) (l : Fin 512) : EReal := p (ix3 b s (grp 2048 (by decide) l)) * p (ix3 b s (grp 2560 (by decide) l))

theorem rpad_apply (p : FVec Ideal S16x2048x3072 .f32) (b : Fin 16) (s : Fin 2050) (l : Fin 512) :
    rpad p (ix3 b s l) = if h : 2 ≤ s.val then uOf p b ⟨s.val - 2, by omega⟩ l else 0 := by
  pointwise [rpad, uOf, grp]
  by_cases h : 2 ≤ s.val
  · rw [dif_pos ⟨h, by omega⟩, dif_pos h]
  · rw [dif_neg (fun h' => h h'.1), dif_neg h]
    show ((((0#32 : BitVec 32).toInt : ℝ)) : EReal) = 0
    simp

theorem rgated_apply (p : FVec Ideal S16x2048x3072 .f32) (u : FVec Ideal S16x2050x512 .f32) (A5 : FVec Ideal S3x512 .f32) (b : Fin 16) (s : Fin 2048) (l : Fin 512) :
    rgated p u A5 (ix3 b s l) = gated (p (ix3 b s (grp 1536 (by decide) l))) (A5 (ix2 0 l)) (u (ix3 b ⟨s.val, by omega⟩ l)) (A5 (ix2 1 l)) (u (ix3 b ⟨1 + s.val, by omega⟩ l)) (A5 (ix2 2 l)) (u (ix3 b ⟨2 + s.val, by omega⟩ l)) := by
  pointwise [rgated, gated, grp]

theorem ry_apply (z : FVec Ideal S16x2048x512 .f32) (g : FVec Ideal S512 .f32) (b : Fin 16) (s : Fin 2048) (l : Fin 512) :
    ry z g (ix3 b s l) = normed (z (ix3 b s l)) (∑ j : Fin 512, z (ix3 b s j) * z (ix3 b s j)) (Ideal.ofBits .f32 0x44000000#32) (g (ix1 l)) := by
  pointwise [ry, normed]

section curried
variable (A0 : FVec Ideal S16x2048x1024 .f32) (A1 : FVec Ideal S1024 .f32) (A2 : FVec Ideal S1024x3072 .f32)

/-- The reference's projection, of curried arrays. -/
abbrev PP (b : Fin 16) (s : Fin 2048) (n : Fin 3072) : EReal := P (fun b s k => A0 (ix3 b s k)) (fun k => A1 (ix1 k)) (fun k n => A2 (ix2 k n)) b s n

theorem rq_val (A3 : FVec Ideal S64 .f32) (b : Fin 16) (s : Fin 2048) (l : Fin 512) : rq (rproj A0 A1 A2) A3 (ix3 b s l) = headNorm (fun n => PP A0 A1 A2 b s (grp 0 (by decide) n)) (fun j => A3 (ix1 j)) l := by
  rw [rq_apply]
  simp only [rproj_apply]

theorem rk_val (A4 : FVec Ideal S64 .f32) (b : Fin 16) (s : Fin 2048) (l : Fin 512) : rk (rproj A0 A1 A2) A4 (ix3 b s l) = headNorm (fun n => PP A0 A1 A2 b s (grp 512 (by decide) n)) (fun j => A4 (ix1 j)) l := by
  rw [rk_apply]
  simp only [rproj_apply]

theorem rv_val (b : Fin 16) (s : Fin 2048) (l : Fin 512) : rv (rproj A0 A1 A2) (ix3 b s l) = PP A0 A1 A2 b s (grp 1024 (by decide) l) := by
  rw [rv_apply, rproj_apply]

theorem uOf_val (b : Fin 16) (s : Fin 2048) (l : Fin 512) : uOf (rproj A0 A1 A2) b s l = Cert.Mix.U (fun b s k => A0 (ix3 b s k)) (fun k => A1 (ix1 k)) (fun k n => A2 (ix2 k n)) b s l := by
  unfold uOf Cert.Mix.U
  rw [rproj_apply, rproj_apply]

theorem rgated_val (A5 : FVec Ideal S3x512 .f32) (b : Fin 16) (s : Fin 2048) (l : Fin 512) :
    rgated (rproj A0 A1 A2) (rpad (rproj A0 A1 A2)) A5 (ix3 b s l) = Cert.Mix.G (fun b s k => A0 (ix3 b s k)) (fun k => A1 (ix1 k)) (fun k n => A2 (ix2 k n)) (fun i l => A5 (ix2 i l)) b s l := by
  have e0 : rpad (rproj A0 A1 A2) (ix3 b ⟨s.val, by omega⟩ l) = back (fun b s k => A0 (ix3 b s k)) (fun k => A1 (ix1 k)) (fun k n => A2 (ix2 k n)) 2 b s l := by
    rw [rpad_apply]
    unfold back
    by_cases h : 2 ≤ s.val
    · rw [dif_pos h, if_pos h, uOf_val]
    · rw [dif_neg h, if_neg h]
  have e1 : rpad (rproj A0 A1 A2) (ix3 b ⟨1 + s.val, by omega⟩ l) = back (fun b s k => A0 (ix3 b s k)) (fun k => A1 (ix1 k)) (fun k n => A2 (ix2 k n)) 1 b s l := by
    rw [rpad_apply]
    unfold back
    by_cases h : 1 ≤ s.val
    · rw [dif_pos (show 2 ≤ 1 + s.val by omega), if_pos h, uOf_val]
      refine congrArg (fun s' => Cert.Mix.U _ _ _ b s' l) (Fin.ext (?_ : 1 + s.val - 2 = s.val - 1))
      omega
    · rw [dif_neg (show ¬ 2 ≤ 1 + s.val by omega), if_neg h]
  have e2 : rpad (rproj A0 A1 A2) (ix3 b ⟨2 + s.val, by omega⟩ l) = Cert.Mix.U (fun b s k => A0 (ix3 b s k)) (fun k => A1 (ix1 k)) (fun k n => A2 (ix2 k n)) b s l := by
    rw [rpad_apply, dif_pos (show 2 ≤ 2 + s.val by omega), uOf_val]
    refine congrArg (fun s' => Cert.Mix.U _ _ _ b s' l) (Fin.ext (?_ : 2 + s.val - 2 = s.val))
    omega
  rw [rgated_apply, e0, e1, e2, rproj_apply]
  rfl

theorem ry_val (A5 : FVec Ideal S3x512 .f32) (A6 : FVec Ideal S512 .f32) (b : Fin 16) (s : Fin 2048) (l : Fin 512) :
    ry (rgated (rproj A0 A1 A2) (rpad (rproj A0 A1 A2)) A5) A6 (ix3 b s l) = Cert.Mix.Y (fun b s k => A0 (ix3 b s k)) (fun k => A1 (ix1 k)) (fun k n => A2 (ix2 k n)) (fun i l => A5 (ix2 i l)) (fun l => A6 (ix1 l)) b s l := by
  rw [ry_apply]
  simp only [rgated_val]
  rfl

end curried

end Cert.Reference3Ideal.Mix

end
-- ==== Proof.MixEqual.lean ====
/- The input projection's call and its reference end with the same four arrays. -/
module

public import proofs.«01_k».proof.Defs
public import proofs.«01_k».proof.Proof.MixArrays
public import proofs.«01_k».proof.Proof.MixRef
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value

@[expose] public section

set_option maxRecDepth 16384

noncomputable section

namespace Cert.Mix

open Cert.Kernel3Ideal Cert.Kernel3Ideal.Gen
open Idealize.ShloMosaic Idealize.ShloMosaic.TcCoe Idealize.ShloMosaic.StableHlo Idealize.SL.Sem
open Cert.Reference3Ideal.Mix (rproj rq rk rv rpad rgated ry rq_val rk_val rv_val ry_val)

variable (m : (ℓ : Loc nD τ sig) → Buf (Elt Ideal) ℓ)

/-- The reference leaves its arguments unchanged and no semaphore counts. -/
theorem frame_reference : Cert.quiescent_Reference3Ideal := fun m ρ _ =>
  (θ_run (Cert.Reference3Ideal.defs (F := Ideal)) _ _).mono (fun r h => And.intro (fun c => (h c).2.2.2.2) (sem_eq_zero_of_no_sems (by decide) r.2))
    (Cert.Reference3Ideal.Value.run (F := Ideal) m ρ)

/-- An array is known by its entries. -/
theorem eq_arr (a : FVec Ideal S16x2048x512 .bf16) (f : Fin 16 → Fin 2048 → Fin 512 → EReal) (h : ∀ b s l, a (ix3 b s l) = f b s l) : a = arr f := by
  funext i
  obtain ⟨b, s, l, rfl⟩ : ∃ (b : Fin 16) (s : Fin 2048) (l : Fin 512), i = ix3 b s l := ⟨i 0, i 1, i 2, by funext z; fin_cases z <;> rfl⟩
  exact h b s l

/-- The kernel's results, -/
def res0 (c : Dev nD) : FVec Ideal S16x2048x512 .bf16 := arr (fun b s => headNorm (fun n => P (aX m c) (aG m c) (aW m c) b s (grp 0 (by decide) n)) (aQ m c))
def res1 (c : Dev nD) : FVec Ideal S16x2048x512 .bf16 := arr (fun b s => headNorm (fun n => P (aX m c) (aG m c) (aW m c) b s (grp 512 (by decide) n)) (aK m c))
def res2 (c : Dev nD) : FVec Ideal S16x2048x512 .bf16 := arr (fun b s l => P (aX m c) (aG m c) (aW m c) b s (grp 1024 (by decide) l))
def res3 (c : Dev nD) : FVec Ideal S16x2048x512 .bf16 := arr (Y (aX m c) (aG m c) (aW m c) (aC m c) (aO m c))

/-- and the reference's, of arrays equal to the kernel's arguments. -/
theorem ref0 (c : Dev nD) {A0 : FVec Ideal S16x2048x1024 .f32} {A1 : FVec Ideal S1024 .f32} {A2 : FVec Ideal S1024x3072 .f32} {A3 : FVec Ideal S64 .f32}
    (a0 : A0 = m ((c.tc : Thread nD τ).loc main_arg0)) (a1 : A1 = m ((c.tc : Thread nD τ).loc main_arg1)) (a2 : A2 = m ((c.tc : Thread nD τ).loc main_arg2)) (a3 : A3 = m ((c.tc : Thread nD τ).loc main_arg3)) :
    rq (rproj A0 A1 A2) A3 = res0 m c := by
  subst a0 a1 a2 a3
  exact eq_arr _ _ fun b s l => rq_val _ _ _ _ b s l

theorem ref1 (c : Dev nD) {A0 : FVec Ideal S16x2048x1024 .f32} {A1 : FVec Ideal S1024 .f32} {A2 : FVec Ideal S1024x3072 .f32} {A4 : FVec Ideal S64 .f32}
    (a0 : A0 = m ((c.tc : Thread nD τ).loc main_arg0)) (a1 : A1 = m ((c.tc : Thread nD τ).loc main_arg1)) (a2 : A2 = m ((c.tc : Thread nD τ).loc main_arg2)) (a4 : A4 = m ((c.tc : Thread nD τ).loc main_arg4)) :
    rk (rproj A0 A1 A2) A4 = res1 m c := by
  subst a0 a1 a2 a4
  exact eq_arr _ _ fun b s l => rk_val _ _ _ _ b s l

theorem ref2 (c : Dev nD) {A0 : FVec Ideal S16x2048x1024 .f32} {A1 : FVec Ideal S1024 .f32} {A2 : FVec Ideal S1024x3072 .f32}
    (a0 : A0 = m ((c.tc : Thread nD τ).loc main_arg0)) (a1 : A1 = m ((c.tc : Thread nD τ).loc main_arg1)) (a2 : A2 = m ((c.tc : Thread nD τ).loc main_arg2)) :
    rv (rproj A0 A1 A2) = res2 m c := by
  subst a0 a1 a2
  exact eq_arr _ _ fun b s l => rv_val _ _ _ b s l

theorem ref3 (c : Dev nD) {A0 : FVec Ideal S16x2048x1024 .f32} {A1 : FVec Ideal S1024 .f32} {A2 : FVec Ideal S1024x3072 .f32} {A5 : FVec Ideal S3x512 .f32} {A6 : FVec Ideal S512 .f32}
    (a0 : A0 = m ((c.tc : Thread nD τ).loc main_arg0)) (a1 : A1 = m ((c.tc : Thread nD τ).loc main_arg1)) (a2 : A2 = m ((c.tc : Thread nD τ).loc main_arg2)) (a5 : A5 = m ((c.tc : Thread nD τ).loc main_arg5)) (a6 : A6 = m ((c.tc : Thread nD τ).loc main_arg6)) :
    ry (rgated (rproj A0 A1 A2) (rpad (rproj A0 A1 A2)) A5) A6 = res3 m c := by
  subst a0 a1 a2 a5 a6
  exact eq_arr _ _ fun b s l => ry_val _ _ _ _ _ b s l

/-- The kernel and the reference end with the same four arrays. -/
theorem algebraic : Cert.algebraic_Kernel3Ideal_Reference3Ideal := by
  intro m g m' g' _ hag
  refine ⟨res0 m, res1 m, res2 m, res3 m, ?_, ?_⟩
  · exact (θ_run defs _ _).mono (fun _ h c => ⟨(h c).1.trans (array8 m c), (h c).2.1.trans (array9 m c), (h c).2.2.1.trans (array10 m c), (h c).2.2.2.1.trans (array11 m c), (h c).2.2.2.2⟩) (Cert.Kernel3Ideal.Value.run_blocks m g)
  · refine (θ_run Cert.Reference3Ideal.defs _ _).mono (fun _ h c => ?_) (Cert.Reference3Ideal.Value.run (F := Ideal) m' g')
    obtain ⟨a0, a1, a2, a3, a4, a5, a6⟩ := hag c
    exact ⟨(h c).1.trans (ref0 m c a0 a1 a2 a3), (h c).2.1.trans (ref1 m c a0 a1 a2 a4), (h c).2.2.1.trans (ref2 m c a0 a1 a2), (h c).2.2.2.1.trans (ref3 m c a0 a1 a2 a5 a6), (h c).2.2.2.2⟩

end Cert.Mix

end
-- ==== Proof.Bias.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen
open Idealize.ShloMosaic.ValueIdx (select_one select_zero)

/-- The kernel's chunk number of a tile row; -/
theorem rowChunk (r : Fin 256) (kk : Fin 768) : k0_pay3 (ix2 r kk) = BitVec.ofNat 32 (r.val / 64) := by
  pointwise [k0_pay3]
  clear kk
  revert r
  decide +kernel

/-- and of a band row. -/
theorem colChunk (r : Fin 256) (kk : Fin 768) :
    Scalar.select (IntOp.andi (k0_pay5 (ix2 r kk)) (k0_pay6 (ix2 r kk))) (IntOp.subi (k0_pay4 (ix2 r kk)) 1#32) (k0_pay4 (ix2 r kk))
      = BitVec.ofNat 32 (kk.val / 64) := by
  pointwise [k0_pay4, k0_pay5, k0_pay6]
  clear r
  revert kk
  decide +kernel

/-- Whether a tile row sees a band row: the band row's chunk is the row's own or one of the eight before it, and is not
    before the sequence's start. -/
abbrev sees (n : ℕ) (r : Fin 256) (kk : Fin 768) : Prop :=
  r.val / 64 ≤ kk.val / 64 ∧ kk.val / 64 ≤ r.val / 64 + 8 ∧ 8 ≤ kk.val / 64 + 4 * n

theorem sees_word : ∀ (n : Fin 3) (a : Fin 4) (b : Fin 12),
    IntOp.andi (IntOp.andi (IntOp.cmpi .sge (BitVec.ofNat 32 b.val) (BitVec.ofNat 32 a.val))
        (IntOp.cmpi .sle (BitVec.ofNat 32 b.val) (IntOp.addi (BitVec.ofNat 32 a.val) 8#32)))
      (IntOp.cmpi .sge (BitVec.ofNat 32 b.val) (Scalar.subi 8#32 (Scalar.muli (BitVec.ofNat 32 n.val) 4#32)))
      = if a.val ≤ b.val ∧ b.val ≤ a.val + 8 ∧ 8 ≤ b.val + 4 * n.val then 1#1 else 0#1 := by
  decide +kernel

/-- The kernel's mask bit says so. -/
theorem mask_word (n : Fin 3) (r : Fin 256) (kk : Fin 768) :
    k0_pay7 (BitVec.ofNat 32 n.val) k0_pay3 k0_pay4 k0_pay5 k0_pay6 (ix2 r kk) = if sees n.val r kk then 1#1 else 0#1 := by
  pointwise [k0_pay7]
  rw [colChunk, rowChunk]
  exact sees_word n ⟨r.val / 64, by omega⟩ ⟨kk.val / 64, by omega⟩

theorem log2e_named : (Named.named κ "log2e" 0x3FB8AA3B#32 : Ideal .f32) = (((Real.log 2)⁻¹ : ℝ) : EReal) := rfl
theorem mask_named : (Named.named κ "mask" 0xF149F2CA#32 : Ideal .f32) = (⊥ : EReal) := rfl

/-- One element of one head's table, as the kernel selects it, at coordinates that name the result's. -/
theorem bias_at (n : Fin 3) (x : FVec Ideal S8x1x1024 .f32) (h h' : Fin 8) (r a : Fin 256) (kk b : Fin 768) (eh : h = h') (er : r = a) (ek : kk = b)
    (p) (p') :
    (Scalar.select (k0_pay7 (BitVec.ofNat 32 n.val) k0_pay3 k0_pay4 k0_pay5 k0_pay6 (ix2 a b))
      ((x (ix3 h' 0 ⟨(b.val + 1024 - (769 + a.val) % 1024) % 1024, p⟩) : EReal) * (Named.named κ "log2e" 0x3FB8AA3B#32 : Ideal .f32))
      (Named.named κ "mask" 0xF149F2CA#32 : Ideal .f32) : EReal)
      = if sees n.val r kk then x (ix3 h 0 ⟨kk.val + 255 - r.val, p'⟩) * (((Real.log 2)⁻¹ : ℝ) : EReal) else ⊥ := by
  subst eh er ek
  rw [mask_word, log2e_named, mask_named]
  have e : (⟨(kk.val + 1024 - (769 + r.val) % 1024) % 1024, p⟩ : Fin 1024) = ⟨kk.val + 255 - r.val, p'⟩ := Fin.ext (by simp only; omega)
  rw [e]
  by_cases hs : sees n.val r kk
  · rw [if_pos hs, if_pos hs, select_one]
  · rw [if_neg hs, if_neg hs, select_zero]

/-- What the bias call leaves at a head, a row and a band row: the strided row of the table, in units of the logarithm of
    two, where the row sees the band row, and minus infinity elsewhere. -/
theorem bias_apply (i : grid0.Coords) (x : FVec Ideal S8x1x1024 .f32) (y : S1x8x256x768.Idx) :
    (out0_1 (F := Ideal) i x y : EReal) = if sees (i 0).val (y 2) (y 3) then x (ix3 (y 1) 0 ⟨(y 3).val + 255 - (y 2).val, by
      have := (y 3).isLt; have : (y 3).val < 768 := this; omega⟩) * (((Real.log 2)⁻¹ : ℝ) : EReal) else ⊥ := by
  unfold_out out0_1
  canon_tiles q h
  · pointwise [k0_pay2]
    exact bias_at (i 0) x (y 1) 7 (y 2) _ (y 3) _ (Fin.ext (by show (y 1).val = 7; omega)) (Fin.ext h2) (Fin.ext h3) _ _
  · pointwise [k0_pay16, k0_pay1]
    exact bias_at (i 0) x (y 1) 6 (y 2) _ (y 3) _ (Fin.ext (by show (y 1).val = 6; omega)) (Fin.ext h2) (Fin.ext h3) _ _
  · pointwise [k0_pay15]
    exact bias_at (i 0) x (y 1) 5 (y 2) _ (y 3) _ (Fin.ext (by show (y 1).val = 5; omega)) (Fin.ext h2) (Fin.ext h3) _ _
  · pointwise [k0_pay13, k0_pay14]
    exact bias_at (i 0) x (y 1) 4 (y 2) _ (y 3) _ (Fin.ext (by show (y 1).val = 4; omega)) (Fin.ext h2) (Fin.ext h3) _ _
  · pointwise [k0_pay12]
    exact bias_at (i 0) x (y 1) 3 (y 2) _ (y 3) _ (Fin.ext (by show (y 1).val = 3; omega)) (Fin.ext h2) (Fin.ext h3) _ _
  · pointwise [k0_pay11]
    exact bias_at (i 0) x (y 1) 2 (y 2) _ (y 3) _ (Fin.ext (by show (y 1).val = 2; omega)) (Fin.ext h2) (Fin.ext h3) _ _
  · pointwise [k0_pay9, k0_pay10]
    exact bias_at (i 0) x (y 1) 1 (y 2) _ (y 3) _ (Fin.ext (by show (y 1).val = 1; omega)) (Fin.ext h2) (Fin.ext h3) _ _
  · pointwise [k0_pay8]
    exact bias_at (i 0) x (y 1) 0 (y 2) _ (y 3) _ (Fin.ext (by show (y 1).val = 0; omega)) (Fin.ext h2) (Fin.ext h3) _ _

end Cert.KernelIdeal.Attn
-- ==== Proof.Entry.lean ====
module

public import proofs.«01_k».proof.Proof.Bias
public import Idealize.ShloMosaic.Lib.Claim
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen
open Idealize.ShloMosaic.StableHlo

variable (m : (ℓ : Loc nD τ sig) → Buf (Elt Ideal) ℓ) (ρ : Dev nD → PrngReg)

/-- The arguments: queries, keys, values, biases, gain. -/
abbrev arg0 (m : (ℓ : Loc nD τ sig) → Buf (Elt Ideal) ℓ) (c : Dev nD) : FVec Ideal S16x2048x512 .f32 := m ((c : Thread nD τ).loc main_arg0)
abbrev arg1 (m : (ℓ : Loc nD τ sig) → Buf (Elt Ideal) ℓ) (c : Dev nD) : FVec Ideal S16x2048x512 .f32 := m ((c : Thread nD τ).loc main_arg1)
abbrev arg2 (m : (ℓ : Loc nD τ sig) → Buf (Elt Ideal) ℓ) (c : Dev nD) : FVec Ideal S16x2048x512 .f32 := m ((c : Thread nD τ).loc main_arg2)
abbrev arg3 (m : (ℓ : Loc nD τ sig) → Buf (Elt Ideal) ℓ) (c : Dev nD) : FVec Ideal S8x513 .f32 := m ((c : Thread nD τ).loc main_arg3)
abbrev arg4 (m : (ℓ : Loc nD τ sig) → Buf (Elt Ideal) ℓ) (c : Dev nD) : FVec Ideal S512 .f32 := m ((c : Thread nD τ).loc main_arg4)

/-- The scaled queries the attention region reads. -/
theorem V3_v4 (c : Dev nD) (b : Fin 16) (s : Fin 2048) (l : Fin 512) : (V3 m ρ c main_v4 : FVec Ideal S16x2048x512 .bf16) (ix3 b s l)
    = arg0 m c (ix3 b s l) * Ideal.div (Ideal.ofBits .f32 0x3E000000#32) (Ideal.log (Ideal.ofBits .f32 0x40000000#32)) := by
  have e : V3 m ρ c main_v4 = StableHlo.after hostOps0 (W0 m ρ c) (Proc.devRef .tc main_v4) :=
    (W3_of m ρ c main_v4 (by decide)).trans (W2_of m ρ c main_v4 (by decide))
  rw [e]
  after_results
  pointwise

/-- The keys the attention region reads; -/
theorem V3_v5 (c : Dev nD) (b : Fin 16) (s : Fin 2048) (l : Fin 512) : (V3 m ρ c main_v5 : FVec Ideal S16x2048x512 .bf16) (ix3 b s l)
    = arg1 m c (ix3 b s l) := by
  have e : V3 m ρ c main_v5 = StableHlo.after hostOps0 (W0 m ρ c) (Proc.devRef .tc main_v5) :=
    (W3_of m ρ c main_v5 (by decide)).trans (W2_of m ρ c main_v5 (by decide))
  rw [e]
  after_results
  pointwise

/-- the values. -/
theorem V3_v6 (c : Dev nD) (b : Fin 16) (s : Fin 2048) (l : Fin 512) : (V3 m ρ c main_v6 : FVec Ideal S16x2048x512 .bf16) (ix3 b s l)
    = arg2 m c (ix3 b s l) := by
  have e : V3 m ρ c main_v6 = StableHlo.after hostOps0 (W0 m ρ c) (Proc.devRef .tc main_v6) :=
    (W3_of m ρ c main_v6 (by decide)).trans (W2_of m ρ c main_v6 (by decide))
  rw [e]
  after_results
  pointwise

/-- The gain the attention region reads. -/
theorem V3_v15 (c : Dev nD) (l : Fin 512) : (V3 m ρ c main_v15 : FVec Ideal S1x512 .f32) (ix2 0 l) = arg4 m c (ix1 l) := by
  have e : V3 m ρ c main_v15 = StableHlo.after hostOps1 (W2 m ρ c) (Proc.devRef .tc main_v15) := rfl
  have e' : W2 m ρ c (Proc.devRef .tc main_arg4) = m ((c : Thread nD τ).loc main_arg4) := W2_of m ρ c main_arg4 (by decide)
  rw [e]
  after_results
  rw [e']
  pointwise

/-- The table of distances' biases: the farthest bias 512 times, the others from the farthest to the nearest, a zero. -/
def table (x : FVec Ideal S8x513 .f32) : FVec Ideal S8x1x1024 .f32 :=
  shapeCast _ (concatenate S8x1024 1 [⟨S8x512, (broadcastInDim S8x512 ![0, 1] bcast_S8x1_S8x512_0_1 (extractStridedSlice S8x1 ![0, 512] x slices_S8x513_S8x1_0_512) : FVec Ideal S8x512 .f32)⟩,
    ⟨S8x511, (Host.reverse [1] (extractStridedSlice S8x511 ![0, 1] x slices_S8x513_S8x511_0_1) : FVec Ideal S8x511 .f32)⟩,
    ⟨S8x1, (broadcastInDim S8x1 ![] bcast_S_S8x1 (constant S_ .f32 0#32) : FVec Ideal S8x1 .f32)⟩] concatenates_S8x512_S8x511_S8x1_S8x1024_d1) shapeCasts_S8x1024_S8x1x1024

theorem table_apply (x : FVec Ideal S8x513 .f32) (h : Fin 8) (p : Fin 1024) (hp : p.val < 1023) :
    table x (ix3 h 0 p) = x (ix2 h ⟨min (1023 - p.val) 512, by omega⟩) := by
  pointwise [table]
  by_cases h1 : p.val < 512
  · rw [dif_pos h1]
    congr 2
    exact Fin.ext (by simp only; omega)
  · by_cases h2 : p.val - 512 < 511
    · rw [dif_neg h1, dif_pos h2]
      congr 2
      refine Fin.ext ?_
      simp [Fin.val_rev]
      omega
    · exact absurd h2 (by omega)

/-- It is what the bias region reads. -/
theorem V1_v13 (c : Dev nD) : V1 m ρ c main_v13 = table (arg3 m c) := by
  have e : V1 m ρ c main_v13 = StableHlo.after hostOps0 (W0 m ρ c) (Proc.devRef .tc main_v13) := rfl
  rw [e]
  after_results
  rfl

end Cert.KernelIdeal.Attn
-- ==== Proof.Band.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- The row of the whole key array that row `kk` of a tile's key band is copied from: the band starts eight chunks before
    the tile, and a chunk before the first is read from the first. -/
def srcRow (t : Fin cfg1.N) (kk : Fin 768) : Fin 2048 :=
  ⟨(4 * (t.val % 8) + kk.val / 64 - 8) * 64 + kk.val % 64, by omega⟩

/-- The band of keys (or values) of a tile, out of the whole array's rows. -/
def band (t : Fin cfg1.N) (x : FVec Ideal S1x2048x512 .bf16) : FVec Ideal S768x512 .bf16 :=
  fun j => x (ix3 0 (srcRow t (j 0)) (j 1))

theorem off1_0 : ∀ (t : Fin cfg1.N) (n : Fin 12), k1_off1 (grid1.coords t) (BitVec.ofNat 32 n.val) 0 = 0 := by decide +kernel
theorem off1_1 : ∀ (t : Fin cfg1.N) (n : Fin 12), k1_off1 (grid1.coords t) (BitVec.ofNat 32 n.val) 1 = (4 * (t.val % 8) + n.val - 8) * 64 := by
  decide +kernel
theorem off1_2 : ∀ (t : Fin cfg1.N) (n : Fin 12), k1_off1 (grid1.coords t) (BitVec.ofNat 32 n.val) 2 = 0 := by decide +kernel

/-- A row of one copied piece is the band's row. -/
theorem at_band (t : Fin cfg1.N) (x : FVec Ideal S1x2048x512 .bf16) (n : Fin 12) {c : BitVec 32} (hc : c = BitVec.ofNat 32 n.val)
    (y : S768x512.Idx) (a : Fin 1) (b : Fin 2048) (d : Fin 512) {r l : ℕ} (hr : r < 64) (h0 : (y 0).val = 64 * n.val + r) (h1 : (y 1).val = l)
    (hb : b.val = k1_off1 (grid1.coords t) c 1 + r) (hd : d.val = k1_off1 (grid1.coords t) c 2 + l) :
    x (ix3 a b d) = band t x y := by
  subst hc
  rw [off1_1] at hb
  rw [off1_2] at hd
  have ea : a = 0 := Subsingleton.elim _ _
  have eb : b = srcRow t (y 0) := Fin.ext (by simp only [srcRow, hb, h0]; omega)
  have ed : d = y 1 := Fin.ext (by omega)
  rw [ea, eb, ed]; rfl

/-- The twelve copied pieces together are the band of keys; -/
theorem canonK (t : Fin cfg1.N) (x : FVec Ideal S1x2048x512 .bf16) :
    (View.canon (Val := Elt Ideal) (s := S768x512) (e := .bf16) [⟨Rect.unit ![704, 0] ![64, 512] inb_S768x512_S64x512_704_0, k1_pay27 (F := Ideal) (k1_pay26 (F := Ideal) (View.ld (Val := Elt Ideal) (S := S1x2048x512) (e' := .bf16) x (Rect.unit (k1_off1 (grid1.coords t) 11#32) ![1, 64, 512] (k1_off1_inb (grid1.coords t) 11))))⟩,
      ⟨Rect.unit ![640, 0] ![64, 512] inb_S768x512_S64x512_640_0, k1_pay24 (F := Ideal) (View.ld (Val := Elt Ideal) (S := S1x2048x512) (e' := .bf16) x (Rect.unit (k1_off1 (grid1.coords t) 10#32) ![1, 64, 512] (k1_off1_inb (grid1.coords t) 10)))⟩,
      ⟨Rect.unit ![576, 0] ![64, 512] inb_S768x512_S64x512_576_0, k1_pay22 (F := Ideal) (k1_pay21 (F := Ideal) (View.ld (Val := Elt Ideal) (S := S1x2048x512) (e' := .bf16) x (Rect.unit (k1_off1 (grid1.coords t) 9#32) ![1, 64, 512] (k1_off1_inb (grid1.coords t) 9))))⟩,
      ⟨Rect.unit ![512, 0] ![64, 512] inb_S768x512_S64x512_512_0, k1_pay19 (F := Ideal) (View.ld (Val := Elt Ideal) (S := S1x2048x512) (e' := .bf16) x (Rect.unit (k1_off1 (grid1.coords t) 8#32) ![1, 64, 512] (k1_off1_inb (grid1.coords t) 8)))⟩,
      ⟨Rect.unit ![448, 0] ![64, 512] inb_S768x512_S64x512_448_0, k1_pay17 (F := Ideal) (View.ld (Val := Elt Ideal) (S := S1x2048x512) (e' := .bf16) x (Rect.unit (k1_off1 (grid1.coords t) 7#32) ![1, 64, 512] (k1_off1_inb (grid1.coords t) 7)))⟩,
      ⟨Rect.unit ![384, 0] ![64, 512] inb_S768x512_S64x512_384_0, k1_pay15 (F := Ideal) (View.ld (Val := Elt Ideal) (S := S1x2048x512) (e' := .bf16) x (Rect.unit (k1_off1 (grid1.coords t) 6#32) ![1, 64, 512] (k1_off1_inb (grid1.coords t) 6)))⟩,
      ⟨Rect.unit ![320, 0] ![64, 512] inb_S768x512_S64x512_320_0, k1_pay13 (F := Ideal) (View.ld (Val := Elt Ideal) (S := S1x2048x512) (e' := .bf16) x (Rect.unit (k1_off1 (grid1.coords t) 5#32) ![1, 64, 512] (k1_off1_inb (grid1.coords t) 5)))⟩,
      ⟨Rect.unit ![256, 0] ![64, 512] inb_S768x512_S64x512_256_0, k1_pay11 (F := Ideal) (View.ld (Val := Elt Ideal) (S := S1x2048x512) (e' := .bf16) x (Rect.unit (k1_off1 (grid1.coords t) 4#32) ![1, 64, 512] (k1_off1_inb (grid1.coords t) 4)))⟩,
      ⟨Rect.unit ![192, 0] ![64, 512] inb_S768x512_S64x512_192_0, k1_pay9 (F := Ideal) (View.ld (Val := Elt Ideal) (S := S1x2048x512) (e' := .bf16) x (Rect.unit (k1_off1 (grid1.coords t) 3#32) ![1, 64, 512] (k1_off1_inb (grid1.coords t) 3)))⟩,
      ⟨Rect.unit ![128, 0] ![64, 512] inb_S768x512_S64x512_128_0, k1_pay7 (F := Ideal) (View.ld (Val := Elt Ideal) (S := S1x2048x512) (e' := .bf16) x (Rect.unit (k1_off1 (grid1.coords t) 2#32) ![1, 64, 512] (k1_off1_inb (grid1.coords t) 2)))⟩,
      ⟨Rect.unit ![64, 0] ![64, 512] inb_S768x512_S64x512_64_0, k1_pay4 (F := Ideal) (View.ld (Val := Elt Ideal) (S := S1x2048x512) (e' := .bf16) x (Rect.unit (k1_off1 (grid1.coords t) 1#32) ![1, 64, 512] (k1_off1_inb (grid1.coords t) 1)))⟩,
      ⟨Rect.unit ![0, 0] ![64, 512] inb_S768x512_S64x512_0_0, k1_pay2 (F := Ideal) (View.ld (Val := Elt Ideal) (S := S1x2048x512) (e' := .bf16) x (Rect.unit (k1_off1 (grid1.coords t) 0#32) ![1, 64, 512] (k1_off1_inb (grid1.coords t) 0)))⟩]) = band t x := by
  funext y
  canon_tiles z h
  · pointwise [k1_pay27, k1_pay26]; exact at_band t x 11 rfl y _ _ _ z0_lt h0 h1 rfl rfl
  · pointwise [k1_pay24]; exact at_band t x 10 rfl y _ _ _ z0_lt h0 h1 rfl rfl
  · pointwise [k1_pay22, k1_pay21]; exact at_band t x 9 rfl y _ _ _ z0_lt h0 h1 rfl rfl
  · pointwise [k1_pay19]; exact at_band t x 8 rfl y _ _ _ z0_lt h0 h1 rfl rfl
  · pointwise [k1_pay17]; exact at_band t x 7 rfl y _ _ _ z0_lt h0 h1 rfl rfl
  · pointwise [k1_pay15]; exact at_band t x 6 rfl y _ _ _ z0_lt h0 h1 rfl rfl
  · pointwise [k1_pay13]; exact at_band t x 5 rfl y _ _ _ z0_lt h0 h1 rfl rfl
  · pointwise [k1_pay11]; exact at_band t x 4 rfl y _ _ _ z0_lt h0 h1 rfl rfl
  · pointwise [k1_pay9]; exact at_band t x 3 rfl y _ _ _ z0_lt h0 h1 rfl rfl
  · pointwise [k1_pay7]; exact at_band t x 2 rfl y _ _ _ z0_lt h0 h1 rfl rfl
  · pointwise [k1_pay4]; exact at_band t x 1 rfl y _ _ _ z0_lt h0 h1 rfl rfl
  · pointwise [k1_pay2]; exact at_band t x 0 rfl y _ _ _ z0_lt (by omega) h1 rfl rfl

/-- and of values. -/
theorem canonV (t : Fin cfg1.N) (x : FVec Ideal S1x2048x512 .bf16) :
    (View.canon (Val := Elt Ideal) (s := S768x512) (e := .bf16) [⟨Rect.unit ![704, 0] ![64, 512] inb_S768x512_S64x512_704_0, k1_pay28 (F := Ideal) (View.ld (Val := Elt Ideal) (S := S1x2048x512) (e' := .bf16) x (Rect.unit (k1_off1 (grid1.coords t) 11#32) ![1, 64, 512] (k1_off1_inb (grid1.coords t) 11)))⟩,
      ⟨Rect.unit ![640, 0] ![64, 512] inb_S768x512_S64x512_640_0, k1_pay25 (F := Ideal) (View.ld (Val := Elt Ideal) (S := S1x2048x512) (e' := .bf16) x (Rect.unit (k1_off1 (grid1.coords t) 10#32) ![1, 64, 512] (k1_off1_inb (grid1.coords t) 10)))⟩,
      ⟨Rect.unit ![576, 0] ![64, 512] inb_S768x512_S64x512_576_0, k1_pay23 (F := Ideal) (View.ld (Val := Elt Ideal) (S := S1x2048x512) (e' := .bf16) x (Rect.unit (k1_off1 (grid1.coords t) 9#32) ![1, 64, 512] (k1_off1_inb (grid1.coords t) 9)))⟩,
      ⟨Rect.unit ![512, 0] ![64, 512] inb_S768x512_S64x512_512_0, k1_pay20 (F := Ideal) (View.ld (Val := Elt Ideal) (S := S1x2048x512) (e' := .bf16) x (Rect.unit (k1_off1 (grid1.coords t) 8#32) ![1, 64, 512] (k1_off1_inb (grid1.coords t) 8)))⟩,
      ⟨Rect.unit ![448, 0] ![64, 512] inb_S768x512_S64x512_448_0, k1_pay18 (F := Ideal) (View.ld (Val := Elt Ideal) (S := S1x2048x512) (e' := .bf16) x (Rect.unit (k1_off1 (grid1.coords t) 7#32) ![1, 64, 512] (k1_off1_inb (grid1.coords t) 7)))⟩,
      ⟨Rect.unit ![384, 0] ![64, 512] inb_S768x512_S64x512_384_0, k1_pay16 (F := Ideal) (View.ld (Val := Elt Ideal) (S := S1x2048x512) (e' := .bf16) x (Rect.unit (k1_off1 (grid1.coords t) 6#32) ![1, 64, 512] (k1_off1_inb (grid1.coords t) 6)))⟩,
      ⟨Rect.unit ![320, 0] ![64, 512] inb_S768x512_S64x512_320_0, k1_pay14 (F := Ideal) (View.ld (Val := Elt Ideal) (S := S1x2048x512) (e' := .bf16) x (Rect.unit (k1_off1 (grid1.coords t) 5#32) ![1, 64, 512] (k1_off1_inb (grid1.coords t) 5)))⟩,
      ⟨Rect.unit ![256, 0] ![64, 512] inb_S768x512_S64x512_256_0, k1_pay12 (F := Ideal) (View.ld (Val := Elt Ideal) (S := S1x2048x512) (e' := .bf16) x (Rect.unit (k1_off1 (grid1.coords t) 4#32) ![1, 64, 512] (k1_off1_inb (grid1.coords t) 4)))⟩,
      ⟨Rect.unit ![192, 0] ![64, 512] inb_S768x512_S64x512_192_0, k1_pay10 (F := Ideal) (View.ld (Val := Elt Ideal) (S := S1x2048x512) (e' := .bf16) x (Rect.unit (k1_off1 (grid1.coords t) 3#32) ![1, 64, 512] (k1_off1_inb (grid1.coords t) 3)))⟩,
      ⟨Rect.unit ![128, 0] ![64, 512] inb_S768x512_S64x512_128_0, k1_pay8 (F := Ideal) (View.ld (Val := Elt Ideal) (S := S1x2048x512) (e' := .bf16) x (Rect.unit (k1_off1 (grid1.coords t) 2#32) ![1, 64, 512] (k1_off1_inb (grid1.coords t) 2)))⟩,
      ⟨Rect.unit ![64, 0] ![64, 512] inb_S768x512_S64x512_64_0, k1_pay6 (F := Ideal) (k1_pay5 (F := Ideal) (View.ld (Val := Elt Ideal) (S := S1x2048x512) (e' := .bf16) x (Rect.unit (k1_off1 (grid1.coords t) 1#32) ![1, 64, 512] (k1_off1_inb (grid1.coords t) 1))))⟩,
      ⟨Rect.unit ![0, 0] ![64, 512] inb_S768x512_S64x512_0_0, k1_pay3 (F := Ideal) (View.ld (Val := Elt Ideal) (S := S1x2048x512) (e' := .bf16) x (Rect.unit (k1_off1 (grid1.coords t) 0#32) ![1, 64, 512] (k1_off1_inb (grid1.coords t) 0)))⟩]) = band t x := by
  funext y
  canon_tiles z h
  · pointwise [k1_pay28]; exact at_band t x 11 rfl y _ _ _ z0_lt h0 h1 rfl rfl
  · pointwise [k1_pay25]; exact at_band t x 10 rfl y _ _ _ z0_lt h0 h1 rfl rfl
  · pointwise [k1_pay23]; exact at_band t x 9 rfl y _ _ _ z0_lt h0 h1 rfl rfl
  · pointwise [k1_pay20]; exact at_band t x 8 rfl y _ _ _ z0_lt h0 h1 rfl rfl
  · pointwise [k1_pay18]; exact at_band t x 7 rfl y _ _ _ z0_lt h0 h1 rfl rfl
  · pointwise [k1_pay16]; exact at_band t x 6 rfl y _ _ _ z0_lt h0 h1 rfl rfl
  · pointwise [k1_pay14]; exact at_band t x 5 rfl y _ _ _ z0_lt h0 h1 rfl rfl
  · pointwise [k1_pay12]; exact at_band t x 4 rfl y _ _ _ z0_lt h0 h1 rfl rfl
  · pointwise [k1_pay10]; exact at_band t x 3 rfl y _ _ _ z0_lt h0 h1 rfl rfl
  · pointwise [k1_pay8]; exact at_band t x 2 rfl y _ _ _ z0_lt h0 h1 rfl rfl
  · pointwise [k1_pay6, k1_pay5]; exact at_band t x 1 rfl y _ _ _ z0_lt h0 h1 rfl rfl
  · pointwise [k1_pay3]; exact at_band t x 0 rfl y _ _ _ z0_lt (by omega) h1 rfl rfl

end Cert.KernelIdeal.Attn
-- ==== Proof.Tile.lean ====
module

public import proofs.«01_k».proof.Proof.Gen.KernelIdeal.Frame
public import Idealize.ShloMosaic.Lib.Pipeline.ValueKit
public import Idealize.ShloMosaic.Lib.Pointwise
public import proofs.«01_k».proof.Proof.Band

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen

/-- One head's scores as the kernel takes them: the products over a pair of heads' 128 lanes, the other head's query lanes
    replaced by zero. -/
def score (keep : IVec S1x128 1) (q : FVec Ideal S1x256x128 .bf16) (k : FVec Ideal S768x128 .bf16) : FVec Ideal S256x768 .f32 :=
  matmul dot_S256x128_S768x128_S256x768_1_1_0_0_n_n none
    (select (broadcastTo S256x128 (shapeCast S1x128 keep shapeCasts_S1x128_S1x128) broadcasts_S1x128_S256x128)
      (shapeCast S256x128 q shapeCasts_S1x256x128_S256x128) (broadcast S256x128 (Scalar.ofBits .bf16 0x0000#16)))
    k (constant S256x768 .f32 0x00000000#32)

/-- The lanes of the pair's second head. -/
def high : IVec S1x128 1 := xori k1_pay29 (constantI S1x128 1 1#1)

/-- The exponentials of a head's scores with the bias added, the row's largest subtracted. -/
def expo (s : FVec Ideal S256x768 .f32) (b : FVec Ideal S1x1x256x768 .f32) : FVec Ideal S256x768 .f32 :=
  have x := addf s (shapeCast S256x768 b shapeCasts_S1x1x256x768_S256x768)
  exp2 (subf x (broadcastTo S256x768 (shapeCast S256x1 (multiReduction .maximumf [1] S256 x 0xFF800000#32 reduces_S256x768_S256 (.inl rfl) rfl)
    shapeCasts_S256_S256x1) broadcasts_S256x1_S256x768))

/-- One head's output over the pair's 128 value lanes. -/
def head (s : FVec Ideal S256x768 .f32) (b : FVec Ideal S1x1x256x768 .f32) (v : FVec Ideal S768x128 .bf16) : FVec Ideal S256x128 .f32 :=
  divf (matmul dot_S256x768_S768x128_S256x128_1_0_0_1_n_n none (truncf .bf16 (expo s b) bitsLt_bf16_f32) v (constant S256x128 .f32 0x00000000#32))
    (broadcastTo S256x128 (shapeCast S256x1 (multiReduction .add [1] S256 (expo s b) 0x00000000#32 reduces_S256x768_S256 (.inl rfl) rfl)
      shapeCasts_S256_S256x1) broadcasts_S256x1_S256x128)

/-- One pair's output: the first head's on its own lanes, the second's on the others. -/
def pair (q : FVec Ideal S1x256x128 .bf16) (k : FVec Ideal S768x128 .bf16) (v : FVec Ideal S768x128 .bf16)
    (b b' : FVec Ideal S1x1x256x768 .f32) : FVec Ideal S256x128 .f32 :=
  select (broadcastTo S256x128 (shapeCast S1x128 k1_pay29 shapeCasts_S1x128_S1x128) broadcasts_S1x128_S256x128)
    (head (score k1_pay29 q k) b v) (head (score high q k) b' v)

/-- The four pairs side by side. -/
def rowsOut (x0 : FVec Ideal S1x256x512 .bf16) (k v : FVec Ideal S768x512 .bf16) (x3 : FVec Ideal S1x8x256x768 .f32) : FVec Ideal S256x512 .f32 :=
  concatenate S256x512 1 [
    ⟨S256x128, pair (View.ld (Val := Elt Ideal) (S := S1x256x512) (e' := .bf16) x0 (Rect.unit ![0, 0, 0] ![1, 256, 128] inb_S1x256x512_S1x256x128_0_0_0))
      (View.ld (Val := Elt Ideal) (S := S768x512) (e' := .bf16) k (Rect.unit ![0, 0] ![768, 128] inb_S768x512_S768x128_0_0)) (View.ld (Val := Elt Ideal) (S := S768x512) (e' := .bf16) v (Rect.unit ![0, 0] ![768, 128] inb_S768x512_S768x128_0_0))
      (View.ld (Val := Elt Ideal) (S := S1x8x256x768) (e' := .f32) x3 (Rect.unit ![0, 0, 0, 0] ![1, 1, 256, 768] inb_S1x8x256x768_S1x1x256x768_0_0_0_0))
      (View.ld (Val := Elt Ideal) (S := S1x8x256x768) (e' := .f32) x3 (Rect.unit ![0, 1, 0, 0] ![1, 1, 256, 768] inb_S1x8x256x768_S1x1x256x768_0_1_0_0))⟩,
    ⟨S256x128, pair (View.ld (Val := Elt Ideal) (S := S1x256x512) (e' := .bf16) x0 (Rect.unit ![0, 0, 128] ![1, 256, 128] inb_S1x256x512_S1x256x128_0_0_128))
      (View.ld (Val := Elt Ideal) (S := S768x512) (e' := .bf16) k (Rect.unit ![0, 128] ![768, 128] inb_S768x512_S768x128_0_128)) (View.ld (Val := Elt Ideal) (S := S768x512) (e' := .bf16) v (Rect.unit ![0, 128] ![768, 128] inb_S768x512_S768x128_0_128))
      (View.ld (Val := Elt Ideal) (S := S1x8x256x768) (e' := .f32) x3 (Rect.unit ![0, 2, 0, 0] ![1, 1, 256, 768] inb_S1x8x256x768_S1x1x256x768_0_2_0_0))
      (View.ld (Val := Elt Ideal) (S := S1x8x256x768) (e' := .f32) x3 (Rect.unit ![0, 3, 0, 0] ![1, 1, 256, 768] inb_S1x8x256x768_S1x1x256x768_0_3_0_0))⟩,
    ⟨S256x128, pair (View.ld (Val := Elt Ideal) (S := S1x256x512) (e' := .bf16) x0 (Rect.unit ![0, 0, 256] ![1, 256, 128] inb_S1x256x512_S1x256x128_0_0_256))
      (View.ld (Val := Elt Ideal) (S := S768x512) (e' := .bf16) k (Rect.unit ![0, 256] ![768, 128] inb_S768x512_S768x128_0_256)) (View.ld (Val := Elt Ideal) (S := S768x512) (e' := .bf16) v (Rect.unit ![0, 256] ![768, 128] inb_S768x512_S768x128_0_256))
      (View.ld (Val := Elt Ideal) (S := S1x8x256x768) (e' := .f32) x3 (Rect.unit ![0, 4, 0, 0] ![1, 1, 256, 768] inb_S1x8x256x768_S1x1x256x768_0_4_0_0))
      (View.ld (Val := Elt Ideal) (S := S1x8x256x768) (e' := .f32) x3 (Rect.unit ![0, 5, 0, 0] ![1, 1, 256, 768] inb_S1x8x256x768_S1x1x256x768_0_5_0_0))⟩,
    ⟨S256x128, pair (View.ld (Val := Elt Ideal) (S := S1x256x512) (e' := .bf16) x0 (Rect.unit ![0, 0, 384] ![1, 256, 128] inb_S1x256x512_S1x256x128_0_0_384))
      (View.ld (Val := Elt Ideal) (S := S768x512) (e' := .bf16) k (Rect.unit ![0, 384] ![768, 128] inb_S768x512_S768x128_0_384)) (View.ld (Val := Elt Ideal) (S := S768x512) (e' := .bf16) v (Rect.unit ![0, 384] ![768, 128] inb_S768x512_S768x128_0_384))
      (View.ld (Val := Elt Ideal) (S := S1x8x256x768) (e' := .f32) x3 (Rect.unit ![0, 6, 0, 0] ![1, 1, 256, 768] inb_S1x8x256x768_S1x1x256x768_0_6_0_0))
      (View.ld (Val := Elt Ideal) (S := S1x8x256x768) (e' := .f32) x3 (Rect.unit ![0, 7, 0, 0] ![1, 1, 256, 768] inb_S1x8x256x768_S1x1x256x768_0_7_0_0))⟩]
    concatenates_S256x128_S256x128_S256x128_S256x128_S256x512_d1

/-- The block a grid point leaves: the pairs' rows normalised by their mean square and multiplied by the gain. -/
def tileOut (x0 : FVec Ideal S1x256x512 .bf16) (k v : FVec Ideal S768x512 .bf16) (x3 : FVec Ideal S1x8x256x768 .f32)
    (x4 : FVec Ideal S1x512 .f32) : FVec Ideal S1x256x512 .bf16 :=
  k1_pay1 (rowsOut x0 k v x3) (k1_pay62 x4)
    (multiReduction .add [1] S256 (mulf (rowsOut x0 k v x3) (rowsOut x0 k v x3)) 0x00000000#32 reduces_S256x512_S256 (.inl rfl) rfl)

/-- A read of the scratch through a rectangle, as a load of what the stores leave. -/
theorem readCov_ld {sig : RefSig} {κ : Kind} {sp : Space} {s : Shape} {e : EltTy} (v : View sig κ sp s e)
    (L : List (View.Piece (Elt Ideal) s e)) (r : Rect s) : v.readCov L r.toLoadRect = View.ld (View.canon L) r :=
  View.readCov_eq_canon' v L r.toLoadRect

variable (V : (c : Dev nD) → (b : Ref sig .tc) → Buf (Elt Ideal) ((c : Thread nD τ).loc b))

set_option maxHeartbeats 1000000 in
/-- What a grid point of the attention call leaves in its output block. -/
theorem outsAt_eq (c : Dev nD) (t : Fin cfg1.N) :
    outsAt1 V c t = tileOut (iblk1 V c 0 t) (band t (iblk1 V c 1 t)) (band t (iblk1 V c 2 t)) (iblk1 V c 3 t) (iblk1 V c 4 t) := by
  unfold outsAt1
  generalize iblk1 V c 0 t = x0
  generalize iblk1 V c 1 t = x1
  generalize iblk1 V c 2 t = x2
  generalize iblk1 V c 3 t = x3
  generalize iblk1 V c 4 t = x4
  frame_out
  simp only [readCov_ld]
  rw [canonK, canonV]
  rfl

end Cert.KernelIdeal.Attn
-- ==== Proof.TileValue.lean ====
module

public import proofs.«01_k».proof.Proof.Gen.KernelIdeal.Frame
public import Idealize.ShloMosaic.Lib.Pipeline.ValueKit
public import Idealize.ShloMosaic.Lib.Pointwise
public import proofs.«01_k».proof.Proof.Tile

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen
open Idealize.ShloMosaic.ValueIdx (select_one select_zero)

theorem lane_low : ∀ x : Fin 64, IntOp.cmpi .slt (BitVec.ofNat 32 x.val) 64#32 = 1#1 := by decide +kernel
theorem lane_high : ∀ x : Fin 64, IntOp.cmpi .slt (BitVec.ofNat 32 (64 + x.val)) 64#32 = 0#1 := by decide +kernel

/-- A sum over 128 lanes is the two halves' sums. -/
theorem sum_lanes (f : Fin 128 → EReal) :
    ∑ x, f x = ∑ d : Fin 64, f ⟨d.val, by omega⟩ + ∑ d : Fin 64, f ⟨64 + d.val, by omega⟩ :=
  Fin.sum_univ_add (a := 64) (b := 64) f

/-- A head's scores at a query row and a key row, over the first half of the lanes; -/
theorem score_low (q : FVec Ideal S1x256x128 .bf16) (k : FVec Ideal S768x128 .bf16) (r : Fin 256) (kk : Fin 768) :
    score k1_pay29 q k (ix2 r kk)
      = ∑ d : Fin 64, (q (ix3 0 r ⟨d.val, by omega⟩) : EReal) * k (ix2 kk ⟨d.val, by omega⟩) := by
  pointwise [score, k1_pay29]
  rw [sum_lanes]
  simp only [lane_low, lane_high, select_one, select_zero, Finset.sum_const_zero, add_zero]

/-- and over the second half. -/
theorem score_high (q : FVec Ideal S1x256x128 .bf16) (k : FVec Ideal S768x128 .bf16) (r : Fin 256) (kk : Fin 768) :
    score high q k (ix2 r kk)
      = ∑ d : Fin 64, (q (ix3 0 r ⟨64 + d.val, by omega⟩) : EReal) * k (ix2 kk ⟨64 + d.val, by omega⟩) := by
  pointwise [score, high, k1_pay29]
  rw [sum_lanes]
  have h0 : IntOp.xori 1#1 1#1 = 0#1 := by decide
  have h1 : IntOp.xori 0#1 1#1 = 1#1 := by decide
  simp only [lane_low, lane_high, h0, h1, select_one, select_zero, Finset.sum_const_zero, zero_add]

/-- A row's exponentials, the largest of `s` subtracted. -/
def ex (s : Fin 768 → EReal) (kk : Fin 768) : EReal := Ideal.exp2 (s kk - Finset.univ.fold max ⊥ s)

/-- A row's weighted values over its weights' sum. -/
def weigh (s v : Fin 768 → EReal) : EReal := Ideal.div (∑ kk, ex s kk * v kk) (∑ kk, ex s kk)

theorem ofBits_negInf : Ideal.ofBits FTy.f32 0xFF800000#32 = ⊥ := by simp [Ideal.ofBits, Ideal.ieee]

/-- One head's output at a row and a lane. -/
theorem head_apply (s : FVec Ideal S256x768 .f32) (b : FVec Ideal S1x1x256x768 .f32) (v : FVec Ideal S768x128 .bf16) (r : Fin 256) (l : Fin 128) :
    head s b v (ix2 r l) = weigh (fun kk => s (ix2 r kk) + b (ix4 0 0 r kk)) (fun kk => v (ix2 kk l)) := by
  pointwise [head, expo, weigh, ex]
  rw [ofBits_negInf]
  rfl

/-- The pair's output on the first head's lanes; -/
theorem pair_low (q : FVec Ideal S1x256x128 .bf16) (k : FVec Ideal S768x128 .bf16) (v : FVec Ideal S768x128 .bf16)
    (b b' : FVec Ideal S1x1x256x768 .f32) (r : Fin 256) (l : Fin 128) (d : Fin 64) (hl : l.val = d.val) :
    pair q k v b b' (ix2 r l) = weigh (fun kk =>
      (∑ e : Fin 64, (q (ix3 0 r ⟨e.val, by omega⟩) : EReal) * k (ix2 kk ⟨e.val, by omega⟩)) + b (ix4 0 0 r kk)) (fun kk => v (ix2 kk l)) := by
  unfold pair
  simp only [← score_low]
  rw [← head_apply]
  generalize head (score k1_pay29 q k) b v = A
  generalize head (score high q k) b' v = B
  pointwise [k1_pay29]
  rw [hl, lane_low, select_one]

/-- and on the second's. -/
theorem pair_high (q : FVec Ideal S1x256x128 .bf16) (k : FVec Ideal S768x128 .bf16) (v : FVec Ideal S768x128 .bf16)
    (b b' : FVec Ideal S1x1x256x768 .f32) (r : Fin 256) (l : Fin 128) (d : Fin 64) (hl : l.val = 64 + d.val) :
    pair q k v b b' (ix2 r l) = weigh (fun kk =>
      (∑ e : Fin 64, (q (ix3 0 r ⟨64 + e.val, by omega⟩) : EReal) * k (ix2 kk ⟨64 + e.val, by omega⟩)) + b' (ix4 0 0 r kk)) (fun kk => v (ix2 kk l)) := by
  unfold pair
  simp only [← score_high]
  rw [← head_apply]
  generalize head (score k1_pay29 q k) b v = A
  generalize head (score high q k) b' v = B
  pointwise [k1_pay29]
  rw [hl, lane_high, select_zero]

/-- Lane `d` of head `h`. -/
def lane (h : Fin 8) (d : Fin 64) : Fin 512 := ⟨64 * h.val + d.val, by omega⟩

private theorem rowsOut_0 (x0 : FVec Ideal S1x256x512 .bf16) (k v : FVec Ideal S768x512 .bf16) (x3 : FVec Ideal S1x8x256x768 .f32)
    (r : Fin 256) (d : Fin 64) :
    rowsOut x0 k v x3 (ix2 r (lane 0 d)) = weigh (fun kk =>
      (∑ e : Fin 64, (x0 (ix3 0 r (lane 0 e)) : EReal) * k (ix2 kk (lane 0 e))) + x3 (ix4 0 0 r kk)) (fun kk => v (ix2 kk (lane 0 d))) := by
  have hd := d.isLt
  pointwise [rowsOut]
  rw [dif_pos (by simp only [lane]; omega)]
  rw [pair_low _ _ _ _ _ _ _ d (by simp only [lane]; omega)]
  refine congrArg₂ weigh (funext fun kk => ?_) (funext fun kk => ?_)
  · have hl : ∀ (e : Fin 64) (p), (⟨e.val, p⟩ : Fin 512) = lane 0 e := fun e p => Fin.ext (by simp only [lane]; omega)
    pointwise
    simp only [hl]
  · pointwise

private theorem rowsOut_1 (x0 : FVec Ideal S1x256x512 .bf16) (k v : FVec Ideal S768x512 .bf16) (x3 : FVec Ideal S1x8x256x768 .f32)
    (r : Fin 256) (d : Fin 64) :
    rowsOut x0 k v x3 (ix2 r (lane 1 d)) = weigh (fun kk =>
      (∑ e : Fin 64, (x0 (ix3 0 r (lane 1 e)) : EReal) * k (ix2 kk (lane 1 e))) + x3 (ix4 0 1 r kk)) (fun kk => v (ix2 kk (lane 1 d))) := by
  have hd := d.isLt
  pointwise [rowsOut]
  rw [dif_pos (by simp only [lane]; omega)]
  rw [pair_high _ _ _ _ _ _ _ d (by simp only [lane]; omega)]
  refine congrArg₂ weigh (funext fun kk => ?_) (funext fun kk => ?_)
  · have hl : ∀ (e : Fin 64) (p), (⟨64 + e.val, p⟩ : Fin 512) = lane 1 e := fun e p => Fin.ext (by simp only [lane]; omega)
    pointwise
    simp only [hl]
  · pointwise

private theorem rowsOut_2 (x0 : FVec Ideal S1x256x512 .bf16) (k v : FVec Ideal S768x512 .bf16) (x3 : FVec Ideal S1x8x256x768 .f32)
    (r : Fin 256) (d : Fin 64) :
    rowsOut x0 k v x3 (ix2 r (lane 2 d)) = weigh (fun kk =>
      (∑ e : Fin 64, (x0 (ix3 0 r (lane 2 e)) : EReal) * k (ix2 kk (lane 2 e))) + x3 (ix4 0 2 r kk)) (fun kk => v (ix2 kk (lane 2 d))) := by
  have hd := d.isLt
  pointwise [rowsOut]
  rw [dif_neg (by simp only [lane]; omega), dif_pos (by simp only [lane]; omega)]
  rw [pair_low _ _ _ _ _ _ _ d (by simp only [lane]; omega)]
  refine congrArg₂ weigh (funext fun kk => ?_) (funext fun kk => ?_)
  · have hl : ∀ (e : Fin 64) (p), (⟨128 + e.val, p⟩ : Fin 512) = lane 2 e := fun e p => Fin.ext (by simp only [lane]; omega)
    pointwise
    simp only [hl]
  · pointwise
    exact congrArg (fun z => v (ix2 kk z)) (Fin.ext (by simp only [lane]; omega))

private theorem rowsOut_3 (x0 : FVec Ideal S1x256x512 .bf16) (k v : FVec Ideal S768x512 .bf16) (x3 : FVec Ideal S1x8x256x768 .f32)
    (r : Fin 256) (d : Fin 64) :
    rowsOut x0 k v x3 (ix2 r (lane 3 d)) = weigh (fun kk =>
      (∑ e : Fin 64, (x0 (ix3 0 r (lane 3 e)) : EReal) * k (ix2 kk (lane 3 e))) + x3 (ix4 0 3 r kk)) (fun kk => v (ix2 kk (lane 3 d))) := by
  have hd := d.isLt
  pointwise [rowsOut]
  rw [dif_neg (by simp only [lane]; omega), dif_pos (by simp only [lane]; omega)]
  rw [pair_high _ _ _ _ _ _ _ d (by simp only [lane]; omega)]
  refine congrArg₂ weigh (funext fun kk => ?_) (funext fun kk => ?_)
  · have hl : ∀ (e : Fin 64) (p), (⟨128 + (64 + e.val), p⟩ : Fin 512) = lane 3 e := fun e p => Fin.ext (by simp only [lane]; omega)
    pointwise
    simp only [hl]
  · pointwise
    exact congrArg (fun z => v (ix2 kk z)) (Fin.ext (by simp only [lane]; omega))

private theorem rowsOut_4 (x0 : FVec Ideal S1x256x512 .bf16) (k v : FVec Ideal S768x512 .bf16) (x3 : FVec Ideal S1x8x256x768 .f32)
    (r : Fin 256) (d : Fin 64) :
    rowsOut x0 k v x3 (ix2 r (lane 4 d)) = weigh (fun kk =>
      (∑ e : Fin 64, (x0 (ix3 0 r (lane 4 e)) : EReal) * k (ix2 kk (lane 4 e))) + x3 (ix4 0 4 r kk)) (fun kk => v (ix2 kk (lane 4 d))) := by
  have hd := d.isLt
  pointwise [rowsOut]
  rw [dif_neg (by simp only [lane]; omega), dif_neg (by simp only [lane]; omega), dif_pos (by simp only [lane]; omega)]
  rw [pair_low _ _ _ _ _ _ _ d (by simp only [lane]; omega)]
  refine congrArg₂ weigh (funext fun kk => ?_) (funext fun kk => ?_)
  · have hl : ∀ (e : Fin 64) (p), (⟨256 + e.val, p⟩ : Fin 512) = lane 4 e := fun e p => Fin.ext (by simp only [lane]; omega)
    pointwise
    simp only [hl]
  · pointwise
    exact congrArg (fun z => v (ix2 kk z)) (Fin.ext (by simp only [lane]; omega))

private theorem rowsOut_5 (x0 : FVec Ideal S1x256x512 .bf16) (k v : FVec Ideal S768x512 .bf16) (x3 : FVec Ideal S1x8x256x768 .f32)
    (r : Fin 256) (d : Fin 64) :
    rowsOut x0 k v x3 (ix2 r (lane 5 d)) = weigh (fun kk =>
      (∑ e : Fin 64, (x0 (ix3 0 r (lane 5 e)) : EReal) * k (ix2 kk (lane 5 e))) + x3 (ix4 0 5 r kk)) (fun kk => v (ix2 kk (lane 5 d))) := by
  have hd := d.isLt
  pointwise [rowsOut]
  rw [dif_neg (by simp only [lane]; omega), dif_neg (by simp only [lane]; omega), dif_pos (by simp only [lane]; omega)]
  rw [pair_high _ _ _ _ _ _ _ d (by simp only [lane]; omega)]
  refine congrArg₂ weigh (funext fun kk => ?_) (funext fun kk => ?_)
  · have hl : ∀ (e : Fin 64) (p), (⟨256 + (64 + e.val), p⟩ : Fin 512) = lane 5 e := fun e p => Fin.ext (by simp only [lane]; omega)
    pointwise
    simp only [hl]
  · pointwise
    exact congrArg (fun z => v (ix2 kk z)) (Fin.ext (by simp only [lane]; omega))

private theorem rowsOut_6 (x0 : FVec Ideal S1x256x512 .bf16) (k v : FVec Ideal S768x512 .bf16) (x3 : FVec Ideal S1x8x256x768 .f32)
    (r : Fin 256) (d : Fin 64) :
    rowsOut x0 k v x3 (ix2 r (lane 6 d)) = weigh (fun kk =>
      (∑ e : Fin 64, (x0 (ix3 0 r (lane 6 e)) : EReal) * k (ix2 kk (lane 6 e))) + x3 (ix4 0 6 r kk)) (fun kk => v (ix2 kk (lane 6 d))) := by
  have hd := d.isLt
  pointwise [rowsOut]
  rw [dif_neg (by simp only [lane]; omega), dif_neg (by simp only [lane]; omega), dif_neg (by simp only [lane]; omega)]
  rw [pair_low _ _ _ _ _ _ _ d (by simp only [lane]; omega)]
  refine congrArg₂ weigh (funext fun kk => ?_) (funext fun kk => ?_)
  · have hl : ∀ (e : Fin 64) (p), (⟨384 + e.val, p⟩ : Fin 512) = lane 6 e := fun e p => Fin.ext (by simp only [lane]; omega)
    pointwise
    simp only [hl]
  · pointwise
    exact congrArg (fun z => v (ix2 kk z)) (Fin.ext (by simp only [lane]; omega))

private theorem rowsOut_7 (x0 : FVec Ideal S1x256x512 .bf16) (k v : FVec Ideal S768x512 .bf16) (x3 : FVec Ideal S1x8x256x768 .f32)
    (r : Fin 256) (d : Fin 64) :
    rowsOut x0 k v x3 (ix2 r (lane 7 d)) = weigh (fun kk =>
      (∑ e : Fin 64, (x0 (ix3 0 r (lane 7 e)) : EReal) * k (ix2 kk (lane 7 e))) + x3 (ix4 0 7 r kk)) (fun kk => v (ix2 kk (lane 7 d))) := by
  have hd := d.isLt
  pointwise [rowsOut]
  rw [dif_neg (by simp only [lane]; omega), dif_neg (by simp only [lane]; omega), dif_neg (by simp only [lane]; omega)]
  rw [pair_high _ _ _ _ _ _ _ d (by simp only [lane]; omega)]
  refine congrArg₂ weigh (funext fun kk => ?_) (funext fun kk => ?_)
  · have hl : ∀ (e : Fin 64) (p), (⟨384 + (64 + e.val), p⟩ : Fin 512) = lane 7 e := fun e p => Fin.ext (by simp only [lane]; omega)
    pointwise
    simp only [hl]
  · pointwise
    exact congrArg (fun z => v (ix2 kk z)) (Fin.ext (by simp only [lane]; omega))

/-- The attention output of a tile at a row, a head and a lane. -/
theorem rowsOut_apply (x0 : FVec Ideal S1x256x512 .bf16) (k v : FVec Ideal S768x512 .bf16) (x3 : FVec Ideal S1x8x256x768 .f32)
    (r : Fin 256) (h : Fin 8) (d : Fin 64) :
    rowsOut x0 k v x3 (ix2 r (lane h d)) = weigh (fun kk =>
      (∑ e : Fin 64, (x0 (ix3 0 r (lane h e)) : EReal) * k (ix2 kk (lane h e))) + x3 (ix4 0 h r kk)) (fun kk => v (ix2 kk (lane h d))) := by
  fin_cases h
  · exact rowsOut_0 x0 k v x3 r d
  · exact rowsOut_1 x0 k v x3 r d
  · exact rowsOut_2 x0 k v x3 r d
  · exact rowsOut_3 x0 k v x3 r d
  · exact rowsOut_4 x0 k v x3 r d
  · exact rowsOut_5 x0 k v x3 r d
  · exact rowsOut_6 x0 k v x3 r d
  · exact rowsOut_7 x0 k v x3 r d

/-- The block a grid point leaves, at a row and a column. -/
theorem tileOut_apply (x0 : FVec Ideal S1x256x512 .bf16) (k v : FVec Ideal S768x512 .bf16) (x3 : FVec Ideal S1x8x256x768 .f32)
    (x4 : FVec Ideal S1x512 .f32) (r : Fin 256) (l : Fin 512) :
    tileOut x0 k v x3 x4 (ix3 0 r l) = rowsOut x0 k v x3 (ix2 r l) *
        Ideal.rsqrt
          (Ideal.div (∑ x, (rowsOut x0 k v x3 (ix2 r x) : EReal) * rowsOut x0 k v x3 (ix2 r x)) (Ideal.ofBits FTy.f32 0x44000000#32) +
            Ideal.ofBits FTy.f32 0x358637BD#32) *
      x4 (ix2 0 l) := by
  unfold tileOut
  generalize rowsOut x0 k v x3 = y
  pointwise [k1_pay1, k1_pay62]

end Cert.KernelIdeal.Attn
-- ==== Proof.Arrays.lean ====
module

public import proofs.«01_k».proof.Proof.Entry
public import proofs.«01_k».proof.Proof.TileValue
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen
variable (m : (ℓ : Loc nD τ sig) → Buf (Elt Ideal) ℓ) (ρ : Dev nD → PrngReg)

/-- The bias of a row and a band row, by the tile's number (two and all later ones alike): the table's entry at their distance
    in units of the logarithm of two, or minus infinity where the row does not see the band row. -/
def biasVal (rel : FVec Ideal S8x513 .f32) (n : ℕ) (h : Fin 8) (r : Fin 256) (kk : Fin 768) : EReal :=
  if sees n r kk then rel (ix2 h ⟨min (768 + r.val - kk.val) 512, by omega⟩) * (((Real.log 2)⁻¹ : ℝ) : EReal) else ⊥

theorem bias_entry (rel : FVec Ideal S8x513 .f32) (n : ℕ) (h : Fin 8) (r : Fin 256) (kk : Fin 768) (hp : kk.val + 255 - r.val < 1024) :
    (if sees n r kk then (table rel (ix3 h 0 ⟨kk.val + 255 - r.val, hp⟩) : EReal) * (((Real.log 2)⁻¹ : ℝ) : EReal) else ⊥) = biasVal rel n h r kk := by
  unfold biasVal
  by_cases hs : sees n r kk
  · rw [if_pos hs, if_pos hs]
    unfold sees at hs
    rw [table_apply _ _ _ (by simp only; omega)]
    congr 3
    exact Fin.ext (by simp only; omega)
  · rw [if_neg hs, if_neg hs]

theorem biasVal_congr (rel : FVec Ideal S8x513 .f32) {n n' : ℕ} {h h' : Fin 8} {r r' : Fin 256} {kk kk' : Fin 768} (e0 : n = n') (e1 : h.val = h'.val)
    (e2 : r.val = r'.val) (e3 : kk.val = kk'.val) : biasVal rel n h r kk = biasVal rel n' h' r' kk' := by
  obtain rfl := e0
  obtain rfl := Fin.ext e1
  obtain rfl := Fin.ext e2
  obtain rfl := Fin.ext e3
  rfl

theorem idx0 : ∀ t : Fin cfg0.N, win0_0.index t = ![0, 0, 0] ∧ win0_1.index t = ![t.val, 0, 0, 0] ∧ (grid0.coords t 0).val = t.val :=
  (by decide +kernel : ∀ t : Fin grid0.N, _)

theorem idx1 : ∀ t : Fin cfg1.N, win1_0.index t = ![t.val / 8, t.val % 8, 0] ∧ win1_1.index t = ![t.val / 8, 0, 0] ∧ win1_2.index t = ![t.val / 8, 0, 0]
    ∧ win1_3.index t = ![min (t.val % 8) 2, 0, 0, 0] ∧ win1_4.index t = ![0, 0] ∧ win1_5.index t = ![t.val / 8, t.val % 8, 0] :=
  (by decide +kernel : ∀ t : Fin grid1.N, _)

/-- The bias array after its region. -/
theorem bias_array (c : Dev nD) : (dat0 (V1 m ρ) c).arrAt 1 cfg0.N
    = (fun i => biasVal (arg3 m c) (i 0).val (i 1) (i 2) (i 3) : FVec Ideal S3x8x256x768 .f32) := by
  refine (dat0 (V1 m ρ) c).arrAt_eq_of_covers 1 _ (by decide +kernel) fun t _ y => ?_
  blk_simp
  rw [after0_1]
  have hx : iblk0 (V1 m ρ) c 0 t = table (arg3 m c) := by
    rw [← V1_v13 m ρ c]
    funext j
    blk_ext [iblk0, idx0 t]
  rw [hx]
  refine (bias_apply (grid0.coords t) (table (arg3 m c)) y).trans ?_
  refine Eq.trans ?_ (biasVal_congr (arg3 m c) (n := t.val) (h := y 1) (r := y 2) (kk := y 3) ?_ ?_ ?_ ?_)
  · rw [(idx0 t).2.2]
    exact bias_entry (arg3 m c) t.val (y 1) (y 2) (y 3) _
  · blk_simp [idx0 t]
    try rfl
  · blk_simp [idx0 t]
    try omega
  · blk_simp [idx0 t]
    try omega
  · blk_simp [idx0 t]
    try omega

/-- It is what the attention region reads. -/
theorem V3_v14 (c : Dev nD) : V3 m ρ c main_v14 = (fun i => biasVal (arg3 m c) (i 0).val (i 1) (i 2) (i 3) : FVec Ideal S3x8x256x768 .f32) :=
  (W3_of m ρ c main_v14 (by decide)).trans ((W2_arr m ρ c 1).trans (bias_array m ρ c))

/-- The blocks a tile reads. -/
theorem blk_q (c : Dev nD) (t : Fin cfg1.N) (r : Fin 256) (l : Fin 512) :
    (iblk1 (V3 m ρ) c 0 t : FVec Ideal S1x256x512 .bf16) (ix3 0 r l)
      = (V3 m ρ c main_v4 : FVec Ideal S16x2048x512 .bf16) (ix3 ⟨t.val / 8, by have : t.val < 128 := t.isLt; omega⟩ ⟨256 * (t.val % 8) + r.val, by omega⟩ l) := by
  blk_ext [iblk1, idx1 t]

theorem blk_k (c : Dev nD) (t : Fin cfg1.N) (s : Fin 2048) (l : Fin 512) :
    (iblk1 (V3 m ρ) c 1 t : FVec Ideal S1x2048x512 .bf16) (ix3 0 s l)
      = (V3 m ρ c main_v5 : FVec Ideal S16x2048x512 .bf16) (ix3 ⟨t.val / 8, by have : t.val < 128 := t.isLt; omega⟩ s l) := by
  blk_ext [iblk1, idx1 t]

theorem blk_v (c : Dev nD) (t : Fin cfg1.N) (s : Fin 2048) (l : Fin 512) :
    (iblk1 (V3 m ρ) c 2 t : FVec Ideal S1x2048x512 .bf16) (ix3 0 s l)
      = (V3 m ρ c main_v6 : FVec Ideal S16x2048x512 .bf16) (ix3 ⟨t.val / 8, by have : t.val < 128 := t.isLt; omega⟩ s l) := by
  blk_ext [iblk1, idx1 t]

theorem blk_b (c : Dev nD) (t : Fin cfg1.N) (h : Fin 8) (r : Fin 256) (kk : Fin 768) :
    (iblk1 (V3 m ρ) c 3 t : FVec Ideal S1x8x256x768 .f32) (ix4 0 h r kk)
      = (V3 m ρ c main_v14 : FVec Ideal S3x8x256x768 .f32) (ix4 ⟨min (t.val % 8) 2, by omega⟩ h r kk) := by
  blk_ext [iblk1, idx1 t]

theorem blk_g (c : Dev nD) (t : Fin cfg1.N) (l : Fin 512) :
    (iblk1 (V3 m ρ) c 4 t : FVec Ideal S1x512 .f32) (ix2 0 l) = (V3 m ρ c main_v15 : FVec Ideal S1x512 .f32) (ix2 0 l) := by
  blk_ext [iblk1, idx1 t]

end Cert.KernelIdeal.Attn
-- ==== Proof.KernelValue.lean ====
module

public import proofs.«01_k».proof.Proof.Arrays
public import proofs.«01_k».proof.Proof.TileValue
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Attn

open Cert.KernelIdeal Cert.KernelIdeal.Gen
variable (m : (ℓ : Loc nD τ sig) → Buf (Elt Ideal) ℓ) (ρ : Dev nD → PrngReg)

/-- The row of the whole array that a band row of tile `j` is copied from. -/
def src (j : Fin 8) (kk : Fin 768) : Fin 2048 := ⟨(4 * j.val + kk.val / 64 - 8) * 64 + kk.val % 64, by omega⟩

/-- The kernel's score of a tile row and a band row. -/
def kscore (q k : FVec Ideal S16x2048x512 .f32) (rel : FVec Ideal S8x513 .f32) (b : Fin 16) (j h : Fin 8) (r : Fin 256) (kk : Fin 768) : EReal :=
  (∑ e : Fin 64, q (ix3 b ⟨256 * j.val + r.val, by omega⟩ (lane h e)) * Ideal.div (Ideal.ofBits .f32 0x3E000000#32) (Ideal.log (Ideal.ofBits .f32 0x40000000#32))
    * k (ix3 b (src j kk) (lane h e))) + biasVal rel (min j.val 2) h r kk

/-- The kernel's attention at a row and a lane, before the norm. -/
def kattn (q k v : FVec Ideal S16x2048x512 .f32) (rel : FVec Ideal S8x513 .f32) : FVec Ideal S16x2048x512 .f32 := fun i =>
  weigh (kscore q k rel (i 0) ⟨(i 1).val / 256, by have : (i 1).val < 2048 := (i 1).isLt; omega⟩ ⟨(i 2).val / 64, by have : (i 2).val < 512 := (i 2).isLt; omega⟩
      ⟨(i 1).val % 256, by omega⟩)
    (fun kk => v (ix3 (i 0) (src ⟨(i 1).val / 256, by have : (i 1).val < 2048 := (i 1).isLt; omega⟩ kk) (i 2)))

theorem kattn_apply (q k v : FVec Ideal S16x2048x512 .f32) (rel : FVec Ideal S8x513 .f32) (b : Fin 16) (j h : Fin 8) (r : Fin 256) (d : Fin 64) :
    kattn q k v rel (ix3 b ⟨256 * j.val + r.val, by omega⟩ (lane h d))
      = weigh (kscore q k rel b j h r) (fun kk => v (ix3 b (src j kk) (lane h d))) := by
  have e1 : (256 * j.val + r.val) / 256 = j.val := by omega
  have e2 : (256 * j.val + r.val) % 256 = r.val := by omega
  have e3 : (64 * h.val + d.val) / 64 = h.val := by omega
  show weigh (kscore q k rel b ⟨(256 * j.val + r.val) / 256, _⟩ ⟨(64 * h.val + d.val) / 64, _⟩ ⟨(256 * j.val + r.val) % 256, _⟩) (fun kk => v (ix3 b (src ⟨(256 * j.val + r.val) / 256, _⟩ kk) (lane h d))) = _
  simp only [e1, e2, e3, Fin.eta]

/-- The root-mean-square norm of the attention, times the gain. -/
def knorm (A : FVec Ideal S16x2048x512 .f32) (g : FVec Ideal S512 .f32) : FVec Ideal S16x2048x512 .bf16 := fun i =>
  A i * Ideal.rsqrt (Ideal.div (∑ x : Fin 512, (A (ix3 (i 0) (i 1) x) : EReal) * A (ix3 (i 0) (i 1) x)) (Ideal.ofBits .f32 0x44000000#32) + Ideal.ofBits .f32 0x358637BD#32) * g (ix1 (i 2))

/-- A tile's rows before the norm. -/
theorem rows_apply (c : Dev nD) (t : Fin cfg1.N) (r : Fin 256) (l : Fin 512) :
    rowsOut (iblk1 (V3 m ρ) c 0 t) (band t (iblk1 (V3 m ρ) c 1 t)) (band t (iblk1 (V3 m ρ) c 2 t)) (iblk1 (V3 m ρ) c 3 t) (ix2 r l)
      = kattn (arg0 m c) (arg1 m c) (arg2 m c) (arg3 m c) (ix3 ⟨t.val / 8, by have : t.val < 128 := t.isLt; omega⟩ ⟨256 * (t.val % 8) + r.val, by omega⟩ l) := by
  obtain ⟨h, d, rfl⟩ : ∃ (h : Fin 8) (d : Fin 64), l = lane h d := ⟨⟨l.val / 64, by omega⟩, ⟨l.val % 64, by omega⟩, Fin.ext (by simp only [lane]; omega)⟩
  rw [rowsOut_apply]
  refine Eq.trans ?_ (kattn_apply _ _ _ _ ⟨t.val / 8, by have : t.val < 128 := t.isLt; omega⟩ ⟨t.val % 8, by omega⟩ h r d).symm
  congr 1
  · funext kk
    unfold kscore
    refine congrArg₂ (· + ·) (Finset.sum_congr rfl fun e _ => congrArg₂ (· * ·) ?_ ?_) ?_
    · exact (blk_q m ρ c t r (lane h e)).trans (V3_v4 m ρ c _ _ _)
    · exact (blk_k m ρ c t (srcRow t kk) (lane h e)).trans (V3_v5 m ρ c _ _ _)
    · refine (blk_b m ρ c t h r kk).trans ?_
      rw [V3_v14]
      rfl
  · funext kk
    exact (blk_v m ρ c t (srcRow t kk) (lane h d)).trans (V3_v6 m ρ c _ _ _)

/-- The result array. -/
theorem result (c : Dev nD) : (dat1 (V3 m ρ) c).arrAt 5 cfg1.N = knorm (kattn (arg0 m c) (arg1 m c) (arg2 m c) (arg3 m c)) (arg4 m c) := by
  refine (dat1 (V3 m ρ) c).arrAt_eq_of_covers 5 _ (by decide +kernel) fun t _ y => ?_
  blk_simp
  rw [after1_5, outsAt_eq]
  have h0 : (y 0).val < 1 := (y 0).isLt
  have h1 : (y 1).val < 256 := (y 1).isLt
  have ey : y = (ix3 0 (y 1) (y 2) : S1x256x512.Idx) := by
    funext a
    match a with
    | ⟨0, _⟩ => exact Fin.ext (by show (y 0).val = 0; omega)
    | ⟨1, _⟩ => rfl
    | ⟨2, _⟩ => rfl
  have ei : (win1_5.blk t).view.emb y = (ix3 ⟨t.val / 8, by have : t.val < 128 := t.isLt; omega⟩ ⟨256 * (t.val % 8) + (y 1).val, by omega⟩ (y 2) : S16x2048x512.Idx) := by
    blk_ext [idx1 t]
  refine Eq.trans ?_ (congrArg (knorm (kattn (arg0 m c) (arg1 m c) (arg2 m c) (arg3 m c)) (arg4 m c)) ei).symm
  refine (congrArg (tileOut _ _ _ _ _) ey).trans ((tileOut_apply _ _ _ _ _ (y 1) (y 2)).trans ?_)
  have hr := fun x : Fin 512 => rows_apply m ρ c t (y 1) x
  exact congrArg₂ (· * ·) (congrArg₂ (· * ·) (hr (y 2)) (congrArg (fun s : EReal => Ideal.rsqrt (Ideal.div s (Ideal.ofBits .f32 0x44000000#32) + Ideal.ofBits .f32 0x358637BD#32))
    (Finset.sum_congr rfl fun x _ => congrArg₂ (· * ·) (hr x) (hr x)))) ((blk_g m ρ c t (y 2)).trans (V3_v15 m ρ c (y 2)))

end Cert.KernelIdeal.Attn
-- ==== Proof.RefSoft.lean ====
module

public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attn

open Cert.ReferenceIdeal Cert.ReferenceIdeal.Gen Cert.ReferenceIdeal.Value Idealize.ShloMosaic.StableHlo

open Idealize.ShloMosaic.ValueIdx (select_one select_zero)

/-- The largest score of each row, from a starting value. -/
def rmax (z : FVec Ideal S_ .f32) (S : FVec Ideal S16x8x32x64x576 .f32) : FVec Ideal S16x8x32x64 .f32 :=
  Host.reduce FloatOps.maximumf S z reducesTo_S16x8x32x64x576_S16x8x32x64_d4 h_S_

theorem rmax_apply (z : FVec Ideal S_ .f32) (S : FVec Ideal S16x8x32x64x576 .f32) (b : Fin 16) (h : Fin 8) (c : Fin 32) (q : Fin 64) :
    rmax z S (ix4 b h c q) = (Finset.univ : Finset (Fin 576)).fold (fun x y : EReal => max x y) (z ix0) (fun k => S (ix5 b h c q k)) := by
  have e0 : (Shape.Idx.first h_S_ : S_.Idx) = ix0 := funext fun a => a.elim0
  have e := Host.reduce_eq_fold (fun x y : EReal => max x y) S z reducesTo_S16x8x32x64x576_S16x8x32x64_d4 h_S_ (ix4 b h c q)
  rw [e0] at e
  refine Eq.trans ?_ (e.trans (Shape.ReducesTo.fold_fiber_r5_a4 _ _ (fun x y : EReal => max x y) _ _))
  rfl

/-- The exponentials of the scores, the row's largest subtracted. -/
def rexp (S : FVec Ideal S16x8x32x64x576 .f32) : FVec Ideal S16x8x32x64x576 .f32 :=
  Host.exp (subf S (broadcastInDim S16x8x32x64x576 ![0, 1, 2, 3, 4] bcast_S16x8x32x64x1_S16x8x32x64x576_0_1_2_3_4 (broadcastInDim S16x8x32x64x1 ![0, 1, 2, 3] bcast_S16x8x32x64_S16x8x32x64x1_0_1_2_3 (maximumf (broadcastInDim S16x8x32x64 ![] bcast_S_S16x8x32x64 (constant S_ .f32 0xFF800000#32)) (rmax (constant S_ .f32 0xFF800000#32) S)))))

/-- The attention output of scores and a band of values. -/
def rout (S : FVec Ideal S16x8x32x64x576 .f32) (v : FVec Ideal S16x32x576x8x64 .f32) : FVec Ideal S16x2048x512 .f32 :=
  shapeCast _ (transpose S16x32x64x8x64 [0, 1, 4, 2, 3] (Host.dotGeneral dot_S16x32x576x8x64_S16x8x32x64x576_S16x32x8x64x64_2_4_4_3_013_021 none v (Host.divf (rexp S) (broadcastInDim S16x8x32x64x576 ![0, 1, 2, 3, 4] bcast_S16x8x32x64x1_S16x8x32x64x576_0_1_2_3_4 (broadcastInDim S16x8x32x64x1 ![0, 1, 2, 3] bcast_S16x8x32x64_S16x8x32x64x1_0_1_2_3 (Host.reduceAdd (rexp S) (constant S_ .f32 0x00000000#32) reducesTo_S16x8x32x64x576_S16x8x32x64_d4 h_S_))))) transposes_S16x32x8x64x64_S16x32x64x8x64_0_1_4_2_3) shapeCasts_S16x32x64x8x64_S16x2048x512

/-- The exponential of a score less the row's largest. -/
def ex (S : FVec Ideal S16x8x32x64x576 .f32) (b : Fin 16) (h : Fin 8) (c : Fin 32) (q : Fin 64) (k : Fin 576) : EReal :=
  Ideal.exp (S (ix5 b h c q k) - Finset.univ.fold max ⊥ fun k => S (ix5 b h c q k))

theorem ofBits_negInf : Ideal.ofBits FTy.f32 0xFF800000#32 = ⊥ := by simp [Ideal.ofBits, Ideal.ieee]

/-- The scores less a row's value, or a bound if it is larger, at an index. -/
theorem less_apply (S : FVec Ideal S16x8x32x64x576 .f32) (z : FVec Ideal S_ .f32) (m : FVec Ideal S16x8x32x64 .f32) (b : Fin 16) (h : Fin 8) (c : Fin 32) (q : Fin 64) (k : Fin 576) :
    subf S (broadcastInDim S16x8x32x64x576 ![0, 1, 2, 3, 4] bcast_S16x8x32x64x1_S16x8x32x64x576_0_1_2_3_4 (broadcastInDim S16x8x32x64x1 ![0, 1, 2, 3] bcast_S16x8x32x64_S16x8x32x64x1_0_1_2_3 (maximumf (broadcastInDim S16x8x32x64 ![] bcast_S_S16x8x32x64 z) m))) (ix5 b h c q k)
      = S (ix5 b h c q k) - max (z ix0) (m (ix4 b h c q)) := by
  pointwise

theorem rexp_apply (S : FVec Ideal S16x8x32x64x576 .f32) (b : Fin 16) (h : Fin 8) (c : Fin 32) (q : Fin 64) (k : Fin 576) :
    rexp S (ix5 b h c q k) = ex S b h c q k := by
  refine (congrArg Ideal.exp (less_apply S _ _ b h c q k)).trans ?_
  rw [rmax_apply]
  have e : (constant S_ .f32 0xFF800000#32 : FVec Ideal S_ .f32) ix0 = (⊥ : EReal) := ofBits_negInf
  rw [e, max_eq_right bot_le]
  rfl

theorem rout_apply (S : FVec Ideal S16x8x32x64x576 .f32) (v : FVec Ideal S16x32x576x8x64 .f32) (b : Fin 16) (c : Fin 32) (q : Fin 64) (h : Fin 8) (d : Fin 64) :
    rout S v (ix3 b ⟨64 * c.val + q.val, by omega⟩ ⟨64 * h.val + d.val, by omega⟩)
      = ∑ k : Fin 576, v (ix5 b c k h d) * Ideal.div (ex S b h c q k) (∑ k : Fin 576, ex S b h c q k) := by
  have he := rexp_apply S
  unfold rout
  generalize rexp S = E at he ⊢
  pointwise
  have e1 : (64 * c.val + q.val) / 64 = c.val := by omega
  have e2 : (64 * c.val + q.val) % 64 = q.val := by omega
  have e3 : (64 * h.val + d.val) / 64 = h.val := by omega
  have e4 : (64 * h.val + d.val) % 64 = d.val := by omega
  simp only [e1, e2, e3, e4, Fin.eta, he]

end Cert.ReferenceIdeal.Attn
-- ==== Proof.RefValue.lean ====
module

public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attn

open Cert.ReferenceIdeal Cert.ReferenceIdeal.Gen Cert.ReferenceIdeal.Value Idealize.ShloMosaic.StableHlo

open Idealize.ShloMosaic.ValueIdx (select_one select_zero)

/-- The keys (or values) by chunk, eight chunks of zeros before the first. -/
def padded (x : FVec Ideal S16x2048x512 .f32) : FVec Ideal S16x40x64x8x64 .f32 :=
  pad S16x40x64x8x64 ![0, 8, 0, 0, 0] ![0, 0, 0, 0, 0] ![0, 0, 0, 0, 0] (shapeCast _ x shapeCasts_S16x2048x512_S16x32x64x8x64) (sitofp .f32 (constantI S_ 32 0#32)) pads_S16x32x64x8x64_S16x40x64x8x64_000_800_000_000_000 h_S_

/-- The band of nine chunks of every chunk. -/
def rband (x : FVec Ideal S16x2048x512 .f32) : FVec Ideal S16x32x576x8x64 .f32 :=
  concatenate S16x32x576x8x64 2 [⟨S16x32x64x8x64, extractStridedSlice S16x32x64x8x64 ![0, 0, 0, 0, 0] (padded x) slices_S16x40x64x8x64_S16x32x64x8x64_0_0_0_0_0⟩, ⟨S16x32x64x8x64, extractStridedSlice S16x32x64x8x64 ![0, 1, 0, 0, 0] (padded x) slices_S16x40x64x8x64_S16x32x64x8x64_0_1_0_0_0⟩, ⟨S16x32x64x8x64, extractStridedSlice S16x32x64x8x64 ![0, 2, 0, 0, 0] (padded x) slices_S16x40x64x8x64_S16x32x64x8x64_0_2_0_0_0⟩, ⟨S16x32x64x8x64, extractStridedSlice S16x32x64x8x64 ![0, 3, 0, 0, 0] (padded x) slices_S16x40x64x8x64_S16x32x64x8x64_0_3_0_0_0⟩, ⟨S16x32x64x8x64, extractStridedSlice S16x32x64x8x64 ![0, 4, 0, 0, 0] (padded x) slices_S16x40x64x8x64_S16x32x64x8x64_0_4_0_0_0⟩, ⟨S16x32x64x8x64, extractStridedSlice S16x32x64x8x64 ![0, 5, 0, 0, 0] (padded x) slices_S16x40x64x8x64_S16x32x64x8x64_0_5_0_0_0⟩, ⟨S16x32x64x8x64, extractStridedSlice S16x32x64x8x64 ![0, 6, 0, 0, 0] (padded x) slices_S16x40x64x8x64_S16x32x64x8x64_0_6_0_0_0⟩, ⟨S16x32x64x8x64, extractStridedSlice S16x32x64x8x64 ![0, 7, 0, 0, 0] (padded x) slices_S16x40x64x8x64_S16x32x64x8x64_0_7_0_0_0⟩, ⟨S16x32x64x8x64, extractStridedSlice S16x32x64x8x64 ![0, 8, 0, 0, 0] (padded x) slices_S16x40x64x8x64_S16x32x64x8x64_0_8_0_0_0⟩] concatenates_S16x32x64x8x64_S16x32x64x8x64_S16x32x64x8x64_S16x32x64x8x64_S16x32x64x8x64_S16x32x64x8x64_S16x32x64x8x64_S16x32x64x8x64_S16x32x64x8x64_S16x32x576x8x64_d2

/-- The padded array at a chunk, a row, a head and a lane. -/
theorem padded_apply (x : FVec Ideal S16x2048x512 .f32) (b : Fin 16) (c : Fin 40) (w : Fin 64) (h : Fin 8) (d : Fin 64) :
   padded x (ix5 b c w h d) = if hc : 8 ≤ c.val then x (ix3 b ⟨(c.val - 8) * 64 + w.val, by omega⟩ ⟨64 * h.val + d.val, by omega⟩) else (0 : EReal) := by
  pointwise [padded]
  have e0 : (FloatOps.sitofp FTy.f32 0#32 : Ideal .f32) = (0 : EReal) := by
    show ((BitVec.toInt 0#32 : ℝ) : EReal) = 0
    simp
  by_cases hc : 8 ≤ c.val
  · rw [dif_pos ⟨hc, by omega⟩, dif_pos hc]
    congr 2
    exact Fin.ext (by simp only; omega)
  · rw [dif_neg (fun h => hc h.1), dif_neg hc]
    exact e0

/-- The band at a chunk, a band row, a head and a lane: the array's row, or zero before the sequence's start. -/
theorem rband_apply (x : FVec Ideal S16x2048x512 .f32) (b : Fin 16) (c : Fin 32) (w : Fin 576) (h : Fin 8) (d : Fin 64) :
   rband x (ix5 b c w h d) = if hc : 8 ≤ c.val + w.val / 64 then
     x (ix3 b ⟨(c.val + w.val / 64 - 8) * 64 + w.val % 64, by omega⟩ ⟨64 * h.val + d.val, by omega⟩) else (0 : EReal) := by
  pointwise [rband]
  have key : ∀ (i : ℕ) (c' : Fin 40) (w' : Fin 64), c'.val = c.val + i → w.val = 64 * i + w'.val →
      padded x (ix5 b c' w' h d) = if hc : 8 ≤ c.val + w.val / 64 then
     x (ix3 b ⟨(c.val + w.val / 64 - 8) * 64 + w.val % 64, by omega⟩ ⟨64 * h.val + d.val, by omega⟩) else (0 : EReal) := by
    intro i c' w' h1 h2
    rw [padded_apply]
    have e1 : w.val / 64 = i := by omega
    have e2 : w.val % 64 = w'.val := by omega
    simp only [e1, e2, h1]
  split_ifs
  all_goals first
    | exact absurd rfl ‹_›
    | exact key 0 _ _ (by simp only; omega) (by simp only; omega)
    | exact key 1 _ _ (by simp only; omega) (by simp only; omega)
    | exact key 2 _ _ (by simp only; omega) (by simp only; omega)
    | exact key 3 _ _ (by simp only; omega) (by simp only; omega)
    | exact key 4 _ _ (by simp only; omega) (by simp only; omega)
    | exact key 5 _ _ (by simp only; omega) (by simp only; omega)
    | exact key 6 _ _ (by simp only; omega) (by simp only; omega)
    | exact key 7 _ _ (by simp only; omega) (by simp only; omega)
    | exact key 8 _ _ (by simp only; omega) (by simp only; omega)

/-- The band row's chunk, as the reference counts it. -/
def keyWord (k : Fin 576) : BitVec 32 := (Scalar.select
            (IntOp.andi
              (IntOp.cmpi CmpIPredicate.ne
                (if BitVec.ofNat 32 k.val = 0 then (0 : BitVec 32) else if (BitVec.ofNat 32 k.val).msb = true then -1 else 1)
                (if (64#32 : BitVec 32) = 0 then (0 : BitVec 32)
                else if BitVec.msb 64#32 = true then -1 else 1))
              (IntOp.cmpi CmpIPredicate.ne
                (IntOp.remsi ArithUnit.host (BitVec.ofNat 32 k.val) 64#32) 0#32))
            (IntOp.subi (IntOp.divsi ArithUnit.host (BitVec.ofNat 32 k.val) 64#32) 1#32)
            (IntOp.divsi ArithUnit.host (BitVec.ofNat 32 k.val) 64#32))

theorem keyWord_eq (k : Fin 576) : keyWord k = BitVec.ofNat 32 (k.val / 64) := by
  revert k
  decide +kernel

theorem chunk_word : ∀ (c : Fin 32) (a : Fin 9),
    IntOp.cmpi .sge (IntOp.addi (IntOp.subi (BitVec.ofNat 32 c.val) 8#32) (BitVec.ofNat 32 a.val)) 0#32 = if 8 ≤ c.val + a.val then 1#1 else 0#1 := by
  decide +kernel

/-- Column of the bias table at a distance: the query's row less the band row's, clipped to the table. -/
def relIdx (q : Fin 64) (k : Fin 576) : Fin 513 := ⟨min (768 + q.val - k.val) 512, by omega⟩

theorem rel_clip : ∀ p : Fin 639,
    IntOp.addi (IntOp.minsi 256#32 (IntOp.maxsi 4294967040#32 (IntOp.subi (BitVec.ofNat 32 p.val) 63#32))) 256#32
      = BitVec.ofNat 32 (min (p.val + 193) 512) := by
  decide +kernel

theorem rel_word (q : Fin 64) (k : Fin 576) :
    IntOp.addi (IntOp.minsi 256#32 (IntOp.maxsi 4294967040#32 (IntOp.subi (IntOp.addi (BitVec.ofNat 32 q.val) 512#32) (BitVec.ofNat 32 k.val)))) 256#32
      = BitVec.ofNat 32 (relIdx q k).val := by
  have e : IntOp.subi (IntOp.addi (BitVec.ofNat 32 q.val) 512#32) (BitVec.ofNat 32 k.val)
      = IntOp.subi (BitVec.ofNat 32 (q.val + 575 - k.val)) 63#32 := by
    have := q.isLt
    have := k.isLt
    show BitVec.ofNat 32 q.val + 512#32 - BitVec.ofNat 32 k.val = BitVec.ofNat 32 (q.val + 575 - k.val) - 63#32
    bv_omega
  rw [e, rel_clip ⟨q.val + 575 - k.val, by omega⟩]
  congr 1
  simp only [relIdx]
  omega

/-- The gather of the bias table's columns, at a head, a row and a band row. -/
theorem gather_apply (x : FVec Ideal S8x513 .f32) (idx : IVec S64x576x1 32) (h : Fin 8) (q : Fin 64) (k : Fin 576) :
    Host.gather gather_S8x513_S64x576x1_S8x64x576_0_1_n_n_1_2_81 x idx (ix3 h q k)
      = x (ix2 h ⟨min (idx (ix3 q k 0)).toInt.toNat 512, by omega⟩) := by
  unfold Host.gather
  congr 1
  funext a
  refine Fin.ext ?_
  set D := gather_S8x513_S64x576x1_S8x64x576_0_1_n_n_1_2_81 with hD
  show D.start (ix3 h q k) idx a + D.batchCoord (ix3 h q k) a + D.offCoord (ix3 h q k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [hD, gather_S8x513_S64x576x1_S8x64x576_0_1_n_n_1_2_81] at h)]
    unfold GatherDims.start
    rw [dif_neg (fun h => by simp [hD, gather_S8x513_S64x576x1_S8x64x576_0_1_n_n_1_2_81] at h)]
    unfold GatherDims.offCoord
    rw [dif_pos ((GatherDims.mem_sKept _ _).mpr ⟨by simp [hD, gather_S8x513_S64x576x1_S8x64x576_0_1_n_n_1_2_81], by simp [hD, gather_S8x513_S64x576x1_S8x64x576_0_1_n_n_1_2_81]⟩)]
    simp only [Nat.zero_add]
    rfl
  · rw [GatherDims.batchCoord_eq_zero _ _ _ (fun h => by simp [hD, gather_S8x513_S64x576x1_S8x64x576_0_1_n_n_1_2_81] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx (ix3 h q k) ⟨List.idxOf (1 : Fin 2) D.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl

end Cert.ReferenceIdeal.Attn
-- ==== Proof.RefScore.lean ====
module

public import proofs.«01_k».proof.Proof.RefSoft
public import proofs.«01_k».proof.Proof.RefValue
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Attn

open Cert.ReferenceIdeal Cert.ReferenceIdeal.Gen Cert.ReferenceIdeal.Value Idealize.ShloMosaic.StableHlo

open Idealize.ShloMosaic.ValueIdx (select_one select_zero)

/-- The reference's score of a row of a chunk and a band row: the scaled product plus the distance's bias, or
    minus infinity before the sequence's start. -/
def rscore (q k : FVec Ideal S16x2048x512 .f32) (rel : FVec Ideal S8x513 .f32) (b : Fin 16) (h : Fin 8) (c : Fin 32) (r : Fin 64) (w : Fin 576) : EReal :=
  if hc : 8 ≤ c.val + w.val / 64 then
    (∑ e : Fin 64, q (ix3 b ⟨64 * c.val + r.val, by omega⟩ ⟨64 * h.val + e.val, by omega⟩)
      * k (ix3 b ⟨(c.val + w.val / 64 - 8) * 64 + w.val % 64, by omega⟩ ⟨64 * h.val + e.val, by omega⟩)) * Ideal.ofBits .f32 0x3E000000#32
    + rel (ix2 h (relIdx r w))
  else ⊥

theorem v39_apply (V0 : Valuation τ sig (Elt Ideal)) (r : Fin 64) (w : Fin 576) :
    res_main_v39 V0 (ix2 r w) = BitVec.ofNat 32 (relIdx r w).val := by
  pointwise [res_main_v39]
  exact rel_word r w

theorem wrap_word : ∀ p : Fin 513, Scalar.select (IntOp.cmpi .slt (BitVec.ofNat 32 p.val) 0#32) (IntOp.addi (BitVec.ofNat 32 p.val) 513#32) (BitVec.ofNat 32 p.val) = BitVec.ofNat 32 p.val := by
  decide +kernel

theorem clamp_word : ∀ p : Fin 513, min (BitVec.ofNat 32 p.val).toInt.toNat 512 = p.val := by
  decide +kernel

theorem gather_rel (rel : FVec Ideal S8x513 .f32) (X : IVec S64x576 32) (h : Fin 8) (r : Fin 64) (w : Fin 576)
    (hX : X (ix2 r w) = BitVec.ofNat 32 (relIdx r w).val) :
    Host.gather gather_S8x513_S64x576x1_S8x64x576_0_1_n_n_1_2_81 rel
          (broadcastInDim S64x576x1 ![0, 1] bcast_S64x576_S64x576x1_0_1
            (select (cmpi CmpIPredicate.slt X (broadcastInDim S64x576 ![] bcast_S_S64x576 (constantI S_ 32 0#32)))
              (addi X (broadcastInDim S64x576 ![] bcast_S_S64x576 (constantI S_ 32 513#32))) X))
          (ix3 h r w) = rel (ix2 h (relIdx r w)) := by
  rw [gather_apply]
  congr 2
  refine Fin.ext ?_
  refine Eq.trans (congrArg (fun y : BitVec 32 => min y.toInt.toNat 512) ?_) (clamp_word (relIdx r w))
  pointwise
  rw [hX]
  exact wrap_word (relIdx r w)

theorem v63_apply (V0 : Valuation τ sig (Elt Ideal)) (b : Fin 16) (h : Fin 8) (c : Fin 32) (r : Fin 64) (w : Fin 576) :
    res_main_v63 V0 (ix5 b h c r w) = rscore (V0 (Proc.devRef .tc main_arg0)) (V0 (Proc.devRef .tc main_arg1)) (V0 (Proc.devRef .tc main_arg3)) b h c r w := by
  unfold res_main_v63
  change select _ (addf (mulf (Host.dotGeneral _ none _ (rband (V0 (Proc.devRef .tc main_arg1)))) _) _) _ _ = _
  have hk := rband_apply (V0 (Proc.devRef .tc main_arg1)) b c w h
  generalize rband (V0 (Proc.devRef .tc main_arg1)) = kk at hk ⊢
  have hx := v39_apply V0 r w
  generalize res_main_v39 V0 = X at hx ⊢
  generalize V0 (Proc.devRef .tc main_arg3) = rel
  generalize V0 (Proc.devRef .tc main_arg0) = qq
  generalize V0 (Proc.devRef .tc main_arg1) = k0 at hk ⊢
  pointwise [res_main_v55, res_main_call3_v2, res_main_call3_v0]
  refine (congrArg₂ (fun m g => Scalar.select m (_ + g) _) (show IntOp.cmpi .sge (IntOp.addi (IntOp.subi (BitVec.ofNat 32 c.val) 8#32) (keyWord w)) 0#32 = if 8 ≤ c.val + w.val / 64 then 1#1 else 0#1 from by
    rw [keyWord_eq]
    exact chunk_word c ⟨w.val / 64, by omega⟩) (gather_rel rel X h r w hx)).trans ?_
  simp only [hk]
  unfold rscore
  by_cases hc : 8 ≤ c.val + w.val / 64
  · simp only [dif_pos hc, if_pos hc]
    rw [select_one]
    simp only [Nat.mul_comm _ 64]
  · rw [if_neg hc, dif_neg hc, select_zero]
    exact ofBits_negInf

/-- The reference's attention at a row and a lane: the softmax of the scores times the band of values. -/
theorem v77_apply (V0 : Valuation τ sig (Elt Ideal)) (b : Fin 16) (c : Fin 32) (r : Fin 64) (h : Fin 8) (d : Fin 64) :
    res_main_v77 V0 (ix3 b ⟨64 * c.val + r.val, by omega⟩ ⟨64 * h.val + d.val, by omega⟩)
      = ∑ w : Fin 576, rband (V0 (Proc.devRef .tc main_arg2)) (ix5 b c w h d)
          * Ideal.div (ex (res_main_v63 V0) b h c r w) (∑ w : Fin 576, ex (res_main_v63 V0) b h c r w) := by
  rw [← rout_apply]
  rfl

/-- The reference's result at a row and a lane: the attention row's root-mean-square norm times the gain. -/
theorem norm_apply (A : FVec Ideal S16x2048x512 .f32) (g : FVec Ideal S512 .f32) (b : Fin 16) (s : Fin 2048) (l : Fin 512) :
    truncf .bf16 (mulf (mulf A (broadcastInDim S16x2048x512 ![0, 1, 2] bcast_S16x2048x1_S16x2048x512_0_1_2 (Host.rsqrt (addf (Host.divf (broadcastInDim S16x2048x1 ![0, 1] bcast_S16x2048_S16x2048x1_0_1 (Host.reduceAdd (mulf A A) (constant S_ .f32 0x00000000#32) reducesTo_S16x2048x512_S16x2048_d2 h_S_)) (broadcastInDim S16x2048x1 ![] bcast_S_S16x2048x1 (constant S_ .f32 0x44000000#32))) (broadcastInDim S16x2048x1 ![] bcast_S_S16x2048x1 (constant S_ .f32 0x358637BD#32)))))) (broadcastInDim S16x2048x512 ![0, 1, 2] bcast_S1x1x512_S16x2048x512_0_1_2 (broadcastInDim S1x1x512 ![2] bcast_S512_S1x1x512_2 g))) bitsLt_bf16_f32 (ix3 b s l)
      = A (ix3 b s l) * Ideal.rsqrt (Ideal.div (∑ x : Fin 512, A (ix3 b s x) * A (ix3 b s x)) (Ideal.ofBits FTy.f32 0x44000000#32) + Ideal.ofBits FTy.f32 0x358637BD#32) * g (ix1 l) := by
  pointwise

end Cert.ReferenceIdeal.Attn
-- ==== Proof.Softmax.lean ====
module

public import Idealize.ShloMosaic.PureOps.Ideal
public import Idealize.ShloMosaic.Lib.Pointwise

@[expose] public section

noncomputable section

open Idealize.ShloMosaic

namespace Cert.Softmax

/-- A finite sum of products with a nonnegative real factor. -/
theorem sum_mul_real {ι : Type*} (s : Finset ι) (f : ι → EReal) (c : ℝ) (hc : 0 ≤ c) : (∑ i ∈ s, f i) * (c : EReal) = ∑ i ∈ s, f i * (c : EReal) := by
  classical
  induction s using Finset.induction with
  | empty => simp
  | insert a s ha ih =>
    rw [Finset.sum_insert ha, Finset.sum_insert ha, ← ih]
    exact EReal.right_distrib_of_nonneg_of_ne_top (by exact_mod_cast hc) (EReal.coe_ne_top c) _ _

/-- A finite sum of reals. -/
theorem sum_real {ι : Type*} (s : Finset ι) (f : ι → ℝ) : ∑ i ∈ s, (f i : EReal) = ((∑ i ∈ s, f i : ℝ) : EReal) := by
  classical
  induction s using Finset.induction with
  | empty => simp
  | insert a s ha ih => rw [Finset.sum_insert ha, Finset.sum_insert ha, ih, EReal.coe_add]

/-- The largest value from minus infinity on is the supremum. -/
theorem fold_max {ι : Type*} (s : Finset ι) (f : ι → EReal) : s.fold max ⊥ f = s.sup f := rfl

/-- Sums over the wider index whose terms vanish off the narrower one. -/
theorem sum_wide {n k : ℕ} (e : Fin n → Fin k) (he : Function.Injective e) (f : Fin n → EReal) (g : Fin k → EReal)
    (h0 : ∀ i, i ∉ Set.range e → g i = 0) (h : ∀ i, f i = g (e i)) : ∑ i, g i = ∑ i, f i :=
  (Fintype.sum_of_injective e he f g h0 h).symm

/-- Softmax in base two over a wider band, masked, against softmax in base e over the window: the scores in units of the
    logarithm of two on the window, minus infinity off it. The division may stand inside or outside the sum. -/
theorem softmax_eq {n k : ℕ} (e : Fin n → Fin k) (he : Function.Injective e) (R : Fin n → EReal) (T : Fin k → EReal)
    (U : Fin n → EReal) (V : Fin k → EReal)
    (hoff : ∀ i, i ∉ Set.range e → T i = ⊥)
    (hon : ∀ w, (R w = ⊥ ∧ T (e w) = ⊥) ∨ (∃ x : ℝ, R w = x ∧ T (e w) = (((Real.log 2)⁻¹ * x : ℝ) : EReal)) ∧ U w = V (e w))
    (w₁ : Fin n) (h₁ : R w₁ ≠ ⊥) :
    Ideal.div (∑ i, Ideal.exp2 (T i - Finset.univ.fold max ⊥ T) * V i) (∑ i, Ideal.exp2 (T i - Finset.univ.fold max ⊥ T))
      = ∑ w, U w * Ideal.div (Ideal.exp (R w - Finset.univ.fold max ⊥ R)) (∑ w, Ideal.exp (R w - Finset.univ.fold max ⊥ R)) := by
  have hL : 0 < Real.log 2 := Real.log_pos (by norm_num)
  obtain ⟨w₀, -, hw₀⟩ := Finset.exists_mem_eq_sup (Finset.univ : Finset (Fin n)) ⟨w₁, Finset.mem_univ _⟩ R
  have hle : ∀ w, R w ≤ R w₀ := fun w => hw₀ ▸ Finset.le_sup (Finset.mem_univ w)
  have hne : R w₀ ≠ ⊥ := fun h => h₁ (le_bot_iff.mp (h ▸ hle w₁))
  obtain ⟨μ, hμ, hTμ⟩ : ∃ x : ℝ, R w₀ = x ∧ T (e w₀) = (((Real.log 2)⁻¹ * x : ℝ) : EReal) := by
    rcases hon w₀ with h | h
    · exact absurd h.1 hne
    · exact h.1
  have hR : Finset.univ.fold max ⊥ R = (μ : EReal) := by rw [fold_max, hw₀, hμ]
  have hT : Finset.univ.fold max ⊥ T = (((Real.log 2)⁻¹ * μ : ℝ) : EReal) := by
    rw [fold_max]
    refine le_antisymm (Finset.sup_le fun i _ => ?_) (hTμ ▸ Finset.le_sup (Finset.mem_univ (e w₀)))
    by_cases hi : i ∈ Set.range e
    · obtain ⟨w, rfl⟩ := hi
      rcases hon w with h | ⟨⟨x, hx, hx'⟩, -⟩
      · rw [h.2]
        exact bot_le
      · rw [hx']
        have hxμ : x ≤ μ := by
          have := hle w
          rw [hx, hμ] at this
          exact_mod_cast this
        exact_mod_cast mul_le_mul_of_nonneg_left hxμ (inv_nonneg.mpr hL.le)
    · rw [hoff i hi]
      exact bot_le
  rw [hR, hT]
  have key : ∀ w, ∃ p : ℝ, 0 ≤ p ∧ Ideal.exp (R w - (μ : EReal)) = (p : EReal)
      ∧ Ideal.exp2 (T (e w) - (((Real.log 2)⁻¹ * μ : ℝ) : EReal)) = (p : EReal) ∧ (p = 0 ∨ U w = V (e w)) ∧ (R w ≠ ⊥ → 0 < p) := by
    intro w
    rcases hon w with ⟨h, h'⟩ | ⟨⟨x, hx, hx'⟩, hu⟩
    · refine ⟨0, le_rfl, ?_, ?_, Or.inl rfl, fun h2 => absurd h h2⟩
      · rw [h, EReal.bot_sub, Ideal.exp_bot]
        rfl
      · rw [h', EReal.bot_sub, Ideal.exp2_bot]
        rfl
    · refine ⟨Real.exp (x - μ), (Real.exp_pos _).le, ?_, ?_, Or.inr hu, fun _ => Real.exp_pos _⟩
      · rw [hx, ← EReal.coe_sub, Ideal.exp_coe]
      · rw [hx', ← EReal.coe_sub, Ideal.exp2_coe]
        congr 1
        rw [Real.rpow_eq_pow, Real.rpow_def_of_pos (by norm_num)]
        congr 1
        field_simp
  choose p hp0 hpR hpT hpU hpos using key
  have hz : ∀ i, i ∉ Set.range e → Ideal.exp2 (T i - (((Real.log 2)⁻¹ * μ : ℝ) : EReal)) = 0 := fun i hi => by
    rw [hoff i hi, EReal.bot_sub, Ideal.exp2_bot]
  have hsum : ∑ i, Ideal.exp2 (T i - (((Real.log 2)⁻¹ * μ : ℝ) : EReal)) = ((∑ w, p w : ℝ) : EReal) := by
    rw [sum_wide e he (fun w => (p w : EReal)) _ hz (fun w => (hpT w).symm), sum_real]
  have hsumR : ∑ w, Ideal.exp (R w - (μ : EReal)) = ((∑ w, p w : ℝ) : EReal) := by
    simp only [hpR, sum_real]
  have hl : (0 : ℝ) < ∑ w, p w := Finset.sum_pos' (fun w _ => hp0 w) ⟨w₁, Finset.mem_univ _, hpos w₁ h₁⟩
  rw [hsum, hsumR, Ideal.div_coe hl.ne', sum_wide e he (fun w => (p w : EReal) * V (e w)) _ (fun i hi => by rw [hz i hi, zero_mul]) (fun w => by rw [hpT w]),
    sum_mul_real _ _ _ (by positivity)]
  refine Finset.sum_congr rfl fun w _ => ?_
  rw [hpR w, Ideal.div_coe hl.ne']
  rcases hpU w with h | h
  · rw [h]
    simp
  · rw [h, mul_comm (p w : EReal) (V (e w)), mul_assoc]

end Cert.Softmax
-- ==== Proof.Equal.lean ====
module

public import proofs.«01_k».proof.Proof.KernelValue
public import proofs.«01_k».proof.Proof.RefScore
public import proofs.«01_k».proof.Proof.Softmax
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attn

open Cert.KernelIdeal.Attn (src kscore kattn kattn_apply knorm lane biasVal sees weigh)
open Cert.ReferenceIdeal.Attn (rscore rband relIdx)

abbrev Arr : Type := FVec Ideal Cert.KernelIdeal.S16x2048x512 .f32
abbrev Rel : Type := FVec Ideal Cert.KernelIdeal.S8x513 .f32

theorem eighth : Ideal.ofBits .f32 0x3E000000#32 = ((1 / 8 : ℝ) : EReal) := by
  simp [Ideal.ofBits, Ideal.ieee]
  rw [← EReal.coe_mul]
  norm_num

theorem two : Ideal.ofBits .f32 0x40000000#32 = ((2 : ℝ) : EReal) := by
  simp [Ideal.ofBits, Ideal.ieee]
  rw [← EReal.coe_mul]
  norm_num

/-- The kernel's scale of the queries: an eighth in units of the logarithm of two. -/
theorem scale : Ideal.div (Ideal.ofBits .f32 0x3E000000#32) (Ideal.log (Ideal.ofBits .f32 0x40000000#32)) = ((1 / 8 * (Real.log 2)⁻¹ : ℝ) : EReal) := by
  have hL : Real.log 2 ≠ 0 := (Real.log_pos (by norm_num)).ne'
  rw [eighth, two, Ideal.log_coe, if_neg (by norm_num), Ideal.div_coe hL, ← EReal.coe_mul, one_div (Real.log 2)]

/-- A scaled inner product and a bias, both in units of the logarithm of two. -/
theorem log_units (f g : Fin 64 → ℝ) (a c : ℝ) : ∑ e, f e * (1 / 8 * c) * g e + a * c = c * ((∑ e, f e * g e) * (1 / 8) + a) := by
  rw [mul_add, Finset.sum_mul, Finset.mul_sum]
  exact congrArg₂ (· + ·) (Finset.sum_congr rfl fun e _ => by ring) (by ring)

/-- Row `64 qc + w` of a tile's band: the row of the window of the tile's chunk `qc`. -/
def wide (qc : Fin 4) (w : Fin 576) : Fin 768 := ⟨64 * qc.val + w.val, by omega⟩

theorem wide_inj (qc : Fin 4) : Function.Injective (wide qc) := fun a b h => by
  have := congrArg Fin.val h
  simp only [wide] at this
  exact Fin.ext (by omega)

theorem not_sees (qc : Fin 4) (n : ℕ) (r : Fin 256) (hr : r.val / 64 = qc.val) (kk : Fin 768) (hk : kk ∉ Set.range (wide qc)) : ¬ sees n r kk := by
  intro hs
  unfold sees at hs
  exact hk ⟨⟨kk.val - 64 * qc.val, by omega⟩, Fin.ext (by simp only [wide]; omega)⟩

theorem sees_wide (qc : Fin 4) (j : Fin 8) (r : Fin 256) (hr : r.val / 64 = qc.val) (w : Fin 576) :
    sees (min j.val 2) r (wide qc w) ↔ 8 ≤ 4 * j.val + qc.val + w.val / 64 := by
  unfold sees
  simp only [wide]
  omega

/-- The kernel's attention is the reference's. -/
theorem attn_eq (q k v : Arr) (rel : Rel) (q' k' : Cert.KernelIdeal.S16x2048x512.Idx → ℝ) (rel' : Cert.KernelIdeal.S8x513.Idx → ℝ)
    (hq : ∀ i, q i = (q' i : EReal)) (hk : ∀ i, k i = (k' i : EReal)) (hrel : ∀ i, rel i = (rel' i : EReal))
    (S : FVec Ideal Cert.ReferenceIdeal.S16x8x32x64x576 .f32) (hS : ∀ b h c r w, S (ix5 b h c r w) = rscore q k rel b h c r w)
    (b : Fin 16) (j : Fin 8) (qc : Fin 4) (r : Fin 64) (h : Fin 8) (d : Fin 64) :
    kattn q k v rel (ix3 b ⟨256 * j.val + (64 * qc.val + r.val), by omega⟩ (lane h d))
      = ∑ w : Fin 576, rband v (ix5 b (⟨4 * j.val + qc.val, by omega⟩ : Fin 32) w h d)
          * Ideal.div (Cert.ReferenceIdeal.Attn.ex S b h ⟨4 * j.val + qc.val, by omega⟩ r w) (∑ w : Fin 576, Cert.ReferenceIdeal.Attn.ex S b h ⟨4 * j.val + qc.val, by omega⟩ r w) := by
  refine (kattn_apply q k v rel b j h ⟨64 * qc.val + r.val, by omega⟩ d).trans ?_
  have hr : (⟨64 * qc.val + r.val, by omega⟩ : Fin 256).val / 64 = qc.val := by simp only; omega
  refine Cert.Softmax.softmax_eq (wide qc) (wide_inj qc) (fun w => S (ix5 b h (⟨4 * j.val + qc.val, by omega⟩ : Fin 32) r w)) _
    (fun w => rband v (ix5 b (⟨4 * j.val + qc.val, by omega⟩ : Fin 32) w h d)) _ ?_ ?_ ⟨512 + r.val, by omega⟩ ?_
  · intro kk hkk
    unfold kscore biasVal
    rw [if_neg (not_sees qc _ _ hr kk hkk), EReal.add_bot]
  · intro w
    by_cases hc : 8 ≤ 4 * j.val + qc.val + w.val / 64
    · refine Or.inr ⟨⟨(∑ e : Fin 64, q' (ix3 b ⟨64 * (4 * j.val + qc.val) + r.val, by omega⟩ (lane h e)) * k' (ix3 b ⟨(4 * j.val + qc.val + w.val / 64 - 8) * 64 + w.val % 64, by omega⟩ (lane h e))) * (1 / 8)
          + rel' (ix2 h (relIdx r w)), ?_, ?_⟩, ?_⟩
      · rw [hS]
        unfold rscore
        rw [dif_pos hc, eighth]
        simp only [hq, hk, hrel, ← EReal.coe_mul, Cert.Softmax.sum_real, ← EReal.coe_add]
        rfl
      · unfold kscore biasVal
        rw [if_pos ((sees_wide qc j _ hr w).mpr hc), scale]
        simp only [hq, hk, hrel, ← EReal.coe_mul, Cert.Softmax.sum_real, ← EReal.coe_add]
        congr 1
        have e1 : (⟨256 * j.val + (64 * qc.val + r.val), by omega⟩ : Fin 2048) = ⟨64 * (4 * j.val + qc.val) + r.val, by omega⟩ := Fin.ext (by simp only; omega)
        have e2 : src j (wide qc w) = ⟨(4 * j.val + qc.val + w.val / 64 - 8) * 64 + w.val % 64, by omega⟩ := Fin.ext (by simp only [src, wide]; omega)
        have e3 : (⟨min (768 + (64 * qc.val + r.val) - (wide qc w).val) 512, by omega⟩ : Fin 513) = relIdx r w := Fin.ext (by simp only [relIdx, wide]; omega)
        simp only [e1, e2, e3]
        exact log_units _ _ _ _
      · rw [Cert.ReferenceIdeal.Attn.rband_apply, dif_pos hc]
        refine congrArg v ?_
        have e2 : src j (wide qc w) = ⟨(4 * j.val + qc.val + w.val / 64 - 8) * 64 + w.val % 64, by omega⟩ := Fin.ext (by simp only [src, wide]; omega)
        rw [e2]
        rfl
    · refine Or.inl ⟨?_, ?_⟩
      · rw [hS]
        unfold rscore
        rw [dif_neg hc]
      · unfold kscore biasVal
        rw [if_neg (fun hs => hc ((sees_wide qc j _ hr w).mp hs)), EReal.add_bot]
  · refine (hS _ _ _ _ _).trans_ne ?_
    unfold rscore
    rw [dif_pos (by simp only; omega), eighth]
    simp only [hq, hk, hrel, ← EReal.coe_mul, Cert.Softmax.sum_real, ← EReal.coe_add]
    exact EReal.coe_ne_bot _

end Cert.Attn
-- ==== Proof.Results.lean ====
module

public import proofs.«01_k».proof.Pre_finite
public import proofs.«01_k».proof.Proof.Equal
public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Attn

open Cert.KernelIdeal.Attn (kattn knorm lane arg0 arg1 arg2 arg3 arg4)
open Cert.ReferenceIdeal.Value (res_main_v63 res_main_v77)

/-- The side conditions of the precondition. -/
theorem pre_facts : Cert.Pre_finite.Facts := ⟨by decide, by decide⟩

theorem posInf : Ideal.ofBits .f32 0x7F800000#32 = (⊤ : EReal) := by
  simp [Ideal.ofBits, Ideal.ieee]

/-- An extended real of magnitude below infinity is a real. -/
theorem real_of_lt (x : EReal) (h : Ideal.cmp .olt (max x (-x)) (Ideal.ofBits .f32 0x7F800000#32) = 1#1) : x = ((x.toReal : ℝ) : EReal) := by
  rw [posInf] at h
  induction x with
  | bot => simp [Ideal.cmp] at h
  | top => simp [Ideal.cmp] at h
  | coe r => rfl

/-- Entries of an array that passes the precondition's test are reals. -/
theorem real_arr (hb : Cert.Pre_finite.S_.BroadcastsInDim Cert.Pre_finite.S16x2048x512 (![] : Fin 0 → Fin Cert.Pre_finite.S16x2048x512.rank)) (a : Arr)
    (h : cmpf .olt (Host.absf a) (broadcastInDim Cert.Pre_finite.S16x2048x512 ![] hb (constant Cert.Pre_finite.S_ .f32 0x7F800000#32)) = (fun _ => 1#1)) (i) :
    a i = (((a i).toReal : ℝ) : EReal) :=
  real_of_lt _ (congrFun h i)

/-- Entries of a bias table that passes the precondition's test are reals. -/
theorem real_rel (hb : Cert.Pre_finite.S_.BroadcastsInDim Cert.Pre_finite.S8x513 (![] : Fin 0 → Fin Cert.Pre_finite.S8x513.rank)) (a : Rel)
    (h : cmpf .olt (Host.absf a) (broadcastInDim Cert.Pre_finite.S8x513 ![] hb (constant Cert.Pre_finite.S_ .f32 0x7F800000#32)) = (fun _ => 1#1)) (i) :
    a i = (((a i).toReal : ℝ) : EReal) :=
  real_of_lt _ (congrFun h i)

/-- The kernel's attention, before its normalisation, is the reference's. -/
theorem attn_arr (V0 : Valuation (Cert.ReferenceIdeal.τ) Cert.ReferenceIdeal.sig (Elt Ideal)) (q k v : Arr) (rel : Rel)
    (h0 : V0 (Proc.devRef .tc Cert.ReferenceIdeal.main_arg0) = q) (h1 : V0 (Proc.devRef .tc Cert.ReferenceIdeal.main_arg1) = k)
    (h2 : V0 (Proc.devRef .tc Cert.ReferenceIdeal.main_arg2) = v) (h3 : V0 (Proc.devRef .tc Cert.ReferenceIdeal.main_arg3) = rel)
    (hq : ∀ i, q i = (((q i).toReal : ℝ) : EReal)) (hk : ∀ i, k i = (((k i).toReal : ℝ) : EReal)) (hrel : ∀ i, rel i = (((rel i).toReal : ℝ) : EReal)) :
    kattn q k v rel = res_main_v77 V0 := by
  subst h0 h1 h2 h3
  funext i
  obtain ⟨b, s, l, rfl⟩ : ∃ (b : Fin 16) (s : Fin 2048) (l : Fin 512), i = ix3 b s l := ⟨i 0, i 1, i 2, by funext z; fin_cases z <;> rfl⟩
  obtain ⟨j, qc, r, rfl⟩ : ∃ (j : Fin 8) (qc : Fin 4) (r : Fin 64), s = ⟨256 * j.val + (64 * qc.val + r.val), by omega⟩ :=
    ⟨⟨s.val / 256, by omega⟩, ⟨s.val % 256 / 64, by omega⟩, ⟨s.val % 64, by omega⟩, Fin.ext (by simp only; omega)⟩
  obtain ⟨h, d, rfl⟩ : ∃ (h : Fin 8) (d : Fin 64), l = lane h d := ⟨⟨l.val / 64, by omega⟩, ⟨l.val % 64, by omega⟩, Fin.ext (by simp only [lane]; omega)⟩
  refine (attn_eq _ _ _ _ _ _ _ hq hk hrel (res_main_v63 V0) (fun b h c r w => Cert.ReferenceIdeal.Attn.v63_apply V0 b h c r w) b j qc r h d).trans ?_
  refine (Cert.ReferenceIdeal.Attn.v77_apply V0 b ⟨4 * j.val + qc.val, by omega⟩ r h d).symm.trans ?_
  exact congrArg (res_main_v77 V0) (congrArg (fun s => ix3 b s (lane h d)) (Fin.ext (by simp only; omega)))

end Cert.Attn
-- ==== Proof.lean ====
/- The claims of the banded attention, of the expert call and of the input projection: frames of each kernel, its idealization and its reference, the idealization itself, and equal results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelRun
public import proofs.«01_k».proof.Proof.ExpertEqual
public import proofs.«01_k».proof.Proof.MixEqual
public import proofs.«01_k».proof.Proof.Gen.Kernel2
public import proofs.«01_k».proof.Proof.Gen.Kernel2Ideal
public import proofs.«01_k».proof.Proof.Gen.Reference2Ideal
public import proofs.«01_k».proof.Proof.Results
public import proofs.«01_k».proof.Proof.Gen.ReferenceIdeal
public import proofs.«01_k».proof.Proof.Gen.ReferenceIdeal.Run
public import Idealize.ShloMosaic.Adequacy
public import Idealize.ShloMosaic.Init

@[expose] public section

set_option maxRecDepth 16384

noncomputable section

namespace Cert.Proof

open Idealize.ShloMosaic Idealize.ShloMosaic.TcCoe Idealize.ShloMosaic.StableHlo Idealize.SL.Sem

/-- The reference leaves its arguments unchanged and no semaphore counts. -/
theorem frame_reference : Cert.quiescent_ReferenceIdeal := fun m ρ _ =>
  (θ_run (Cert.ReferenceIdeal.defs (F := Ideal)) _ _).mono (fun r h => And.intro (fun c => (h c).2) (sem_eq_zero_of_no_sems (by decide) r.2))
    (Cert.ReferenceIdeal.Value.run (F := Ideal) m ρ)

/-- The idealized kernel and the reference end with the same attention. -/
theorem algebraic [hPre_finite : Cert.Pre_finite.Facts] : Cert.algebraic_KernelIdeal_ReferenceIdeal_pre_finite := by
  intro m g m' g' hpre hag
  refine ⟨fun c => Cert.KernelIdeal.Attn.knorm (Cert.KernelIdeal.Attn.kattn (Cert.KernelIdeal.Attn.arg0 m c) (Cert.KernelIdeal.Attn.arg1 m c) (Cert.KernelIdeal.Attn.arg2 m c) (Cert.KernelIdeal.Attn.arg3 m c)) (Cert.KernelIdeal.Attn.arg4 m c), ?_, ?_⟩
  · exact (θ_run Cert.KernelIdeal.defs _ _).mono (fun _ h c => ⟨(h c).1.trans (Cert.KernelIdeal.Attn.result m g c), (h c).2⟩) (Cert.KernelIdeal.Attn.run_main m g)
  · refine (θ_run Cert.ReferenceIdeal.defs _ _).mono (fun _ h c => ⟨(h c).1.trans ?_, (h c).2⟩) (Cert.ReferenceIdeal.Value.run (F := Ideal) m' g')
    obtain ⟨a0, a1, a2, a3, a4⟩ := hag c
    obtain ⟨p0, p1, p3⟩ := hpre c
    have hA := Cert.Attn.attn_arr (launchContents m' c) _ _ _ _ a0 a1 a2 a3 (Cert.Attn.real_arr _ _ p0) (Cert.Attn.real_arr _ _ p1) (Cert.Attn.real_rel _ _ p3)
    funext i
    obtain ⟨b, s, l, rfl⟩ : ∃ (b : Fin 16) (s : Fin 2048) (l : Fin 512), i = ix3 b s l := ⟨i 0, i 1, i 2, by funext z; fin_cases z <;> rfl⟩
    refine (Cert.ReferenceIdeal.Attn.norm_apply (Cert.ReferenceIdeal.Value.res_main_v77 (launchContents m' c)) (launchContents m' c (Proc.devRef .tc Cert.ReferenceIdeal.main_arg4)) b s l).trans ?_
    rw [← hA, show launchContents m' c (Proc.devRef .tc Cert.ReferenceIdeal.main_arg4) = Cert.KernelIdeal.Attn.arg4 m c from a4]
    rfl

/-- Every claim made of the three kernels, their idealizations and their references. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts, Cert.Attn.pre_facts, Cert.Expert.pre_facts,
    fun m g _ => Cert.Kernel.Gen.frame m g, fun m g _ => Cert.KernelIdeal.Gen.frame m g, fun m g _ => Cert.KernelIdeal.Gen.frame m g,
    frame_reference, fun m g _ => frame_reference m g trivial,
    @Cert.Expert.frame_kernel Cert.Expert.pre_facts, @Cert.Expert.frame_kernelIdeal Cert.Expert.pre_facts,
    Cert.Expert.frame_reference, fun m g _ => Cert.Expert.frame_reference m g trivial,
    fun m g _ => Cert.Kernel3.Gen.frame m g, fun m g _ => Cert.Kernel3Ideal.Gen.frame m g, Cert.Mix.frame_reference,
    ⟨IdealRules.named_const.statement _ _ _ _ _ rfl, IdealRules.named_const.statement _ _ _ _ _ rfl⟩,
    @algebraic Cert.Attn.pre_facts,
    trivial,
    @Cert.Expert.algebraic Cert.Expert.pre_facts,
    trivial, Cert.Mix.algebraic⟩

end Cert.Proof

end
